-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816 : Shape := ⟨2, ![1, 2816]⟩
abbrev S1x8 : Shape := ⟨2, ![1, 8]⟩
abbrev S1x512 : Shape := ⟨2, ![1, 512]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1024 : Shape := ⟨1, ![1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816 : S_.BroadcastsInDim S1x2816 (![] : Fin 0 → Fin S1x2816.rank)
  reducesTo_S1x2816_S_d0_1 : S1x2816.ReducesTo [0, 1] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_v13 : IVec S_ 1) (main_v16 : IVec S1x8 1) : IVec S_ 1 :=
  let main_c_5 : IVec S_ 1 := constantI S_ 1 1#1
  let main_v17 : IVec S_ 1 := (fun x v => Host.reduce IntOp.andi x v reducesTo_S1x8_S_d0_1 h_S_) main_v16 main_c_5
  let main_v18 : IVec S_ 1 := andi main_v13 main_v17
  main_v18

def fn {F : FTy → Type} [FloatOps F] (main_arg0 : FVec F S8x4096x1024 .f32) (main_arg1 : FVec F S1x1024 .f32) (main_arg2 : FVec F S1x1024x2816 .f32) (main_arg3 : FVec F S1x2816 .f32) (main_arg4 : FVec F S1x8 .f32) (main_arg5 : FVec F S1x512 .f32) (main_arg6 : FVec F S1x512 .f32) (main_arg7 : FVec F S1x8x128x128 .f32) (main_arg8 : FVec F S1x8x128 .f32) (main_arg9 : FVec F S1x1024x1024 .f32) (main_arg10 : FVec F S1x1024 .f32) (main_arg11 : FVec F S1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x2816 .f32 := Host.absf main_arg2
  let main_cst_0 : FVec F S_ .f32 := constant S_ .f32 0x7F800000#32
  let main_v5 : FVec F S1x1024x2816 .f32 := broadcastInDim S1x1024x2816 ![] bcast_S_S1x1024x2816 main_cst_0
  let main_v6 : IVec S1x1024x2816 1 := cmpf .olt main_v4 main_v5
  let main_c_1 : IVec S_ 1 := constantI S_ 1 1#1
  let main_v7 : IVec S_ 1 := (fun x v => Host.reduce IntOp.andi x v reducesTo_S1x1024x2816_S_d0_1_2 h_S_) main_v6 main_c_1
  let main_v8 : IVec S_ 1 := andi main_v3 main_v7
  let main_v9 : FVec F S1x2816 .f32 := Host.absf main_arg3
  let main_cst_2 : FVec F S_ .f32 := constant S_ .f32 0x7F800000#32
  let main_v10 : FVec F S1x2816 .f32 := broadcastInDim S1x2816 ![] bcast_S_S1x2816 main_cst_2
  let main_v11 : IVec S1x2816 1 := cmpf .olt main_v9 main_v10
  let main_c_3 : IVec S_ 1 := constantI S_ 1 1#1
  let main_v12 : IVec S_ 1 := (fun x v => Host.reduce IntOp.andi x v reducesTo_S1x2816_S_d0_1 h_S_) main_v11 main_c_3
  let main_v13 : IVec S_ 1 := andi main_v8 main_v12
  let main_v14 : FVec F S1x8 .f32 := Host.absf main_arg4
  let main_cst_4 : FVec F S_ .f32 := constant S_ .f32 0x7F800000#32
  let main_v15 : FVec F S1x8 .f32 := broadcastInDim S1x8 ![] bcast_S_S1x8 main_cst_4
  let main_v16 : IVec S1x8 1 := cmpf .olt main_v14 main_v15
  fn_part1 (F := F) main_v13 main_v16
-- ==== Kernel.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816 : Shape := ⟨2, ![1, 2816]⟩
abbrev S1x8 : Shape := ⟨2, ![1, 8]⟩
abbrev S1x512 : Shape := ⟨2, ![1, 512]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1024 : Shape := ⟨1, ![1024]⟩
abbrev S8 : Shape := ⟨1, ![8]⟩
abbrev S1024x2816 : Shape := ⟨2, ![1024, 2816]⟩
abbrev S2816 : Shape := ⟨1, ![2816]⟩
abbrev S512 : Shape := ⟨1, ![512]⟩
abbrev S8x128x128 : Shape := ⟨3, ![8, 128, 128]⟩
abbrev S8x128 : Shape := ⟨2, ![8, 128]⟩
abbrev S1024x1024 : Shape := ⟨2, ![1024, 1024]⟩
abbrev S8x64x2816 : Shape := ⟨3, ![8, 64, 2816]⟩
abbrev S8x64x1024 : Shape := ⟨3, ![8, 64, 1024]⟩
abbrev S1024x512 : Shape := ⟨2, ![1024, 512]⟩
abbrev S2x1152x128 : Shape := ⟨3, ![2, 1152, 128]⟩
abbrev S4x128x256 : Shape := ⟨3, ![4, 128, 256]⟩
abbrev S128x512 : Shape := ⟨2, ![128, 512]⟩
abbrev S128x128 : Shape := ⟨2, ![128, 128]⟩
abbrev S1x128x128 : Shape := ⟨3, ![1, 128, 128]⟩
abbrev S128x8 : Shape := ⟨2, ![128, 8]⟩
abbrev S128x1 : Shape := ⟨2, ![128, 1]⟩
abbrev S128x64 : Shape := ⟨2, ![128, 64]⟩
abbrev S1 : Shape := ⟨1, ![1]⟩
abbrev S_ : Shape := ⟨0, ![]⟩
abbrev S1x64x2816 : Shape := ⟨3, ![1, 64, 2816]⟩
abbrev S64x2816 : Shape := ⟨2, ![64, 2816]⟩
abbrev S1x64x1024 : Shape := ⟨3, ![1, 64, 1024]⟩
abbrev S64x1024 : Shape := ⟨2, ![64, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S512x1024 : Shape := ⟨2, ![512, 1024]⟩
abbrev S1024x256 : Shape := ⟨2, ![1024, 256]⟩
abbrev S512x256 : Shape := ⟨2, ![512, 256]⟩
abbrev S1x256 : Shape := ⟨2, ![1, 256]⟩
abbrev S1024x128 : Shape := ⟨2, ![1024, 128]⟩
abbrev S1x1024x128 : Shape := ⟨3, ![1, 1024, 128]⟩
abbrev S512x128 : Shape := ⟨2, ![512, 128]⟩
abbrev S1x256x128 : Shape := ⟨3, ![1, 256, 128]⟩
abbrev S256x128 : Shape := ⟨2, ![256, 128]⟩
abbrev S128 : Shape := ⟨1, ![128]⟩
abbrev S128x256 : Shape := ⟨2, ![128, 256]⟩
abbrev S1024x1 : Shape := ⟨2, ![1024, 1]⟩
abbrev S1x128x256 : Shape := ⟨3, ![1, 128, 256]⟩

abbrev nBuf : Space → Nat
  | .hbm => 29
  | .vmem => 26
  | .smem => 1
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x2816, .f32⟩
  | .hbm, ⟨4, _⟩ => ⟨S1x8, .f32⟩
  | .hbm, ⟨5, _⟩ => ⟨S1x512, .f32⟩
  | .hbm, ⟨6, _⟩ => ⟨S1x512, .f32⟩
  | .hbm, ⟨7, _⟩ => ⟨S1x8x128x128, .f32⟩
  | .hbm, ⟨8, _⟩ => ⟨S1x8x128, .f32⟩
  | .hbm, ⟨9, _⟩ => ⟨S1x1024x1024, .f32⟩
  | .hbm, ⟨10, _⟩ => ⟨S1x1024, .f32⟩
  | .hbm, ⟨11, _⟩ => ⟨S1024, .f32⟩
  | .hbm, ⟨12, _⟩ => ⟨S8, .f32⟩
  | .hbm, ⟨13, _⟩ => ⟨S1024, .f32⟩
  | .hbm, ⟨14, _⟩ => ⟨S1x1024, .f32⟩
  | .hbm, ⟨15, _⟩ => ⟨S1024x2816, .f32⟩
  | .hbm, ⟨16, _⟩ => ⟨S2816, .f32⟩
  | .hbm, ⟨17, _⟩ => ⟨S1x2816, .f32⟩
  | .hbm, ⟨18, _⟩ => ⟨S512, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S8x128x128, .f32⟩
  | .hbm, ⟨23, _⟩ => ⟨S8x128, .f32⟩
  | .hbm, ⟨24, _⟩ => ⟨S1024x1024, .f32⟩
  | .hbm, ⟨25, _⟩ => ⟨S1024, .f32⟩
  | .hbm, ⟨26, _⟩ => ⟨S1x1024, .f32⟩
  | .hbm, ⟨27, _⟩ => ⟨S1x1024, .f32⟩
  | .hbm, ⟨28, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x2816, .f32⟩
  | .local _ .vmem, ⟨4, _⟩ => ⟨S1x512, .f32⟩
  | .local _ .vmem, ⟨5, _⟩ => ⟨S1x512, .f32⟩
  | .local _ .vmem, ⟨6, _⟩ => ⟨S8x128x128, .f32⟩
  | .local _ .vmem, ⟨7, _⟩ => ⟨S8x128, .f32⟩
  | .local _ .vmem, ⟨8, _⟩ => ⟨S1x1024, .f32⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1024x2816, .bf16⟩
  | .local _ .vmem, ⟨13, _⟩ => ⟨S1024x1024, .bf16⟩
  | .local _ .vmem, ⟨14, _⟩ => ⟨S1x2816, .f32⟩
  | .local _ .vmem, ⟨15, _⟩ => ⟨S8x64x2816, .f32⟩
  | .local _ .vmem, ⟨16, _⟩ => ⟨S8x64x1024, .f32⟩
  | .local _ .vmem, ⟨17, _⟩ => ⟨S1024x512, .bf16⟩
  | .local _ .vmem, ⟨18, _⟩ => ⟨S2x1152x128, .bf16⟩
  | .local _ .vmem, ⟨19, _⟩ => ⟨S2x1152x128, .bf16⟩
  | .local _ .vmem, ⟨20, _⟩ => ⟨S1024x512, .f32⟩
  | .local _ .vmem, ⟨21, _⟩ => ⟨S1024x512, .bf16⟩
  | .local _ .vmem, ⟨22, _⟩ => ⟨S1024x512, .f32⟩
  | .local _ .vmem, ⟨23, _⟩ => ⟨S1024x1024, .bf16⟩
  | .local _ .vmem, ⟨24, _⟩ => ⟨S4x128x256, .bf16⟩
  | .local _ .vmem, ⟨25, _⟩ => ⟨S128x512, .f32⟩
  | .local _ .smem, ⟨0, _⟩ => ⟨S8, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_scratch12 : Ref sig .tc := ⟨.vmem, 22, rfl⟩
abbrev cc0_scratch13 : Ref sig .tc := ⟨.vmem, 23, rfl⟩
abbrev cc0_scratch14 : Ref sig .tc := ⟨.vmem, 24, rfl⟩
abbrev cc0_scratch15 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816 : Shape := ⟨2, ![1, 2816]⟩
abbrev S1x8 : Shape := ⟨2, ![1, 8]⟩
abbrev S1x512 : Shape := ⟨2, ![1, 512]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S8x4096x2816 : Shape := ⟨3, ![8, 4096, 2816]⟩
abbrev S2816 : Shape := ⟨1, ![2816]⟩
abbrev S1x1x2816 : Shape := ⟨3, ![1, 1, 2816]⟩
abbrev S8x4096x512 : Shape := ⟨3, ![8, 4096, 512]⟩
abbrev S8x4096x128 : Shape := ⟨3, ![8, 4096, 128]⟩
abbrev S8 : Shape := ⟨1, ![8]⟩
abbrev S8x32x128x2x4x64 : Shape := ⟨6, ![8, 32, 128, 2, 4, 64]⟩
abbrev S8x32x128x2x64 : Shape := ⟨5, ![8, 32, 128, 2, 64]⟩
abbrev S8x1x128x2x64 : Shape := ⟨5, ![8, 1, 128, 2, 64]⟩
abbrev S8x31x128x2x64 : Shape := ⟨5, ![8, 31, 128, 2, 64]⟩
abbrev S8x32x256x2x64 : Shape := ⟨5, ![8, 32, 256, 2, 64]⟩
abbrev S8x32x2x256x128x4 : Shape := ⟨6, ![8, 32, 2, 256, 128, 4]⟩
abbrev S8x32x2x4x128x256 : Shape := ⟨6, ![8, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x4 : Shape := ⟨2, ![2, 4]⟩
abbrev S1x1x2x4x1x1 : Shape := ⟨6, ![1, 1, 2, 4, 1, 1]⟩
abbrev S8x32x2x4x128 : Shape := ⟨5, ![8, 32, 2, 4, 128]⟩
abbrev S8x32x2x4x128x1 : Shape := ⟨6, ![8, 32, 2, 4, 128, 1]⟩
abbrev S8x32x2x64x4x128 : Shape := ⟨6, ![8, 32, 2, 64, 4, 128]⟩
abbrev S8x128x128 : Shape := ⟨3, ![8, 128, 128]⟩
abbrev S8x128 : Shape := ⟨2, ![8, 128]⟩
abbrev S512 : Shape := ⟨1, ![512]⟩
abbrev S1x1x512 : Shape := ⟨3, ![1, 1, 512]⟩
abbrev S8x32x128x8x64 : Shape := ⟨5, ![8, 32, 128, 8, 64]⟩
abbrev S128x128 : Shape := ⟨2, ![128, 128]⟩
abbrev S1x128x128 : Shape := ⟨3, ![1, 128, 128]⟩
abbrev S8x8x32x64x128 : Shape := ⟨5, ![8, 8, 32, 64, 128]⟩
abbrev S128x8 : Shape := ⟨2, ![128, 8]⟩
abbrev S1x1x128x8x1 : Shape := ⟨5, ![1, 1, 128, 8, 1]⟩
abbrev S1024x1024 : Shape := ⟨2, ![1024, 1024]⟩

abbrev nBuf : Space → Nat
  | .hbm => 249
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x2816, .f32⟩
  | 3 => ⟨S1x2816, .f32⟩
  | 4 => ⟨S1x8, .f32⟩
  | 5 => ⟨S1x512, .f32⟩
  | 6 => ⟨S1x512, .f32⟩
  | 7 => ⟨S1x8x128x128, .f32⟩
  | 8 => ⟨S1x8x128, .f32⟩
  | 9 => ⟨S1x1024x1024, .f32⟩
  | 10 => ⟨S1x1024, .f32⟩
  | 11 => ⟨S1024, .f32⟩
  | 12 => ⟨S1024, .f32⟩
  | 13 => ⟨S8x4096x1024, .f32⟩
  | 14 => ⟨S_, .f32⟩
  | 15 => ⟨S8x4096, .f32⟩
  | 16 => ⟨S8x4096x1, .f32⟩
  | 17 => ⟨S_, .f32⟩
  | 18 => ⟨S8x4096x1, .f32⟩
  | 19 => ⟨S8x4096x1, .f32⟩
  | 20 => ⟨S_, .f32⟩
  | 21 => ⟨S8x4096x1, .f32⟩
  | 22 => ⟨S8x4096x1, .f32⟩
  | 23 => ⟨S8x4096x1, .f32⟩
  | 24 => ⟨S8x4096x1024, .f32⟩
  | 25 => ⟨S8x4096x1024, .f32⟩
  | 26 => ⟨S1x1x1024, .f32⟩
  | 27 => ⟨S8x4096x1024, .f32⟩
  | 28 => ⟨S8x4096x1024, .f32⟩
  | 29 => ⟨S1024x2816, .f32⟩
  | 30 => ⟨S8x4096x2816, .f32⟩
  | 31 => ⟨S2816, .f32⟩
  | 32 => ⟨S1x1x2816, .f32⟩
  | 33 => ⟨S8x4096x2816, .f32⟩
  | 34 => ⟨S8x4096x2816, .f32⟩
  | 35 => ⟨S8x4096x512, .f32⟩
  | 36 => ⟨S8x4096x128, .f32⟩
  | 37 => ⟨S8x4096x128, .f32⟩
  | 38 => ⟨S8x4096x512, .f32⟩
  | 39 => ⟨S8x4096x512, .f32⟩
  | 40 => ⟨S8x4096x512, .f32⟩
  | 41 => ⟨S8x4096x512, .f32⟩
  | 42 => ⟨S8, .f32⟩
  | 43 => ⟨S8x32x128x2x4x64, .f32⟩
  | 44 => ⟨S8x32x128x2x64, .f32⟩
  | 45 => ⟨S8x1x128x2x64, .f32⟩
  | 46 => ⟨S_, .f32⟩
  | 47 => ⟨S8x1x128x2x64, .f32⟩
  | 48 => ⟨S8x31x128x2x64, .f32⟩
  | 49 => ⟨S8x32x128x2x64, .f32⟩
  | 50 => ⟨S8x32x256x2x64, .f32⟩
  | 51 => ⟨S8x32x128x2x64, .f32⟩
  | 52 => ⟨S8x1x128x2x64, .f32⟩
  | 53 => ⟨S_, .f32⟩
  | 54 => ⟨S8x1x128x2x64, .f32⟩
  | 55 => ⟨S8x31x128x2x64, .f32⟩
  | 56 => ⟨S8x32x128x2x64, .f32⟩
  | 57 => ⟨S8x32x256x2x64, .f32⟩
  | 58 => ⟨S8x32x2x256x128x4, .f32⟩
  | 59 => ⟨S8x32x2x4x128x256, .f32⟩
  | 60 => ⟨S_, .f32⟩
  | 61 => ⟨S8x32x2x4x128x256, .f32⟩
  | 62 => ⟨S8x32x2x4x128x256, .f32⟩
  | 63 => ⟨S128, .i32⟩
  | 64 => ⟨S128x1, .i32⟩
  | 65 => ⟨S_, .i32⟩
  | 66 => ⟨S128x1, .i32⟩
  | 67 => ⟨S128x1, .i32⟩
  | 68 => ⟨S256, .i32⟩
  | 69 => ⟨S1x256, .i32⟩
  | 70 => ⟨S128x256, .i32⟩
  | 71 => ⟨S128x256, .i32⟩
  | 72 => ⟨S128x256, .i32⟩
  | 73 => ⟨S_, .i32⟩
  | 74 => ⟨S128x256, .i32⟩
  | 75 => ⟨S128x256, .i1⟩
  | 76 => ⟨S_, .i32⟩
  | 77 => ⟨S128x256, .i32⟩
  | 78 => ⟨S128x256, .i1⟩
  | 79 => ⟨S128x256, .i1⟩
  | 80 => ⟨S32, .i32⟩
  | 81 => ⟨S32x1x1, .i32⟩
  | 82 => ⟨S_, .i32⟩
  | 83 => ⟨S32x1x1, .i32⟩
  | 84 => ⟨S32x1x1, .i32⟩
  | 85 => ⟨S_, .i32⟩
  | 86 => ⟨S32x1x1, .i32⟩
  | 87 => ⟨S32x1x1, .i32⟩
  | 88 => ⟨S1x1x256, .i32⟩
  | 89 => ⟨S32x1x256, .i32⟩
  | 90 => ⟨S32x1x256, .i32⟩
  | 91 => ⟨S32x1x256, .i32⟩
  | 92 => ⟨S1x128x256, .i1⟩
  | 93 => ⟨S_, .i32⟩
  | 94 => ⟨S32x1x256, .i32⟩
  | 95 => ⟨S32x1x256, .i1⟩
  | 96 => ⟨S32x128x256, .i1⟩
  | 97 => ⟨S32x128x256, .i1⟩
  | 98 => ⟨S32x128x256, .i1⟩
  | 99 => ⟨S1x32x1x1x128x256, .i1⟩
  | 100 => ⟨S_, .f32⟩
  | 101 => ⟨S_, .f32⟩
  | 102 => ⟨S8x32x2x4x128x256, .i1⟩
  | 103 => ⟨S8x32x2x4x128x256, .f32⟩
  | 104 => ⟨S8x32x2x4x128x256, .f32⟩
  | 105 => ⟨S2x4, .f32⟩
  | 106 => ⟨S1x1x2x4x1x1, .f32⟩
  | 107 => ⟨S_, .f32⟩
  | 108 => ⟨S8x32x2x4x128, .f32⟩
  | 109 => ⟨S8x32x2x4x128x1, .f32⟩
  | 110 => ⟨S8x32x2x4x128x1, .f32⟩
  | 111 => ⟨S8x32x2x4x128x1, .f32⟩
  | 112 => ⟨S8x32x2x4x128x256, .f32⟩
  | 113 => ⟨S8x32x2x4x128x256, .f32⟩
  | 114 => ⟨S8x32x2x4x128x256, .f32⟩
  | 115 => ⟨S_, .f32⟩
  | 116 => ⟨S8x32x2x4x128, .f32⟩
  | 117 => ⟨S8x32x2x4x128x1, .f32⟩
  | 118 => ⟨S8x32x2x4x128x1, .f32⟩
  | 119 => ⟨S8x32x2x4x128x1, .f32⟩
  | 120 => ⟨S8x32x2x4x128x1, .f32⟩
  | 121 => ⟨S8x32x2x4x128x1, .f32⟩
  | 122 => ⟨S8x32x2x4x128x256, .f32⟩
  | 123 => ⟨S8x32x2x4x128x256, .f32⟩
  | 124 => ⟨S8x32x2x64x4x128, .f32⟩
  | 125 => ⟨S8x32x128x2x4x64, .f32⟩
  | 126 => ⟨S8x4096x512, .f32⟩
  | 127 => ⟨S8x4096x512, .f32⟩
  | _ => ⟨S8x4096x1024, .f32⟩

abbrev hbmTy0_1 (i : Nat) : BufTy := match i % 128 with
  | 0 => ⟨S8x4096x512, .f32⟩
  | 1 => ⟨S_, .f32⟩
  | 2 => ⟨S8x4096x512, .f32⟩
  | 3 => ⟨S8x4096x512, .f32⟩
  | 4 => ⟨S_, .f32⟩
  | 5 => ⟨S8x4096x512, .f32⟩
  | 6 => ⟨S8x4096x512, .f32⟩
  | 7 => ⟨S8x4096x512, .f32⟩
  | 8 => ⟨S8x4096x512, .f32⟩
  | 9 => ⟨S_, .f32⟩
  | 10 => ⟨S8x4096x512, .f32⟩
  | 11 => ⟨S8x4096x512, .f32⟩
  | 12 => ⟨S_, .f32⟩
  | 13 => ⟨S8x4096x512, .f32⟩
  | 14 => ⟨S8x4096x512, .f32⟩
  | 15 => ⟨S8x4096x512, .f32⟩
  | 16 => ⟨S_, .f32⟩
  | 17 => ⟨S8x4096x512, .f32⟩
  | 18 => ⟨S8x4096x512, .f32⟩
  | 19 => ⟨S8x4096x512, .f32⟩
  | 20 => ⟨S_, .f32⟩
  | 21 => ⟨S8x4096x512, .f32⟩
  | 22 => ⟨S8x4096x512, .f32⟩
  | 23 => ⟨S_, .f32⟩
  | 24 => ⟨S8x4096x512, .f32⟩
  | 25 => ⟨S8x4096x512, .f32⟩
  | 26 => ⟨S8x4096x512, .f32⟩
  | 27 => ⟨S_, .f32⟩
  | 28 => ⟨S8x4096x512, .f32⟩
  | 29 => ⟨S8x4096x512, .f32⟩
  | 30 => ⟨S8x4096x512, .f32⟩
  | 31 => ⟨S8x128x128, .f32⟩
  | 32 => ⟨S8x128, .f32⟩
  | 33 => ⟨S512, .f32⟩
  | 34 => ⟨S512, .f32⟩
  | 35 => ⟨S_, .f32⟩
  | 36 => ⟨S8x4096, .f32⟩
  | 37 => ⟨S8x4096x1, .f32⟩
  | 38 => ⟨S_, .f32⟩
  | 39 => ⟨S8x4096x1, .f32⟩
  | 40 => ⟨S8x4096x1, .f32⟩
  | 41 => ⟨S8x4096x512, .f32⟩
  | 42 => ⟨S8x4096x512, .f32⟩
  | 43 => ⟨S8x4096x512, .f32⟩
  | 44 => ⟨S_, .f32⟩
  | 45 => ⟨S8x4096, .f32⟩
  | 46 => ⟨S8x4096x1, .f32⟩
  | 47 => ⟨S_, .f32⟩
  | 48 => ⟨S8x4096x1, .f32⟩
  | 49 => ⟨S8x4096x1, .f32⟩
  | 50 => ⟨S_, .f32⟩
  | 51 => ⟨S8x4096x1, .f32⟩
  | 52 => ⟨S8x4096x1, .f32⟩
  | 53 => ⟨S8x4096x1, .f32⟩
  | 54 => ⟨S8x4096x512, .f32⟩
  | 55 => ⟨S8x4096x512, .f32⟩
  | 56 => ⟨S1x1x512, .f32⟩
  | 57 => ⟨S8x4096x512, .f32⟩
  | 58 => ⟨S8x4096x512, .f32⟩
  | 59 => ⟨S1x1x512, .f32⟩
  | 60 => ⟨S8x4096x512, .f32⟩
  | 61 => ⟨S8x4096x512, .f32⟩
  | 62 => ⟨S8x32x128x8x64, .f32⟩
  | 63 => ⟨S_, .i1⟩
  | 64 => ⟨S128x128, .i1⟩
  | 65 => ⟨S128x128, .i32⟩
  | 66 => ⟨S_, .i32⟩
  | 67 => ⟨S128x128, .i32⟩
  | 68 => ⟨S128x128, .i32⟩
  | 69 => ⟨S128x128, .i32⟩
  | 70 => ⟨S128x128, .i1⟩
  | 71 => ⟨S_, .i1⟩
  | 72 => ⟨S128x128, .i1⟩
  | 73 => ⟨S128x128, .i1⟩
  | 74 => ⟨S1x128x128, .i1⟩
  | 75 => ⟨S_, .f32⟩
  | 76 => ⟨S8x128x128, .f32⟩
  | 77 => ⟨S8x128x128, .i1⟩
  | 78 => ⟨S8x128x128, .f32⟩
  | 79 => ⟨S8x8x32x64x128, .f32⟩
  | 80 => ⟨S8x32x128x8x64, .f32⟩
  | 81 => ⟨S128x8, .f32⟩
  | 82 => ⟨S1x1x128x8x1, .f32⟩
  | 83 => ⟨S8x32x128x8x64, .f32⟩
  | 84 => ⟨S8x32x128x8x64, .f32⟩
  | 85 => ⟨S8x4096x512, .f32⟩
  | 86 => ⟨S8x4096x512, .f32⟩
  | 87 => ⟨S8x4096x512, .f32⟩
  | 88 => ⟨S8x4096x512, .f32⟩
  | 89 => ⟨S_, .f32⟩
  | 90 => ⟨S8x4096x512, .f32⟩
  | 91 => ⟨S8x4096x512, .f32⟩
  | 92 => ⟨S_, .f32⟩
  | 93 => ⟨S8x4096x512, .f32⟩
  | 94 => ⟨S8x4096x512, .f32⟩
  | 95 => ⟨S8x4096x512, .f32⟩
  | 96 => ⟨S8x4096x512, .f32⟩
  | 97 => ⟨S8x4096x1024, .f32⟩
  | 98 => ⟨S1024x1024, .f32⟩
  | 99 => ⟨S8x4096x1024, .f32⟩
  | 100 => ⟨S8x4096x1024, .f32⟩
  | 101 => ⟨S1024, .f32⟩
  | 102 => ⟨S1x1x1024, .f32⟩
  | 103 => ⟨S8x4096x1024, .f32⟩
  | 104 => ⟨S8x4096x1024, .f32⟩
  | 105 => ⟨S8x4096x1024, .f32⟩
  | 106 => ⟨S_, .f32⟩
  | 107 => ⟨S8x4096, .f32⟩
  | 108 => ⟨S8x4096x1, .f32⟩
  | 109 => ⟨S_, .f32⟩
  | 110 => ⟨S8x4096x1, .f32⟩
  | 111 => ⟨S8x4096x1, .f32⟩
  | 112 => ⟨S_, .f32⟩
  | 113 => ⟨S8x4096x1, .f32⟩
  | 114 => ⟨S8x4096x1, .f32⟩
  | 115 => ⟨S8x4096x1, .f32⟩
  | 116 => ⟨S8x4096x1024, .f32⟩
  | 117 => ⟨S8x4096x1024, .f32⟩
  | 118 => ⟨S1x1x1024, .f32⟩
  | 119 => ⟨S8x4096x1024, .f32⟩
  | 120 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_5 : Ref sig .tc := ⟨.hbm, 73, rfl⟩
abbrev main_v54 : Ref sig .tc := ⟨.hbm, 74, rfl⟩
abbrev main_v55 : Ref sig .tc := ⟨.hbm, 75, rfl⟩
abbrev main_c_6 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_7 : Ref sig .tc := ⟨.hbm, 82, rfl⟩
abbrev main_v61 : Ref sig .tc := ⟨.hbm, 83, rfl⟩
abbrev main_v62 : Ref sig .tc := ⟨.hbm, 84, rfl⟩
abbrev main_c_8 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_9 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_10 : Ref sig .tc := ⟨.hbm, 100, rfl⟩
abbrev main_call0_v0 : Ref sig .tc := ⟨.hbm, 101, rfl⟩
abbrev main_call0_v1 : Ref sig .tc := ⟨.hbm, 102, rfl⟩
abbrev main_call0_v2 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_11 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_12 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_13 : Ref sig .tc := ⟨.hbm, 129, rfl⟩
abbrev main_v99 : Ref sig .tc := ⟨.hbm, 130, rfl⟩
abbrev main_v100 : Ref sig .tc := ⟨.hbm, 131, rfl⟩
abbrev main_cst_14 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_15 : Ref sig .tc := ⟨.hbm, 137, rfl⟩
abbrev main_v105 : Ref sig .tc := ⟨.hbm, 138, rfl⟩
abbrev main_v106 : Ref sig .tc := ⟨.hbm, 139, rfl⟩
abbrev main_cst_16 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_17 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_18 : Ref sig .tc := ⟨.hbm, 148, rfl⟩
abbrev main_v113 : Ref sig .tc := ⟨.hbm, 149, rfl⟩
abbrev main_v114 : Ref sig .tc := ⟨.hbm, 150, rfl⟩
abbrev main_cst_19 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_20 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_21 : Ref sig .tc := ⟨.hbm, 163, rfl⟩
abbrev main_v125 : Ref sig .tc := ⟨.hbm, 164, rfl⟩
abbrev main_v126 : Ref sig .tc := ⟨.hbm, 165, rfl⟩
abbrev main_cst_22 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_cst_23 : Ref sig .tc := ⟨.hbm, 172, rfl⟩
abbrev main_v132 : Ref sig .tc := ⟨.hbm, 173, rfl⟩
abbrev main_v133 : Ref sig .tc := ⟨.hbm, 174, rfl⟩
abbrev main_cst_24 : Ref sig .tc := ⟨.hbm, 175, rfl⟩
abbrev main_v134 : Ref sig .tc := ⟨.hbm, 176, rfl⟩
abbrev main_v135 : Ref sig .tc := ⟨.hbm, 177, rfl⟩
abbrev main_cst_25 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_c_26 : Ref sig .tc := ⟨.hbm, 191, rfl⟩
abbrev main_v148 : Ref sig .tc := ⟨.hbm, 192, rfl⟩
abbrev main_call1_v0 : Ref sig .tc := ⟨.hbm, 193, rfl⟩
abbrev main_call1_c : Ref sig .tc := ⟨.hbm, 194, rfl⟩
abbrev main_call1_v1 : Ref sig .tc := ⟨.hbm, 195, rfl⟩
abbrev main_call1_v2 : Ref sig .tc := ⟨.hbm, 196, rfl⟩
abbrev main_call1_v3 : Ref sig .tc := ⟨.hbm, 197, rfl⟩
abbrev main_call1_v4 : Ref sig .tc := ⟨.hbm, 198, rfl⟩
abbrev main_call1_c_0 : Ref sig .tc := ⟨.hbm, 199, rfl⟩
abbrev main_call1_v5 : Ref sig .tc := ⟨.hbm, 200, rfl⟩
abbrev main_v149 : Ref sig .tc := ⟨.hbm, 201, rfl⟩
abbrev main_v150 : Ref sig .tc := ⟨.hbm, 202, rfl⟩
abbrev main_cst_27 : Ref sig .tc := ⟨.hbm, 203, rfl⟩
abbrev main_v151 : Ref sig .tc := ⟨.hbm, 204, rfl⟩
abbrev main_call2_v0 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_cst_28 : Ref sig .tc := ⟨.hbm, 217, rfl⟩
abbrev main_v163 : Ref sig .tc := ⟨.hbm, 218, rfl⟩
abbrev main_v164 : Ref sig .tc := ⟨.hbm, 219, rfl⟩
abbrev main_cst_29 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_cst_30 : Ref sig .tc := ⟨.hbm, 234, rfl⟩
abbrev main_v178 : Ref sig .tc := ⟨.hbm, 235, rfl⟩
abbrev main_v179 : Ref sig .tc := ⟨.hbm, 236, rfl⟩
abbrev main_cst_31 : Ref sig .tc := ⟨.hbm, 237, rfl⟩
abbrev main_v180 : Ref sig .tc := ⟨.hbm, 238, rfl⟩
abbrev main_v181 : Ref sig .tc := ⟨.hbm, 239, rfl⟩
abbrev main_cst_32 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩

abbrev nD : Nat := 1
abbrev τ : Topo := Topo.v7x

variable {F : FTy → Type} [FloatOps F]
-- ==== Proof.IdealKit.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post, at any floats. -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.RDat.FramePost.arr_in h c 1 rfl).trans ((hA c 1).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_1 : ∀ t : Fin cfg0.N, cond0_1 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_1, e0, e1]
    word_cmp
   : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_2 : ∀ t : Fin cfg0.N, cond0_2 (grid0.coords t) ↔ 1 ≤ t.val % 4 :=
  (by decide +kernel : ∀ t : Fin grid0.N, cond0_2 (grid0.coords t) ↔ 1 ≤ t.val % 4)

/-! ## The kernel body on any staging memrefs: a subtype the run finds -/

/-- Each window's current staging memref at point `t`, spelled as the pipeline passes it (`bodyAt0`), and its wholeness. -/
abbrev ms0_0 (t : Fin cfg0.N) : Memref sig .tc .smem S8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2816 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024x1024 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x2816 .bf16 := Memref.whole cc0_scratch0
abbrev scM0_1 : Memref sig .tc .vmem S1024x1024 .bf16 := Memref.whole cc0_scratch1
abbrev scM0_2 : Memref sig .tc .vmem S1x2816 .f32 := Memref.whole cc0_scratch2
abbrev scM0_3 : Memref sig .tc .vmem S8x64x2816 .f32 := Memref.whole cc0_scratch3
abbrev scM0_4 : Memref sig .tc .vmem S8x64x1024 .f32 := Memref.whole cc0_scratch4
abbrev scM0_5 : Memref sig .tc .vmem S1024x512 .bf16 := Memref.whole cc0_scratch7
abbrev scM0_6 : Memref sig .tc .vmem S2x1152x128 .bf16 := Memref.whole cc0_scratch8
abbrev scM0_7 : Memref sig .tc .vmem S2x1152x128 .bf16 := Memref.whole cc0_scratch9
abbrev scM0_8 : Memref sig .tc .vmem S1024x512 .f32 := Memref.whole cc0_scratch10
abbrev scM0_9 : Memref sig .tc .vmem S1024x512 .bf16 := Memref.whole cc0_scratch11
abbrev scM0_10 : Memref sig .tc .vmem S1024x512 .f32 := Memref.whole cc0_scratch12
abbrev scM0_11 : Memref sig .tc .vmem S1024x1024 .bf16 := Memref.whole cc0_scratch13
abbrev scM0_12 : Memref sig .tc .vmem S4x128x256 .bf16 := Memref.whole cc0_scratch14
abbrev scM0_13 : Memref sig .tc .vmem S128x512 .f32 := Memref.whole cc0_scratch15
/-- The scratch `arg15` the kernel carries between points, as a view: what it holds is stated through it. -/
abbrev VS0_0 : View sig .tc .vmem S1024x2816 .bf16 := scM0_0.view
/-- The scratch `arg17` the kernel carries between points, as a view: what it holds is stated through it. -/
abbrev VS0_2 : View sig .tc .vmem S1x2816 .f32 := scM0_2.view
/-- The scratch `arg23` the kernel carries between points, as a view: what it holds is stated through it. -/
abbrev VS0_6 : View sig .tc .vmem S2x1152x128 .bf16 := scM0_6.view
/-- The scratch `arg24` the kernel carries between points, as a view: what it holds is stated through it. -/
abbrev VS0_7 : View sig .tc .vmem S2x1152x128 .bf16 := scM0_7.view
/-- The scratch `arg29` the kernel carries between points, as a view: what it holds is stated through it. -/
abbrev VS0_12 : View sig .tc .vmem S4x128x256 .bf16 := scM0_12.view
/-- The scratch `arg30` the kernel carries between points, as a view: what it holds is stated through it. -/
abbrev VS0_13 : View sig .tc .vmem S128x512 .f32 := scM0_13.view
/-- The operands left in HBM that the body copies into scratch itself, whole. -/
abbrev hbM0_0 : Memref sig .tc .hbm S1024x2816 .f32 := Memref.whole main_v3
abbrev hbM0_1 : Memref sig .tc .hbm S1024x1024 .f32 := Memref.whole main_v12
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 16 → SemLoc sig := fun j => (![SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28] : Fin 16 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0) := by
  rw [Pipeline.ownSems0_eq_of_list c osem0 [0, 1, 2, 3, 4, 5, 6, 7, 8, 9, 10, 11, 12, 13, 14, 15] (by decide) (by decide)]; rfl
/-- The HBM operands the body moves, as references: unscoped, no window's array (`Pipeline.restRefs`). -/
def H0 : Finset (Ref sig .tc) := {main_v3, main_v12}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v3) ∗ hbPt0 c hbM0_1 (V m c main_v12)) := by
  rw [BI.bigSep_eq_bigSepL_of_eq [main_v3, main_v12] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0) ∗ iprop(hbPt0 c hbM0_0 (V m c main_v3) ∗ hbPt0 c hbM0_1 (V m c main_v12))) := by
  rw [Pipeline.ΦD_eq, scopedRest0_eq, ownSems00_eq, hbmPts0_eq]; simp only [scM0_0, scM0_1, scM0_2, scM0_3, scM0_4, scM0_5, scM0_6, scM0_7, scM0_8, scM0_9, scM0_10, scM0_11, scM0_12, scM0_13, owns_whole]; try rfl

end Cert.KernelIdeal.Hand

end
-- ==== Proof.IdealMain.lean ====
module

public import proofs.«01_k».proof.Proof.IdealKit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- What the core holds around the body: every staging and scratch buffer at named contents, the sixteen copy
    counters at zero, the two weight arrays in HBM at their launch contents, and what it has still to pay. -/
def St (c : Dev nD) (arg2 : Memref sig .tc .smem S8 .f32) (arg3 : Memref sig .tc .vmem S1x1024x1024 .f32) (arg4 : Memref sig .tc .vmem S1x1024 .f32) (arg6 : Memref sig .tc .vmem S1x2816 .f32) (arg7 : Memref sig .tc .vmem S1x512 .f32) (arg8 : Memref sig .tc .vmem S1x512 .f32) (arg9 : Memref sig .tc .vmem S8x128x128 .f32) (arg10 : Memref sig .tc .vmem S8x128 .f32) (arg12 : Memref sig .tc .vmem S1x1024 .f32) (arg13 : Memref sig .tc .vmem S1x1024 .f32) (arg14 : Memref sig .tc .vmem S1x1024x1024 .f32) (arg15 : Memref sig .tc .vmem S1024x2816 .bf16) (arg16 : Memref sig .tc .vmem S1024x1024 .bf16) (arg17 : Memref sig .tc .vmem S1x2816 .f32) (arg18 : Memref sig .tc .vmem S8x64x2816 .f32) (arg19 : Memref sig .tc .vmem S8x64x1024 .f32) (arg22 : Memref sig .tc .vmem S1024x512 .bf16) (arg23 : Memref sig .tc .vmem S2x1152x128 .bf16) (arg24 : Memref sig .tc .vmem S2x1152x128 .bf16) (arg25 : Memref sig .tc .vmem S1024x512 .f32) (arg26 : Memref sig .tc .vmem S1024x512 .bf16) (arg27 : Memref sig .tc .vmem S1024x512 .f32) (arg28 : Memref sig .tc .vmem S1024x1024 .bf16) (arg29 : Memref sig .tc .vmem S4x128x256 .bf16) (arg30 : Memref sig .tc .vmem S128x512 .f32) (x2 : Vec F S8 .f32) (x3 : Vec F S1x1024x1024 .f32) (x4 : Vec F S1x1024 .f32) (x6 : Vec F S1x2816 .f32) (x7 : Vec F S1x512 .f32) (x8 : Vec F S1x512 .f32) (x9 : Vec F S8x128x128 .f32) (x10 : Vec F S8x128 .f32) (x12 : Vec F S1x1024 .f32) (x13 : Vec F S1x1024 .f32) (x14 : Vec F S1x1024x1024 .f32) (x15 : Vec F S1024x2816 .bf16) (x16 : Vec F S1024x1024 .bf16) (x17 : Vec F S1x2816 .f32) (x18 : Vec F S8x64x2816 .f32) (x19 : Vec F S8x64x1024 .f32) (x22 : Vec F S1024x512 .bf16) (x23 : Vec F S2x1152x128 .bf16) (x24 : Vec F S2x1152x128 .bf16) (x25 : Vec F S1024x512 .f32) (x26 : Vec F S1024x512 .bf16) (x27 : Vec F S1024x512 .f32) (x28 : Vec F S1024x1024 .bf16) (x29 : Vec F S4x128x256 .bf16) (x30 : Vec F S128x512 .f32) (fh0 : HbBuf0 (F := F) c hbM0_0) (fh1 : HbBuf0 (F := F) c hbM0_1) : sProp 𝕄 :=
  iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ hbPt0 c hbM0_0 fh0 ∗ hbPt0 c hbM0_1 fh1 ∗ (∃ W, owes (c : Thread nD τ) 0 W))

/-- The same after the body's main part: the output's block and the two key/value buffers at the contents `y14`,
    `y23`, `y24`, the working buffers at anything. -/
def Po (c : Dev nD) (arg2 : Memref sig .tc .smem S8 .f32) (arg3 : Memref sig .tc .vmem S1x1024x1024 .f32) (arg4 : Memref sig .tc .vmem S1x1024 .f32) (arg6 : Memref sig .tc .vmem S1x2816 .f32) (arg7 : Memref sig .tc .vmem S1x512 .f32) (arg8 : Memref sig .tc .vmem S1x512 .f32) (arg9 : Memref sig .tc .vmem S8x128x128 .f32) (arg10 : Memref sig .tc .vmem S8x128 .f32) (arg12 : Memref sig .tc .vmem S1x1024 .f32) (arg13 : Memref sig .tc .vmem S1x1024 .f32) (arg14 : Memref sig .tc .vmem S1x1024x1024 .f32) (arg15 : Memref sig .tc .vmem S1024x2816 .bf16) (arg16 : Memref sig .tc .vmem S1024x1024 .bf16) (arg17 : Memref sig .tc .vmem S1x2816 .f32) (arg18 : Memref sig .tc .vmem S8x64x2816 .f32) (arg19 : Memref sig .tc .vmem S8x64x1024 .f32) (arg22 : Memref sig .tc .vmem S1024x512 .bf16) (arg23 : Memref sig .tc .vmem S2x1152x128 .bf16) (arg24 : Memref sig .tc .vmem S2x1152x128 .bf16) (arg25 : Memref sig .tc .vmem S1024x512 .f32) (arg26 : Memref sig .tc .vmem S1024x512 .bf16) (arg27 : Memref sig .tc .vmem S1024x512 .f32) (arg28 : Memref sig .tc .vmem S1024x1024 .bf16) (arg29 : Memref sig .tc .vmem S4x128x256 .bf16) (arg30 : Memref sig .tc .vmem S128x512 .f32) (x2 : Vec F S8 .f32) (x3 : Vec F S1x1024x1024 .f32) (x4 : Vec F S1x1024 .f32) (x6 : Vec F S1x2816 .f32) (x7 : Vec F S1x512 .f32) (x8 : Vec F S1x512 .f32) (x9 : Vec F S8x128x128 .f32) (x10 : Vec F S8x128 .f32) (x12 : Vec F S1x1024 .f32) (x13 : Vec F S1x1024 .f32) (x14 : Vec F S1x1024x1024 .f32) (x15 : Vec F S1024x2816 .bf16) (x16 : Vec F S1024x1024 .bf16) (x17 : Vec F S1x2816 .f32) (x18 : Vec F S8x64x2816 .f32) (x19 : Vec F S8x64x1024 .f32) (x22 : Vec F S1024x512 .bf16) (x23 : Vec F S2x1152x128 .bf16) (x24 : Vec F S2x1152x128 .bf16) (x25 : Vec F S1024x512 .f32) (x26 : Vec F S1024x512 .bf16) (x27 : Vec F S1024x512 .f32) (x28 : Vec F S1024x1024 .bf16) (x29 : Vec F S4x128x256 .bf16) (x30 : Vec F S128x512 .f32) (y14 : Vec F S1x1024x1024 .f32) (y23 : Vec F S2x1152x128 .bf16) (y24 : Vec F S2x1152x128 .bf16) (fh0 : HbBuf0 (F := F) c hbM0_0) (fh1 : HbBuf0 (F := F) c hbM0_1) : sProp 𝕄 :=
  iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg12 fullShare x12 ∗ owns (c : Thread nD τ) arg13 fullShare x13 ∗ owns (c : Thread nD τ) arg14 fullShare y14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (∃ d, owns (c : Thread nD τ) arg22 fullShare d) ∗ owns (c : Thread nD τ) arg23 fullShare y23 ∗ owns (c : Thread nD τ) arg24 fullShare y24 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ owns (c : Thread nD τ) arg29 fullShare x29 ∗ owns (c : Thread nD τ) arg30 fullShare x30 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ hbPt0 c hbM0_0 fh0 ∗ hbPt0 c hbM0_1 fh1 ∗ (∃ W, owes (c : Thread nD τ) 0 W))

set_option maxHeartbeats 12800000 in set_option sl_exec.dmaWindow true in set_option sl_exec.dmaWindowSet true in
/-- The body after its first part, run once from any state that the first part can leave: the contents it
    leaves in the output's block and in the key and value buffers are the witness. -/
def mainRun (c : Dev nD) (i : grid0.Coords) (arg2 : Memref sig .tc .smem S8 .f32) (harg2 : arg2.IsWhole) (arg3 : Memref sig .tc .vmem S1x1024x1024 .f32) (harg3 : arg3.IsWhole) (arg4 : Memref sig .tc .vmem S1x1024 .f32) (harg4 : arg4.IsWhole) (arg6 : Memref sig .tc .vmem S1x2816 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .f32) (harg9 : arg9.IsWhole) (arg10 : Memref sig .tc .vmem S8x128 .f32) (harg10 : arg10.IsWhole) (arg12 : Memref sig .tc .vmem S1x1024 .f32) (harg12 : arg12.IsWhole) (arg13 : Memref sig .tc .vmem S1x1024 .f32) (harg13 : arg13.IsWhole) (arg14 : Memref sig .tc .vmem S1x1024x1024 .f32) (harg14 : arg14.IsWhole) (arg15 : Memref sig .tc .vmem S1024x2816 .bf16) (harg15 : arg15.IsWhole) (arg16 : Memref sig .tc .vmem S1024x1024 .bf16) (harg16 : arg16.IsWhole) (arg17 : Memref sig .tc .vmem S1x2816 .f32) (harg17 : arg17.IsWhole) (arg18 : Memref sig .tc .vmem S8x64x2816 .f32) (harg18 : arg18.IsWhole) (arg19 : Memref sig .tc .vmem S8x64x1024 .f32) (harg19 : arg19.IsWhole) (arg22 : Memref sig .tc .vmem S1024x512 .bf16) (harg22 : arg22.IsWhole) (arg23 : Memref sig .tc .vmem S2x1152x128 .bf16) (harg23 : arg23.IsWhole) (arg24 : Memref sig .tc .vmem S2x1152x128 .bf16) (harg24 : arg24.IsWhole) (arg25 : Memref sig .tc .vmem S1024x512 .f32) (harg25 : arg25.IsWhole) (arg26 : Memref sig .tc .vmem S1024x512 .bf16) (harg26 : arg26.IsWhole) (arg27 : Memref sig .tc .vmem S1024x512 .f32) (harg27 : arg27.IsWhole) (arg28 : Memref sig .tc .vmem S1024x1024 .bf16) (harg28 : arg28.IsWhole) (arg29 : Memref sig .tc .vmem S4x128x256 .bf16) (harg29 : arg29.IsWhole) (arg30 : Memref sig .tc .vmem S128x512 .f32) (harg30 : arg30.IsWhole) (x2 : Vec F S8 .f32) (x3 : Vec F S1x1024x1024 .f32) (x4 : Vec F S1x1024 .f32) (x6 : Vec F S1x2816 .f32) (x7 : Vec F S1x512 .f32) (x8 : Vec F S1x512 .f32) (x9 : Vec F S8x128x128 .f32) (x10 : Vec F S8x128 .f32) (x12 : Vec F S1x1024 .f32) (x13 : Vec F S1x1024 .f32) (x14 : Vec F S1x1024x1024 .f32) (x15 : Vec F S1024x2816 .bf16) (x16 : Vec F S1024x1024 .bf16) (x17 : Vec F S1x2816 .f32) (x18 : Vec F S8x64x2816 .f32) (x19 : Vec F S8x64x1024 .f32) (x22 : Vec F S1024x512 .bf16) (x23 : Vec F S2x1152x128 .bf16) (x24 : Vec F S2x1152x128 .bf16) (x25 : Vec F S1024x512 .f32) (x26 : Vec F S1024x512 .bf16) (x27 : Vec F S1024x512 .f32) (x28 : Vec F S1024x1024 .bf16) (x29 : Vec F S4x128x256 .bf16) (x30 : Vec F S128x512 .f32) (fh0 : HbBuf0 (F := F) c hbM0_0) (fh1 : HbBuf0 (F := F) c hbM0_1) (arg1 : BitVec 32) (v0 : IVec S128x128 32) (v2 : IVec S128x128 1) (v30 : FVec F S256x1024 .bf16) (v32 : FVec F S256x512 .f32) (v33 : Vec F S1x512 .f32) :
    Σ' (y14 : Vec F S1x1024x1024 .f32), Σ' (y23 : Vec F S2x1152x128 .bf16), { y24 : Vec F S2x1152x128 .bf16 //
      ∀ (A : sProp 𝕄) (K : PUnit → sProp 𝕄),
        (∀ Q, iprop(A ∗ (St c arg2 arg3 arg4 arg6 arg7 arg8 arg9 arg10 arg12 arg13 arg14 arg15 arg16 arg17 arg18 arg19 arg22 arg23 arg24 arg25 arg26 arg27 arg28 arg29 arg30 x2 x3 x4 x6 x7 x8 x9 x10 x12 x13 x14 x15 x16 x17 x18 x19 x22 x23 x24 x25 x26 x27 x28 x29 x30 fh0 fh1 -∗ Q ⟨arg1, v0, v2, v30, v32, v33⟩)) ⊢ wp frame (wpE (defs₀ (F := F)) Variants.none c none) Set.univ (k0_part25 i arg2 harg2 arg3 harg3 arg4 harg4 (Memref.whole main_v3) (Memref.isWhole_whole _) arg6 harg6 arg7 harg7 arg8 harg8 arg9 harg9 arg10 harg10 (Memref.whole main_v12) (Memref.isWhole_whole _) arg12 harg12 arg13 harg13 arg14 harg14 arg15 harg15 arg16 harg16 arg17 harg17 arg18 harg18 arg19 harg19 cc0_scratch5 cc0_scratch6 arg22 harg22 arg23 harg23 arg24 harg24 arg25 harg25 arg26 harg26 arg27 harg27 arg28 harg28 arg29 harg29 arg30 harg30) Q) →
        iprop(A ∗ (Po c arg2 arg3 arg4 arg6 arg7 arg8 arg9 arg10 arg12 arg13 arg14 arg15 arg16 arg17 arg18 arg19 arg22 arg23 arg24 arg25 arg26 arg27 arg28 arg29 arg30 x2 x3 x4 x6 x7 x8 x9 x10 x12 x13 x14 x15 x16 x17 x18 x19 x22 x23 x24 x25 x26 x27 x28 x29 x30 y14 y23 y24 fh0 fh1 -∗ K ⟨⟩)) ⊢ wp frame (wpE (defs₀ (F := F)) Variants.none c none) Set.univ (cc0_hybrid_layer i arg2 harg2 arg3 harg3 arg4 harg4 (Memref.whole main_v3) (Memref.isWhole_whole _) arg6 harg6 arg7 harg7 arg8 harg8 arg9 harg9 arg10 harg10 (Memref.whole main_v12) (Memref.isWhole_whole _) arg12 harg12 arg13 harg13 arg14 harg14 arg15 harg15 arg16 harg16 arg17 harg17 arg18 harg18 arg19 harg19 cc0_scratch5 cc0_scratch6 arg22 harg22 arg23 harg23 arg24 harg24 arg25 harg25 arg26 harg26 arg27 harg27 arg28 harg28 arg29 harg29 arg30 harg30) K } := by
  refine ⟨?_, ?_, ?_, fun A K hA => ?run⟩
  case run =>
    simp only [cc0_hybrid_layer_eq_skeleton]; unfold cc0_hybrid_layer_skel
    simp only [k0_part102_eq_skeleton]; unfold k0_part102_skel
    rw [wp_bind]; rw [wp_bind]
    refine (sep_mono .rfl (wand_intro ?_)).trans (hA _)
    simp only [k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton]
    unfold St Po owns
    iintro ⟨Hk, ⟨⟨%f2, %hf2, H2⟩, ⟨%f3, %hf3, H3⟩, ⟨%f4, %hf4, H4⟩, ⟨%f6, %hf6, H6⟩, ⟨%f7, %hf7, H7⟩, ⟨%f8, %hf8, H8⟩, ⟨%f9, %hf9, H9⟩, ⟨%f10, %hf10, H10⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, Hq0, Hq1, Hq2, Hq3, Hq4, Hq5, Hq6, Hq7, Hq8, Hq9, Hq10, Hq11, Hq12, Hq13, Hq14, Hq15, Hh0, Hh1, ⟨%W, HW⟩⟩⟩
    obtain rfl := harg2.eq_unread hf2; obtain rfl := harg3.eq_unread hf3; obtain rfl := harg4.eq_unread hf4; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29; obtain rfl := harg30.eq_unread hf30
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H12]
    · iexists _; isplitr; · ipureintro; exact harg12.read_unread _
      iexact H12
    isplitl [H13]
    · iexists _; isplitr; · ipureintro; exact harg13.read_unread _
      iexact H13
    isplitl [H14]
    · iexists _; isplitr; swap; · iexact H14
      ipureintro; rfl
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H22]
    · iexists _, _; isplitr; swap; · iexact H22
      ipureintro; rfl
    isplitl [H23]
    · iexists _; isplitr; swap; · iexact H23
      ipureintro; rfl
    isplitl [H24]
    · iexists _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _; isplitr; · ipureintro; exact harg29.read_unread _
      iexact H29
    isplitl [H30]
    · iexists _; isplitr; · ipureintro; exact harg30.read_unread _
      iexact H30
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.KernelIdeal.Hand

end
-- ==== Proof.IdealPreA.lean ====
module

public import proofs.«01_k».proof.Proof.IdealMain

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 64000000 in set_option sl_exec.rejoinHeartbeats 2000000 in set_option sl_exec.dmaWindow true in set_option sl_exec.dmaWindowSet true in
/-- The body's first part at the first grid point: both weights are copied in, cast and kept, the bias scaled, the halo zeroed. -/
def preA (c : Dev nD) (i : grid0.Coords) (arg2 : Memref sig .tc .smem S8 .f32) (harg2 : arg2.IsWhole) (arg3 : Memref sig .tc .vmem S1x1024x1024 .f32) (harg3 : arg3.IsWhole) (arg4 : Memref sig .tc .vmem S1x1024 .f32) (harg4 : arg4.IsWhole) (arg6 : Memref sig .tc .vmem S1x2816 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .f32) (harg9 : arg9.IsWhole) (arg10 : Memref sig .tc .vmem S8x128 .f32) (harg10 : arg10.IsWhole) (arg12 : Memref sig .tc .vmem S1x1024 .f32) (harg12 : arg12.IsWhole) (arg13 : Memref sig .tc .vmem S1x1024 .f32) (harg13 : arg13.IsWhole) (arg14 : Memref sig .tc .vmem S1x1024x1024 .f32) (harg14 : arg14.IsWhole) (arg15 : Memref sig .tc .vmem S1024x2816 .bf16) (harg15 : arg15.IsWhole) (arg16 : Memref sig .tc .vmem S1024x1024 .bf16) (harg16 : arg16.IsWhole) (arg17 : Memref sig .tc .vmem S1x2816 .f32) (harg17 : arg17.IsWhole) (arg18 : Memref sig .tc .vmem S8x64x2816 .f32) (harg18 : arg18.IsWhole) (arg19 : Memref sig .tc .vmem S8x64x1024 .f32) (harg19 : arg19.IsWhole) (arg22 : Memref sig .tc .vmem S1024x512 .bf16) (harg22 : arg22.IsWhole) (arg23 : Memref sig .tc .vmem S2x1152x128 .bf16) (harg23 : arg23.IsWhole) (arg24 : Memref sig .tc .vmem S2x1152x128 .bf16) (harg24 : arg24.IsWhole) (arg25 : Memref sig .tc .vmem S1024x512 .f32) (harg25 : arg25.IsWhole) (arg26 : Memref sig .tc .vmem S1024x512 .bf16) (harg26 : arg26.IsWhole) (arg27 : Memref sig .tc .vmem S1024x512 .f32) (harg27 : arg27.IsWhole) (arg28 : Memref sig .tc .vmem S1024x1024 .bf16) (harg28 : arg28.IsWhole) (arg29 : Memref sig .tc .vmem S4x128x256 .bf16) (harg29 : arg29.IsWhole) (arg30 : Memref sig .tc .vmem S128x512 .f32) (harg30 : arg30.IsWhole) (hc0 : cond0_0 i) (hc1 : cond0_1 i) (hc2 : ¬cond0_2 i) (x2 : Vec F S8 .f32) (x3 : Vec F S1x1024x1024 .f32) (x4 : Vec F S1x1024 .f32) (x6 : Vec F S1x2816 .f32) (x7 : Vec F S1x512 .f32) (x8 : Vec F S1x512 .f32) (x9 : Vec F S8x128x128 .f32) (x10 : Vec F S8x128 .f32) (x12 : Vec F S1x1024 .f32) (x13 : Vec F S1x1024 .f32) (x14 : Vec F S1x1024x1024 .f32) (x15 : Vec F S1024x2816 .bf16) (x16 : Vec F S1024x1024 .bf16) (x17 : Vec F S1x2816 .f32) (x18 : Vec F S8x64x2816 .f32) (x19 : Vec F S8x64x1024 .f32) (x22 : Vec F S1024x512 .bf16) (x23 : Vec F S2x1152x128 .bf16) (x24 : Vec F S2x1152x128 .bf16) (x25 : Vec F S1024x512 .f32) (x26 : Vec F S1024x512 .bf16) (x27 : Vec F S1024x512 .f32) (x28 : Vec F S1024x1024 .bf16) (x29 : Vec F S4x128x256 .bf16) (x30 : Vec F S128x512 .f32) (fh0 : HbBuf0 (F := F) c hbM0_0) (fh1 : HbBuf0 (F := F) c hbM0_1) :
    Σ' (y15 : Vec F S1024x2816 .bf16), Σ' (y16 : Vec F S1024x1024 .bf16), Σ' (y17 : Vec F S1x2816 .f32), Σ' (y18 : Vec F S8x64x2816 .f32), Σ' (y19 : Vec F S8x64x1024 .f32), Σ' (y23 : Vec F S2x1152x128 .bf16), Σ' (y24 : Vec F S2x1152x128 .bf16), Σ' (y29 : Vec F S4x128x256 .bf16), Σ' (y30 : Vec F S128x512 .f32), Σ' (arg1 : BitVec 32), Σ' (v0 : IVec S128x128 32), Σ' (v2 : IVec S128x128 1), Σ' (v30 : FVec F S256x1024 .bf16), Σ' (v32 : FVec F S256x512 .f32), { v33 : Vec F S1x512 .f32 //
      ∀ (Q : _ → sProp 𝕄), iprop(St c arg2 arg3 arg4 arg6 arg7 arg8 arg9 arg10 arg12 arg13 arg14 arg15 arg16 arg17 arg18 arg19 arg22 arg23 arg24 arg25 arg26 arg27 arg28 arg29 arg30 x2 x3 x4 x6 x7 x8 x9 x10 x12 x13 x14 x15 x16 x17 x18 x19 x22 x23 x24 x25 x26 x27 x28 x29 x30 fh0 fh1 ∗ (St c arg2 arg3 arg4 arg6 arg7 arg8 arg9 arg10 arg12 arg13 arg14 arg15 arg16 arg17 arg18 arg19 arg22 arg23 arg24 arg25 arg26 arg27 arg28 arg29 arg30 x2 x3 x4 x6 x7 x8 x9 x10 x12 x13 x14 y15 y16 y17 y18 y19 x22 y23 y24 x25 x26 x27 x28 y29 y30 fh0 fh1 -∗ Q ⟨arg1, v0, v2, v30, v32, v33⟩)) ⊢ wp frame (wpE (defs₀ (F := F)) Variants.none c none) Set.univ (k0_part25 i arg2 harg2 arg3 harg3 arg4 harg4 (Memref.whole main_v3) (Memref.isWhole_whole _) arg6 harg6 arg7 harg7 arg8 harg8 arg9 harg9 arg10 harg10 (Memref.whole main_v12) (Memref.isWhole_whole _) arg12 harg12 arg13 harg13 arg14 harg14 arg15 harg15 arg16 harg16 arg17 harg17 arg18 harg18 arg19 harg19 cc0_scratch5 cc0_scratch6 arg22 harg22 arg23 harg23 arg24 harg24 arg25 harg25 arg26 harg26 arg27 harg27 arg28 harg28 arg29 harg29 arg30 harg30) Q } := by
  refine ⟨?_, ?_, ?_, ?_, ?_, ?_, ?_, ?_, ?_, ?_, ?_, ?_, ?_, ?_, ?_, fun Q => ?run⟩
  case run =>
    simp only [k0_part25_eq_skeleton]; unfold k0_part25_skel
    simp only [k0_part24_eq_skeleton]; unfold k0_part24_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold St owns
    iintro ⟨⟨⟨%f2, %hf2, H2⟩, ⟨%f3, %hf3, H3⟩, ⟨%f4, %hf4, H4⟩, ⟨%f6, %hf6, H6⟩, ⟨%f7, %hf7, H7⟩, ⟨%f8, %hf8, H8⟩, ⟨%f9, %hf9, H9⟩, ⟨%f10, %hf10, H10⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, Hq0, Hq1, Hq2, Hq3, Hq4, Hq5, Hq6, Hq7, Hq8, Hq9, Hq10, Hq11, Hq12, Hq13, Hq14, Hq15, Hh0, Hh1, ⟨%W, HW⟩⟩, Hk⟩
    obtain rfl := harg2.eq_unread hf2; obtain rfl := harg3.eq_unread hf3; obtain rfl := harg4.eq_unread hf4; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29; obtain rfl := harg30.eq_unread hf30
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    isplitl [H22]
    · iexists _; isplitr; · ipureintro; exact harg22.read_unread _
      iexact H22
    isplitl [H23]
    · iexists _; isplitr; swap; · iexact H23
      ipureintro; rfl
    isplitl [H24]
    · iexists _; isplitr; swap; · iexact H24
      ipureintro; rfl
    isplitl [H25]
    · iexists _; isplitr; · ipureintro; exact harg25.read_unread _
      iexact H25
    isplitl [H26]
    · iexists _; isplitr; · ipureintro; exact harg26.read_unread _
      iexact H26
    isplitl [H27]
    · iexists _; isplitr; · ipureintro; exact harg27.read_unread _
      iexact H27
    isplitl [H28]
    · iexists _; isplitr; · ipureintro; exact harg28.read_unread _
      iexact H28
    isplitl [H29]
    · iexists _; isplitr; swap; · iexact H29
      ipureintro; rfl
    isplitl [H30]
    · iexists _; isplitr; swap; · iexact H30
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.KernelIdeal.Hand

end
-- ==== Proof.IdealPreBC.lean ====
module

public import proofs.«01_k».proof.Proof.IdealMain

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 12800000 in set_option sl_exec.dmaWindow true in set_option sl_exec.dmaWindowSet true in
/-- The body's first part at the first tile of a later batch row: the halo is zeroed. -/
def preB (c : Dev nD) (i : grid0.Coords) (arg2 : Memref sig .tc .smem S8 .f32) (harg2 : arg2.IsWhole) (arg3 : Memref sig .tc .vmem S1x1024x1024 .f32) (harg3 : arg3.IsWhole) (arg4 : Memref sig .tc .vmem S1x1024 .f32) (harg4 : arg4.IsWhole) (arg6 : Memref sig .tc .vmem S1x2816 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .f32) (harg9 : arg9.IsWhole) (arg10 : Memref sig .tc .vmem S8x128 .f32) (harg10 : arg10.IsWhole) (arg12 : Memref sig .tc .vmem S1x1024 .f32) (harg12 : arg12.IsWhole) (arg13 : Memref sig .tc .vmem S1x1024 .f32) (harg13 : arg13.IsWhole) (arg14 : Memref sig .tc .vmem S1x1024x1024 .f32) (harg14 : arg14.IsWhole) (arg15 : Memref sig .tc .vmem S1024x2816 .bf16) (harg15 : arg15.IsWhole) (arg16 : Memref sig .tc .vmem S1024x1024 .bf16) (harg16 : arg16.IsWhole) (arg17 : Memref sig .tc .vmem S1x2816 .f32) (harg17 : arg17.IsWhole) (arg18 : Memref sig .tc .vmem S8x64x2816 .f32) (harg18 : arg18.IsWhole) (arg19 : Memref sig .tc .vmem S8x64x1024 .f32) (harg19 : arg19.IsWhole) (arg22 : Memref sig .tc .vmem S1024x512 .bf16) (harg22 : arg22.IsWhole) (arg23 : Memref sig .tc .vmem S2x1152x128 .bf16) (harg23 : arg23.IsWhole) (arg24 : Memref sig .tc .vmem S2x1152x128 .bf16) (harg24 : arg24.IsWhole) (arg25 : Memref sig .tc .vmem S1024x512 .f32) (harg25 : arg25.IsWhole) (arg26 : Memref sig .tc .vmem S1024x512 .bf16) (harg26 : arg26.IsWhole) (arg27 : Memref sig .tc .vmem S1024x512 .f32) (harg27 : arg27.IsWhole) (arg28 : Memref sig .tc .vmem S1024x1024 .bf16) (harg28 : arg28.IsWhole) (arg29 : Memref sig .tc .vmem S4x128x256 .bf16) (harg29 : arg29.IsWhole) (arg30 : Memref sig .tc .vmem S128x512 .f32) (harg30 : arg30.IsWhole) (hc0 : ¬cond0_0 i) (hc1 : cond0_1 i) (hc2 : ¬cond0_2 i) (x2 : Vec F S8 .f32) (x3 : Vec F S1x1024x1024 .f32) (x4 : Vec F S1x1024 .f32) (x6 : Vec F S1x2816 .f32) (x7 : Vec F S1x512 .f32) (x8 : Vec F S1x512 .f32) (x9 : Vec F S8x128x128 .f32) (x10 : Vec F S8x128 .f32) (x12 : Vec F S1x1024 .f32) (x13 : Vec F S1x1024 .f32) (x14 : Vec F S1x1024x1024 .f32) (x15 : Vec F S1024x2816 .bf16) (x16 : Vec F S1024x1024 .bf16) (x17 : Vec F S1x2816 .f32) (x18 : Vec F S8x64x2816 .f32) (x19 : Vec F S8x64x1024 .f32) (x22 : Vec F S1024x512 .bf16) (x23 : Vec F S2x1152x128 .bf16) (x24 : Vec F S2x1152x128 .bf16) (x25 : Vec F S1024x512 .f32) (x26 : Vec F S1024x512 .bf16) (x27 : Vec F S1024x512 .f32) (x28 : Vec F S1024x1024 .bf16) (x29 : Vec F S4x128x256 .bf16) (x30 : Vec F S128x512 .f32) (fh0 : HbBuf0 (F := F) c hbM0_0) (fh1 : HbBuf0 (F := F) c hbM0_1) :
    Σ' (y23 : Vec F S2x1152x128 .bf16), Σ' (y24 : Vec F S2x1152x128 .bf16), Σ' (arg1 : BitVec 32), Σ' (v0 : IVec S128x128 32), Σ' (v2 : IVec S128x128 1), Σ' (v30 : FVec F S256x1024 .bf16), Σ' (v32 : FVec F S256x512 .f32), { v33 : Vec F S1x512 .f32 //
      ∀ (Q : _ → sProp 𝕄), iprop(St c arg2 arg3 arg4 arg6 arg7 arg8 arg9 arg10 arg12 arg13 arg14 arg15 arg16 arg17 arg18 arg19 arg22 arg23 arg24 arg25 arg26 arg27 arg28 arg29 arg30 x2 x3 x4 x6 x7 x8 x9 x10 x12 x13 x14 x15 x16 x17 x18 x19 x22 x23 x24 x25 x26 x27 x28 x29 x30 fh0 fh1 ∗ (St c arg2 arg3 arg4 arg6 arg7 arg8 arg9 arg10 arg12 arg13 arg14 arg15 arg16 arg17 arg18 arg19 arg22 arg23 arg24 arg25 arg26 arg27 arg28 arg29 arg30 x2 x3 x4 x6 x7 x8 x9 x10 x12 x13 x14 x15 x16 x17 x18 x19 x22 y23 y24 x25 x26 x27 x28 x29 x30 fh0 fh1 -∗ Q ⟨arg1, v0, v2, v30, v32, v33⟩)) ⊢ wp frame (wpE (defs₀ (F := F)) Variants.none c none) Set.univ (k0_part25 i arg2 harg2 arg3 harg3 arg4 harg4 (Memref.whole main_v3) (Memref.isWhole_whole _) arg6 harg6 arg7 harg7 arg8 harg8 arg9 harg9 arg10 harg10 (Memref.whole main_v12) (Memref.isWhole_whole _) arg12 harg12 arg13 harg13 arg14 harg14 arg15 harg15 arg16 harg16 arg17 harg17 arg18 harg18 arg19 harg19 cc0_scratch5 cc0_scratch6 arg22 harg22 arg23 harg23 arg24 harg24 arg25 harg25 arg26 harg26 arg27 harg27 arg28 harg28 arg29 harg29 arg30 harg30) Q } := by
  refine ⟨?_, ?_, ?_, ?_, ?_, ?_, ?_, ?_, fun Q => ?run⟩
  case run =>
    simp only [k0_part25_eq_skeleton]; unfold k0_part25_skel
    unfold St owns
    iintro ⟨⟨⟨%f2, %hf2, H2⟩, ⟨%f3, %hf3, H3⟩, ⟨%f4, %hf4, H4⟩, ⟨%f6, %hf6, H6⟩, ⟨%f7, %hf7, H7⟩, ⟨%f8, %hf8, H8⟩, ⟨%f9, %hf9, H9⟩, ⟨%f10, %hf10, H10⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, Hq0, Hq1, Hq2, Hq3, Hq4, Hq5, Hq6, Hq7, Hq8, Hq9, Hq10, Hq11, Hq12, Hq13, Hq14, Hq15, Hh0, Hh1, ⟨%W, HW⟩⟩, Hk⟩
    obtain rfl := harg2.eq_unread hf2; obtain rfl := harg3.eq_unread hf3; obtain rfl := harg4.eq_unread hf4; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29; obtain rfl := harg30.eq_unread hf30
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H22]
    · iexists _; isplitr; · ipureintro; exact harg22.read_unread _
      iexact H22
    isplitl [H23]
    · iexists _; isplitr; swap; · iexact H23
      ipureintro; rfl
    isplitl [H24]
    · iexists _; isplitr; swap; · iexact H24
      ipureintro; rfl
    isplitl [H25]
    · iexists _; isplitr; · ipureintro; exact harg25.read_unread _
      iexact H25
    isplitl [H26]
    · iexists _; isplitr; · ipureintro; exact harg26.read_unread _
      iexact H26
    isplitl [H27]
    · iexists _; isplitr; · ipureintro; exact harg27.read_unread _
      iexact H27
    isplitl [H28]
    · iexists _; isplitr; · ipureintro; exact harg28.read_unread _
      iexact H28
    isplitl [H29]
    · iexists _; isplitr; · ipureintro; exact harg29.read_unread _
      iexact H29
    isplitl [H30]
    · iexists _; isplitr; · ipureintro; exact harg30.read_unread _
      iexact H30
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

set_option maxHeartbeats 12800000 in set_option sl_exec.dmaWindow true in set_option sl_exec.dmaWindowSet true in
/-- The body's first part at any other tile: the last keys and values become the halo. -/
def preC (c : Dev nD) (i : grid0.Coords) (arg2 : Memref sig .tc .smem S8 .f32) (harg2 : arg2.IsWhole) (arg3 : Memref sig .tc .vmem S1x1024x1024 .f32) (harg3 : arg3.IsWhole) (arg4 : Memref sig .tc .vmem S1x1024 .f32) (harg4 : arg4.IsWhole) (arg6 : Memref sig .tc .vmem S1x2816 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .f32) (harg9 : arg9.IsWhole) (arg10 : Memref sig .tc .vmem S8x128 .f32) (harg10 : arg10.IsWhole) (arg12 : Memref sig .tc .vmem S1x1024 .f32) (harg12 : arg12.IsWhole) (arg13 : Memref sig .tc .vmem S1x1024 .f32) (harg13 : arg13.IsWhole) (arg14 : Memref sig .tc .vmem S1x1024x1024 .f32) (harg14 : arg14.IsWhole) (arg15 : Memref sig .tc .vmem S1024x2816 .bf16) (harg15 : arg15.IsWhole) (arg16 : Memref sig .tc .vmem S1024x1024 .bf16) (harg16 : arg16.IsWhole) (arg17 : Memref sig .tc .vmem S1x2816 .f32) (harg17 : arg17.IsWhole) (arg18 : Memref sig .tc .vmem S8x64x2816 .f32) (harg18 : arg18.IsWhole) (arg19 : Memref sig .tc .vmem S8x64x1024 .f32) (harg19 : arg19.IsWhole) (arg22 : Memref sig .tc .vmem S1024x512 .bf16) (harg22 : arg22.IsWhole) (arg23 : Memref sig .tc .vmem S2x1152x128 .bf16) (harg23 : arg23.IsWhole) (arg24 : Memref sig .tc .vmem S2x1152x128 .bf16) (harg24 : arg24.IsWhole) (arg25 : Memref sig .tc .vmem S1024x512 .f32) (harg25 : arg25.IsWhole) (arg26 : Memref sig .tc .vmem S1024x512 .bf16) (harg26 : arg26.IsWhole) (arg27 : Memref sig .tc .vmem S1024x512 .f32) (harg27 : arg27.IsWhole) (arg28 : Memref sig .tc .vmem S1024x1024 .bf16) (harg28 : arg28.IsWhole) (arg29 : Memref sig .tc .vmem S4x128x256 .bf16) (harg29 : arg29.IsWhole) (arg30 : Memref sig .tc .vmem S128x512 .f32) (harg30 : arg30.IsWhole) (hc0 : ¬cond0_0 i) (hc1 : ¬cond0_1 i) (hc2 : cond0_2 i) (x2 : Vec F S8 .f32) (x3 : Vec F S1x1024x1024 .f32) (x4 : Vec F S1x1024 .f32) (x6 : Vec F S1x2816 .f32) (x7 : Vec F S1x512 .f32) (x8 : Vec F S1x512 .f32) (x9 : Vec F S8x128x128 .f32) (x10 : Vec F S8x128 .f32) (x12 : Vec F S1x1024 .f32) (x13 : Vec F S1x1024 .f32) (x14 : Vec F S1x1024x1024 .f32) (x15 : Vec F S1024x2816 .bf16) (x16 : Vec F S1024x1024 .bf16) (x17 : Vec F S1x2816 .f32) (x18 : Vec F S8x64x2816 .f32) (x19 : Vec F S8x64x1024 .f32) (x22 : Vec F S1024x512 .bf16) (x23 : Vec F S2x1152x128 .bf16) (x24 : Vec F S2x1152x128 .bf16) (x25 : Vec F S1024x512 .f32) (x26 : Vec F S1024x512 .bf16) (x27 : Vec F S1024x512 .f32) (x28 : Vec F S1024x1024 .bf16) (x29 : Vec F S4x128x256 .bf16) (x30 : Vec F S128x512 .f32) (fh0 : HbBuf0 (F := F) c hbM0_0) (fh1 : HbBuf0 (F := F) c hbM0_1) :
    Σ' (y23 : Vec F S2x1152x128 .bf16), Σ' (y24 : Vec F S2x1152x128 .bf16), Σ' (arg1 : BitVec 32), Σ' (v0 : IVec S128x128 32), Σ' (v2 : IVec S128x128 1), Σ' (v30 : FVec F S256x1024 .bf16), Σ' (v32 : FVec F S256x512 .f32), { v33 : Vec F S1x512 .f32 //
      ∀ (Q : _ → sProp 𝕄), iprop(St c arg2 arg3 arg4 arg6 arg7 arg8 arg9 arg10 arg12 arg13 arg14 arg15 arg16 arg17 arg18 arg19 arg22 arg23 arg24 arg25 arg26 arg27 arg28 arg29 arg30 x2 x3 x4 x6 x7 x8 x9 x10 x12 x13 x14 x15 x16 x17 x18 x19 x22 x23 x24 x25 x26 x27 x28 x29 x30 fh0 fh1 ∗ (St c arg2 arg3 arg4 arg6 arg7 arg8 arg9 arg10 arg12 arg13 arg14 arg15 arg16 arg17 arg18 arg19 arg22 arg23 arg24 arg25 arg26 arg27 arg28 arg29 arg30 x2 x3 x4 x6 x7 x8 x9 x10 x12 x13 x14 x15 x16 x17 x18 x19 x22 y23 y24 x25 x26 x27 x28 x29 x30 fh0 fh1 -∗ Q ⟨arg1, v0, v2, v30, v32, v33⟩)) ⊢ wp frame (wpE (defs₀ (F := F)) Variants.none c none) Set.univ (k0_part25 i arg2 harg2 arg3 harg3 arg4 harg4 (Memref.whole main_v3) (Memref.isWhole_whole _) arg6 harg6 arg7 harg7 arg8 harg8 arg9 harg9 arg10 harg10 (Memref.whole main_v12) (Memref.isWhole_whole _) arg12 harg12 arg13 harg13 arg14 harg14 arg15 harg15 arg16 harg16 arg17 harg17 arg18 harg18 arg19 harg19 cc0_scratch5 cc0_scratch6 arg22 harg22 arg23 harg23 arg24 harg24 arg25 harg25 arg26 harg26 arg27 harg27 arg28 harg28 arg29 harg29 arg30 harg30) Q } := by
  refine ⟨?_, ?_, ?_, ?_, ?_, ?_, ?_, ?_, fun Q => ?run⟩
  case run =>
    simp only [k0_part25_eq_skeleton]; unfold k0_part25_skel
    unfold St owns
    iintro ⟨⟨⟨%f2, %hf2, H2⟩, ⟨%f3, %hf3, H3⟩, ⟨%f4, %hf4, H4⟩, ⟨%f6, %hf6, H6⟩, ⟨%f7, %hf7, H7⟩, ⟨%f8, %hf8, H8⟩, ⟨%f9, %hf9, H9⟩, ⟨%f10, %hf10, H10⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, Hq0, Hq1, Hq2, Hq3, Hq4, Hq5, Hq6, Hq7, Hq8, Hq9, Hq10, Hq11, Hq12, Hq13, Hq14, Hq15, Hh0, Hh1, ⟨%W, HW⟩⟩, Hk⟩
    obtain rfl := harg2.eq_unread hf2; obtain rfl := harg3.eq_unread hf3; obtain rfl := harg4.eq_unread hf4; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29; obtain rfl := harg30.eq_unread hf30
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H22]
    · iexists _; isplitr; · ipureintro; exact harg22.read_unread _
      iexact H22
    isplitl [H23]
    · iexists _; isplitr; swap; · iexact H23
      ipureintro; rfl
    isplitl [H24]
    · iexists _; isplitr; swap; · iexact H24
      ipureintro; rfl
    isplitl [H25]
    · iexists _; isplitr; · ipureintro; exact harg25.read_unread _
      iexact H25
    isplitl [H26]
    · iexists _; isplitr; · ipureintro; exact harg26.read_unread _
      iexact H26
    isplitl [H27]
    · iexists _; isplitr; · ipureintro; exact harg27.read_unread _
      iexact H27
    isplitl [H28]
    · iexists _; isplitr; · ipureintro; exact harg28.read_unread _
      iexact H28
    isplitl [H29]
    · iexists _; isplitr; · ipureintro; exact harg29.read_unread _
      iexact H29
    isplitl [H30]
    · iexists _; isplitr; · ipureintro; exact harg30.read_unread _
      iexact H30
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.KernelIdeal.Hand

end
-- ==== Proof.IdealFrame.lean ====
module

public import proofs.«01_k».proof.Proof.IdealPreA
public import proofs.«01_k».proof.Proof.IdealPreBC
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The output's block, of which the frame names nothing. -/
def forgets : Fin 11 → Bool := fun w => w.val == 10

/-- The pipeline's proof data: each input's buffer holds its block at every point, the output's is not named, and
    between points the core holds its scratch at some contents, its counters at zero and the weights in HBM as launched. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ _ := Pipeline.ΦD osem0 spec0 H0 (V m) c
  q _ := fullShare
  owed _ := 0

/-- The proof data's arrays are those the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d))

/-- What the body gives back when only the inputs' contents are remembered. -/
def Fo (c : Dev nD) (arg2 : Memref sig .tc .smem S8 .f32) (arg3 : Memref sig .tc .vmem S1x1024x1024 .f32) (arg4 : Memref sig .tc .vmem S1x1024 .f32) (arg6 : Memref sig .tc .vmem S1x2816 .f32) (arg7 : Memref sig .tc .vmem S1x512 .f32) (arg8 : Memref sig .tc .vmem S1x512 .f32) (arg9 : Memref sig .tc .vmem S8x128x128 .f32) (arg10 : Memref sig .tc .vmem S8x128 .f32) (arg12 : Memref sig .tc .vmem S1x1024 .f32) (arg13 : Memref sig .tc .vmem S1x1024 .f32) (arg14 : Memref sig .tc .vmem S1x1024x1024 .f32) (arg15 : Memref sig .tc .vmem S1024x2816 .bf16) (arg16 : Memref sig .tc .vmem S1024x1024 .bf16) (arg17 : Memref sig .tc .vmem S1x2816 .f32) (arg18 : Memref sig .tc .vmem S8x64x2816 .f32) (arg19 : Memref sig .tc .vmem S8x64x1024 .f32) (arg22 : Memref sig .tc .vmem S1024x512 .bf16) (arg23 : Memref sig .tc .vmem S2x1152x128 .bf16) (arg24 : Memref sig .tc .vmem S2x1152x128 .bf16) (arg25 : Memref sig .tc .vmem S1024x512 .f32) (arg26 : Memref sig .tc .vmem S1024x512 .bf16) (arg27 : Memref sig .tc .vmem S1024x512 .f32) (arg28 : Memref sig .tc .vmem S1024x1024 .bf16) (arg29 : Memref sig .tc .vmem S4x128x256 .bf16) (arg30 : Memref sig .tc .vmem S128x512 .f32) (x2 : Vec F S8 .f32) (x3 : Vec F S1x1024x1024 .f32) (x4 : Vec F S1x1024 .f32) (x6 : Vec F S1x2816 .f32) (x7 : Vec F S1x512 .f32) (x8 : Vec F S1x512 .f32) (x9 : Vec F S8x128x128 .f32) (x10 : Vec F S8x128 .f32) (x12 : Vec F S1x1024 .f32) (x13 : Vec F S1x1024 .f32) (fh0 : HbBuf0 (F := F) c hbM0_0) (fh1 : HbBuf0 (F := F) c hbM0_1) : sProp 𝕄 :=
  iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ hbPt0 c hbM0_0 fh0 ∗ hbPt0 c hbM0_1 fh1 ∗ (∃ W, owes (c : Thread nD τ) 0 W))

/-- The whole body from a triple of its first part, its results forgotten. -/
theorem body_of_pre (c : Dev nD) (i : grid0.Coords) (arg2 : Memref sig .tc .smem S8 .f32) (harg2 : arg2.IsWhole) (arg3 : Memref sig .tc .vmem S1x1024x1024 .f32) (harg3 : arg3.IsWhole) (arg4 : Memref sig .tc .vmem S1x1024 .f32) (harg4 : arg4.IsWhole) (arg6 : Memref sig .tc .vmem S1x2816 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .f32) (harg9 : arg9.IsWhole) (arg10 : Memref sig .tc .vmem S8x128 .f32) (harg10 : arg10.IsWhole) (arg12 : Memref sig .tc .vmem S1x1024 .f32) (harg12 : arg12.IsWhole) (arg13 : Memref sig .tc .vmem S1x1024 .f32) (harg13 : arg13.IsWhole) (arg14 : Memref sig .tc .vmem S1x1024x1024 .f32) (harg14 : arg14.IsWhole) (arg15 : Memref sig .tc .vmem S1024x2816 .bf16) (harg15 : arg15.IsWhole) (arg16 : Memref sig .tc .vmem S1024x1024 .bf16) (harg16 : arg16.IsWhole) (arg17 : Memref sig .tc .vmem S1x2816 .f32) (harg17 : arg17.IsWhole) (arg18 : Memref sig .tc .vmem S8x64x2816 .f32) (harg18 : arg18.IsWhole) (arg19 : Memref sig .tc .vmem S8x64x1024 .f32) (harg19 : arg19.IsWhole) (arg22 : Memref sig .tc .vmem S1024x512 .bf16) (harg22 : arg22.IsWhole) (arg23 : Memref sig .tc .vmem S2x1152x128 .bf16) (harg23 : arg23.IsWhole) (arg24 : Memref sig .tc .vmem S2x1152x128 .bf16) (harg24 : arg24.IsWhole) (arg25 : Memref sig .tc .vmem S1024x512 .f32) (harg25 : arg25.IsWhole) (arg26 : Memref sig .tc .vmem S1024x512 .bf16) (harg26 : arg26.IsWhole) (arg27 : Memref sig .tc .vmem S1024x512 .f32) (harg27 : arg27.IsWhole) (arg28 : Memref sig .tc .vmem S1024x1024 .bf16) (harg28 : arg28.IsWhole) (arg29 : Memref sig .tc .vmem S4x128x256 .bf16) (harg29 : arg29.IsWhole) (arg30 : Memref sig .tc .vmem S128x512 .f32) (harg30 : arg30.IsWhole) (x2 : Vec F S8 .f32) (x3 : Vec F S1x1024x1024 .f32) (x4 : Vec F S1x1024 .f32) (x6 : Vec F S1x2816 .f32) (x7 : Vec F S1x512 .f32) (x8 : Vec F S1x512 .f32) (x9 : Vec F S8x128x128 .f32) (x10 : Vec F S8x128 .f32) (x12 : Vec F S1x1024 .f32) (x13 : Vec F S1x1024 .f32) (x14 : Vec F S1x1024x1024 .f32) (x15 : Vec F S1024x2816 .bf16) (x16 : Vec F S1024x1024 .bf16) (x17 : Vec F S1x2816 .f32) (x18 : Vec F S8x64x2816 .f32) (x19 : Vec F S8x64x1024 .f32) (x22 : Vec F S1024x512 .bf16) (x23 : Vec F S2x1152x128 .bf16) (x24 : Vec F S2x1152x128 .bf16) (x25 : Vec F S1024x512 .f32) (x26 : Vec F S1024x512 .bf16) (x27 : Vec F S1024x512 .f32) (x28 : Vec F S1024x1024 .bf16) (x29 : Vec F S4x128x256 .bf16) (x30 : Vec F S128x512 .f32) (y15 : Vec F S1024x2816 .bf16) (y16 : Vec F S1024x1024 .bf16) (y17 : Vec F S1x2816 .f32) (y18 : Vec F S8x64x2816 .f32) (y19 : Vec F S8x64x1024 .f32) (y22 : Vec F S1024x512 .bf16) (y23 : Vec F S2x1152x128 .bf16) (y24 : Vec F S2x1152x128 .bf16) (y25 : Vec F S1024x512 .f32) (y26 : Vec F S1024x512 .bf16) (y27 : Vec F S1024x512 .f32) (y28 : Vec F S1024x1024 .bf16) (y29 : Vec F S4x128x256 .bf16) (y30 : Vec F S128x512 .f32) (fh0 : HbBuf0 (F := F) c hbM0_0) (fh1 : HbBuf0 (F := F) c hbM0_1) (arg1 : BitVec 32) (v0 : IVec S128x128 32) (v2 : IVec S128x128 1) (v30 : FVec F S256x1024 .bf16) (v32 : FVec F S256x512 .f32) (v33 : Vec F S1x512 .f32)
    (hA : ∀ Q, iprop(St c arg2 arg3 arg4 arg6 arg7 arg8 arg9 arg10 arg12 arg13 arg14 arg15 arg16 arg17 arg18 arg19 arg22 arg23 arg24 arg25 arg26 arg27 arg28 arg29 arg30 x2 x3 x4 x6 x7 x8 x9 x10 x12 x13 x14 x15 x16 x17 x18 x19 x22 x23 x24 x25 x26 x27 x28 x29 x30 fh0 fh1 ∗ (St c arg2 arg3 arg4 arg6 arg7 arg8 arg9 arg10 arg12 arg13 arg14 arg15 arg16 arg17 arg18 arg19 arg22 arg23 arg24 arg25 arg26 arg27 arg28 arg29 arg30 x2 x3 x4 x6 x7 x8 x9 x10 x12 x13 x14 y15 y16 y17 y18 y19 y22 y23 y24 y25 y26 y27 y28 y29 y30 fh0 fh1 -∗ Q ⟨arg1, v0, v2, v30, v32, v33⟩)) ⊢ wp frame (wpE (defs₀ (F := F)) Variants.none c none) Set.univ (k0_part25 i arg2 harg2 arg3 harg3 arg4 harg4 (Memref.whole main_v3) (Memref.isWhole_whole _) arg6 harg6 arg7 harg7 arg8 harg8 arg9 harg9 arg10 harg10 (Memref.whole main_v12) (Memref.isWhole_whole _) arg12 harg12 arg13 harg13 arg14 harg14 arg15 harg15 arg16 harg16 arg17 harg17 arg18 harg18 arg19 harg19 cc0_scratch5 cc0_scratch6 arg22 harg22 arg23 harg23 arg24 harg24 arg25 harg25 arg26 harg26 arg27 harg27 arg28 harg28 arg29 harg29 arg30 harg30) Q)
    (K : PUnit → sProp 𝕄) :
    iprop(St c arg2 arg3 arg4 arg6 arg7 arg8 arg9 arg10 arg12 arg13 arg14 arg15 arg16 arg17 arg18 arg19 arg22 arg23 arg24 arg25 arg26 arg27 arg28 arg29 arg30 x2 x3 x4 x6 x7 x8 x9 x10 x12 x13 x14 x15 x16 x17 x18 x19 x22 x23 x24 x25 x26 x27 x28 x29 x30 fh0 fh1 ∗ (Fo c arg2 arg3 arg4 arg6 arg7 arg8 arg9 arg10 arg12 arg13 arg14 arg15 arg16 arg17 arg18 arg19 arg22 arg23 arg24 arg25 arg26 arg27 arg28 arg29 arg30 x2 x3 x4 x6 x7 x8 x9 x10 x12 x13 fh0 fh1 -∗ K ⟨⟩)) ⊢ wp frame (wpE (defs₀ (F := F)) Variants.none c none) Set.univ (cc0_hybrid_layer i arg2 harg2 arg3 harg3 arg4 harg4 (Memref.whole main_v3) (Memref.isWhole_whole _) arg6 harg6 arg7 harg7 arg8 harg8 arg9 harg9 arg10 harg10 (Memref.whole main_v12) (Memref.isWhole_whole _) arg12 harg12 arg13 harg13 arg14 harg14 arg15 harg15 arg16 harg16 arg17 harg17 arg18 harg18 arg19 harg19 cc0_scratch5 cc0_scratch6 arg22 harg22 arg23 harg23 arg24 harg24 arg25 harg25 arg26 harg26 arg27 harg27 arg28 harg28 arg29 harg29 arg30 harg30) K := by
  iintro ⟨HA, Hk⟩
  iapply ((mainRun c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 x2 x3 x4 x6 x7 x8 x9 x10 x12 x13 x14 y15 y16 y17 y18 y19 y22 y23 y24 y25 y26 y27 y28 y29 y30 fh0 fh1 arg1 v0 v2 v30 v32 v33).2.2.2 _ K hA)
  isplitl [HA]; · iexact HA
  unfold Po
  iintro ⟨H0, H1, H2, H3, H4, H5, H6, H7, H8, H9, H10, HS0, HS1, HS2, HS3, HS4, HS5, HS6, HS7, HS8, HS9, HS10, HS11, HS12, HS13, Hq0, Hq1, Hq2, Hq3, Hq4, Hq5, Hq6, Hq7, Hq8, Hq9, Hq10, Hq11, Hq12, Hq13, Hq14, Hq15, Hh0, Hh1, HW⟩
  iapply Hk
  unfold Fo
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexact HS5
  isplitl [HS6]; · iexists _; iexact HS6
  isplitl [HS7]; · iexists _; iexact HS7
  isplitl [HS8]; · iexact HS8
  isplitl [HS9]; · iexact HS9
  isplitl [HS10]; · iexact HS10
  isplitl [HS11]; · iexact HS11
  isplitl [HS12]; · iexists _; iexact HS12
  isplitl [HS13]; · iexists _; iexact HS13
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hh0]; · iexact Hh0
  isplitl [Hh1]; · iexact Hh1
  iexact HW

/-- The whole body at any point, its results forgotten: the first grid point, a batch row's first tile, or another. -/
theorem body_any (c : Dev nD) (i : grid0.Coords) (arg2 : Memref sig .tc .smem S8 .f32) (harg2 : arg2.IsWhole) (arg3 : Memref sig .tc .vmem S1x1024x1024 .f32) (harg3 : arg3.IsWhole) (arg4 : Memref sig .tc .vmem S1x1024 .f32) (harg4 : arg4.IsWhole) (arg6 : Memref sig .tc .vmem S1x2816 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .f32) (harg9 : arg9.IsWhole) (arg10 : Memref sig .tc .vmem S8x128 .f32) (harg10 : arg10.IsWhole) (arg12 : Memref sig .tc .vmem S1x1024 .f32) (harg12 : arg12.IsWhole) (arg13 : Memref sig .tc .vmem S1x1024 .f32) (harg13 : arg13.IsWhole) (arg14 : Memref sig .tc .vmem S1x1024x1024 .f32) (harg14 : arg14.IsWhole) (arg15 : Memref sig .tc .vmem S1024x2816 .bf16) (harg15 : arg15.IsWhole) (arg16 : Memref sig .tc .vmem S1024x1024 .bf16) (harg16 : arg16.IsWhole) (arg17 : Memref sig .tc .vmem S1x2816 .f32) (harg17 : arg17.IsWhole) (arg18 : Memref sig .tc .vmem S8x64x2816 .f32) (harg18 : arg18.IsWhole) (arg19 : Memref sig .tc .vmem S8x64x1024 .f32) (harg19 : arg19.IsWhole) (arg22 : Memref sig .tc .vmem S1024x512 .bf16) (harg22 : arg22.IsWhole) (arg23 : Memref sig .tc .vmem S2x1152x128 .bf16) (harg23 : arg23.IsWhole) (arg24 : Memref sig .tc .vmem S2x1152x128 .bf16) (harg24 : arg24.IsWhole) (arg25 : Memref sig .tc .vmem S1024x512 .f32) (harg25 : arg25.IsWhole) (arg26 : Memref sig .tc .vmem S1024x512 .bf16) (harg26 : arg26.IsWhole) (arg27 : Memref sig .tc .vmem S1024x512 .f32) (harg27 : arg27.IsWhole) (arg28 : Memref sig .tc .vmem S1024x1024 .bf16) (harg28 : arg28.IsWhole) (arg29 : Memref sig .tc .vmem S4x128x256 .bf16) (harg29 : arg29.IsWhole) (arg30 : Memref sig .tc .vmem S128x512 .f32) (harg30 : arg30.IsWhole) (h01 : cond0_0 i → cond0_1 i) (h12 : cond0_1 i ↔ ¬cond0_2 i) (x2 : Vec F S8 .f32) (x3 : Vec F S1x1024x1024 .f32) (x4 : Vec F S1x1024 .f32) (x6 : Vec F S1x2816 .f32) (x7 : Vec F S1x512 .f32) (x8 : Vec F S1x512 .f32) (x9 : Vec F S8x128x128 .f32) (x10 : Vec F S8x128 .f32) (x12 : Vec F S1x1024 .f32) (x13 : Vec F S1x1024 .f32) (x14 : Vec F S1x1024x1024 .f32) (x15 : Vec F S1024x2816 .bf16) (x16 : Vec F S1024x1024 .bf16) (x17 : Vec F S1x2816 .f32) (x18 : Vec F S8x64x2816 .f32) (x19 : Vec F S8x64x1024 .f32) (x22 : Vec F S1024x512 .bf16) (x23 : Vec F S2x1152x128 .bf16) (x24 : Vec F S2x1152x128 .bf16) (x25 : Vec F S1024x512 .f32) (x26 : Vec F S1024x512 .bf16) (x27 : Vec F S1024x512 .f32) (x28 : Vec F S1024x1024 .bf16) (x29 : Vec F S4x128x256 .bf16) (x30 : Vec F S128x512 .f32) (fh0 : HbBuf0 (F := F) c hbM0_0) (fh1 : HbBuf0 (F := F) c hbM0_1) (K : PUnit → sProp 𝕄) :
    iprop(St c arg2 arg3 arg4 arg6 arg7 arg8 arg9 arg10 arg12 arg13 arg14 arg15 arg16 arg17 arg18 arg19 arg22 arg23 arg24 arg25 arg26 arg27 arg28 arg29 arg30 x2 x3 x4 x6 x7 x8 x9 x10 x12 x13 x14 x15 x16 x17 x18 x19 x22 x23 x24 x25 x26 x27 x28 x29 x30 fh0 fh1 ∗ (Fo c arg2 arg3 arg4 arg6 arg7 arg8 arg9 arg10 arg12 arg13 arg14 arg15 arg16 arg17 arg18 arg19 arg22 arg23 arg24 arg25 arg26 arg27 arg28 arg29 arg30 x2 x3 x4 x6 x7 x8 x9 x10 x12 x13 fh0 fh1 -∗ K ⟨⟩)) ⊢ wp frame (wpE (defs₀ (F := F)) Variants.none c none) Set.univ (cc0_hybrid_layer i arg2 harg2 arg3 harg3 arg4 harg4 (Memref.whole main_v3) (Memref.isWhole_whole _) arg6 harg6 arg7 harg7 arg8 harg8 arg9 harg9 arg10 harg10 (Memref.whole main_v12) (Memref.isWhole_whole _) arg12 harg12 arg13 harg13 arg14 harg14 arg15 harg15 arg16 harg16 arg17 harg17 arg18 harg18 arg19 harg19 cc0_scratch5 cc0_scratch6 arg22 harg22 arg23 harg23 arg24 harg24 arg25 harg25 arg26 harg26 arg27 harg27 arg28 harg28 arg29 harg29 arg30 harg30) K := by
  by_cases hc1 : cond0_1 i
  · by_cases hc0 : cond0_0 i
    · exact body_of_pre c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 x2 x3 x4 x6 x7 x8 x9 x10 x12 x13 x14 x15 x16 x17 x18 x19 x22 x23 x24 x25 x26 x27 x28 x29 x30 _ _ _ _ _ _ _ _ _ _ _ _ _ _  fh0 fh1 _ _ _ _ _ _ (preA c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 (h12.mp hc1) x2 x3 x4 x6 x7 x8 x9 x10 x12 x13 x14 x15 x16 x17 x18 x19 x22 x23 x24 x25 x26 x27 x28 x29 x30 fh0 fh1).2.2.2.2.2.2.2.2.2.2.2.2.2.2.2 K
    · exact body_of_pre c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 x2 x3 x4 x6 x7 x8 x9 x10 x12 x13 x14 x15 x16 x17 x18 x19 x22 x23 x24 x25 x26 x27 x28 x29 x30 _ _ _ _ _ _ _ _ _ _ _ _ _ _  fh0 fh1 _ _ _ _ _ _ (preB c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 (h12.mp hc1) x2 x3 x4 x6 x7 x8 x9 x10 x12 x13 x14 x15 x16 x17 x18 x19 x22 x23 x24 x25 x26 x27 x28 x29 x30 fh0 fh1).2.2.2.2.2.2.2.2 K
  · exact body_of_pre c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 x2 x3 x4 x6 x7 x8 x9 x10 x12 x13 x14 x15 x16 x17 x18 x19 x22 x23 x24 x25 x26 x27 x28 x29 x30 _ _ _ _ _ _ _ _ _ _ _ _ _ _  fh0 fh1 _ _ _ _ _ _ (preC c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 (fun h => hc1 (h01 h)) hc1 (not_not.mp fun h => hc1 (h12.mpr h)) x2 x3 x4 x6 x7 x8 x9 x10 x12 x13 x14 x15 x16 x17 x18 x19 x22 x23 x24 x25 x26 x27 x28 x29 x30 fh0 fh1).2.2.2.2.2.2.2.2 K

set_option maxHeartbeats 28800000 in
/-- The body at a generic point, the first of all, the first of a batch row or another. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = Pipeline.ΦD osem0 spec0 H0 (V m) c from rfl, show (dats m 0 c).Φ t.castSucc = Pipeline.ΦD osem0 spec0 H0 (V m) c from rfl, PhiD0_eq,
    after0_0, after0_1, after0_2, after0_3, after0_4, after0_5, after0_6, after0_7, after0_8, after0_9]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  iintro ⟨⟨⟨⟨%d0, HS0⟩, ⟨%d1, HS1⟩, ⟨%d2, HS2⟩, ⟨%d3, HS3⟩, ⟨%d4, HS4⟩, ⟨%d5, HS5⟩, ⟨%d6, HS6⟩, ⟨%d7, HS7⟩, ⟨%d8, HS8⟩, ⟨%d9, HS9⟩, ⟨%d10, HS10⟩, ⟨%d11, HS11⟩, ⟨%d12, HS12⟩, ⟨%d13, HS13⟩⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%v4, H0⟩, ⟨%v5, H1⟩, ⟨%v6, H2⟩, ⟨%v7, H3⟩, ⟨%v8, H4⟩, ⟨%v9, H5⟩, ⟨%v10, H6⟩, ⟨%v11, H7⟩, ⟨%v12, H8⟩, ⟨%v13, H9⟩, ⟨%v14, H10⟩⟩
  iapply (body_any c (grid0.coords t) _ _ _ _ _ _ _ _ _ _ _ _ _ _ _ _ _ _ _ _ _ _ _ _ _ _ _ _ _ _ _ _ _ _ _ _ _ _ _ _ _ _ _ _ _ _ _ _ _ _ (fun h => (hcond0_1 t).mpr (by have := (hcond0_0 t).mp h; omega)) ((hcond0_1 t).trans (Iff.trans (by omega) (not_congr (hcond0_2 t)).symm)) (iblk m c 0 t) (iblk m c 1 t) (iblk m c 2 t) (iblk m c 3 t) (iblk m c 4 t) (iblk m c 5 t) (iblk m c 6 t) (iblk m c 7 t) (iblk m c 8 t) (iblk m c 9 t) v14 d0 d1 d2 d3 d4 d5 d6 d7 d8 d9 d10 d11 d12 d13 (V m c main_v3) (V m c main_v12) _)
  isplitl [H0 H1 H2 H3 H4 H5 H6 H7 H8 H9 H10 HS0 HS1 HS2 HS3 HS4 HS5 HS6 HS7 HS8 HS9 HS10 HS11 HS12 HS13 Hq0 Hq1 Hq2 Hq3 Hq4 Hq5 Hq6 Hq7 Hq8 Hq9 Hq10 Hq11 Hq12 Hq13 Hq14 Hq15 Hh0 Hh1 HW]
  · unfold St
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW
  unfold Fo
  iintro ⟨H0, H1, H2, H3, H4, H5, H6, H7, H8, H9, H10, HS0, HS1, HS2, HS3, HS4, HS5, HS6, HS7, HS8, HS9, HS10, HS11, HS12, HS13, Hq0, Hq1, Hq2, Hq3, Hq4, Hq5, Hq6, Hq7, Hq8, Hq9, Hq10, Hq11, Hq12, Hq13, Hq14, Hq15, Hh0, Hh1, ⟨%W2, HW⟩⟩
  isplitl [HS0 HS1 HS2 HS3 HS4 HS5 HS6 HS7 HS8 HS9 HS10 HS11 HS12 HS13 Hg Hq0 Hq1 Hq2 Hq3 Hq4 Hq5 Hq6 Hq7 Hq8 Hq9 Hq10 Hq11 Hq12 Hq13 Hq14 Hq15 Hh0 Hh1]
  · isplitl [HS0 HS1 HS2 HS3 HS4 HS5 HS6 HS7 HS8 HS9 HS10 HS11 HS12 HS13]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      iexact HS13
    isplitl [Hg]; · iexact Hg
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hh0]; · iexact Hh0
    iexact Hh1
  isplitl [HW]
  · iexists W2; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_dma_forget (Q' := _) cfgs (dats m) (0 : Fin 1) launch0 osem0 defs₀ Variants.none forgets ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (window 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (fun c => (dats m 0 c).toRForget forgets) (A_eq m) (run_main m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Hand

end
-- ==== Proof.IdealTile.lean ====
module

public import proofs.«01_k».proof.Proof.IdealMain

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ
theorem inbP {A B p q r k : ℕ} (hr : r + p ≤ A) (hk : k + q ≤ B) :
    ∀ a, (![r, k] : Fin 2 → ℕ) a + (⟨2, ![p, q]⟩ : Shape).size a ≤ (⟨2, ![A, B]⟩ : Shape).size a := by
  intro a; fin_cases a <;> assumption

theorem inbQ {A B C p q u r k l : ℕ} (hr : r + p ≤ A) (hk : k + q ≤ B) (hl : l + u ≤ C) :
    ∀ a, (![r, k, l] : Fin 3 → ℕ) a + (⟨3, ![p, q, u]⟩ : Shape).size a ≤ (⟨3, ![A, B, C]⟩ : Shape).size a := by
  intro a; fin_cases a <;> assumption

/-- A block of rows and columns, cut out. -/
theorem slP {A B p q r k : ℕ} (hr : r + p ≤ A) (hk : k + q ≤ B) :
    (⟨2, ![A, B]⟩ : Shape).Slices ![r, k] ⟨2, ![p, q]⟩ :=
  ⟨rfl, inbP hr hk⟩

section Words

/-- The 128 × 128 block at block row `j`, block column `k` of a buffer of the tile's rows. -/
def rdA {e : EltTy} (X : Vec F S1024x512 e) (j : Fin 8) (k : Fin 4) : Vec F S128x128 e :=
  View.ld X (Rect.unit (s := S1024x512) ![128 * j.val, 128 * k.val] S128x128.size (inbP (by omega) (by omega)))

/-- The 256 rows of halo and block that block row `j` looks at. -/
def rdK (K : Vec F S2x1152x128 .bf16) (hh : Fin 2) (j : Fin 8) : Vec F S1x256x128 .bf16 :=
  View.ld K (Rect.unit (s := S2x1152x128) ![hh.val, 128 * j.val, 0] S1x256x128.size (inbQ (by omega) (by omega) (by omega)))

/-- A head's sink. -/
def sinkOf (X2 : Vec F S8 .f32) (k : Fin 8) : Elt F .f32 :=
  View.ld X2 (Rect.unit (s := S8) ![k.val] S1.size (fun a => by fin_cases a; exact k.isLt)) (Shape.Idx.first (show 0 < S1.numel from by decide))

/-- The four query heads of a group, stacked, each with the other half's lanes at zero. -/
def stackQ (v2 : IVec S128x128 1) (qa qb : Vec F S128x128 .bf16) : FVec F S512x128 .bf16 :=
  have z : FVec F S128x128 .bf16 := broadcast S128x128 (Scalar.ofBits .bf16 0x0000#16)
  have nv : IVec S128x128 1 := xori v2 (constantI S128x128 1 1#1)
  concatenate S512x128 0 [⟨S128x128, select v2 qa z⟩, ⟨S128x128, select nv qa z⟩, ⟨S128x128, select v2 qb z⟩, ⟨S128x128, select nv qb z⟩] concatenates_S128x128_S128x128_S128x128_S128x128_S512x128_d0

def matS (v2 : IVec S128x128 1) (qa qb : Vec F S128x128 .bf16) (kb : Vec F S1x256x128 .bf16) : FVec F S512x256 .f32 :=
  matmul dot_S512x128_S256x128_S512x256_1_1_0_0_n_n none (stackQ v2 qa qb) (shapeCast S256x128 kb shapeCasts_S1x256x128_S256x128) (constant S512x256 .f32 0x00000000#32)

/-- The scores of a block row whose previous block may not exist, -/
def score0 (v2 : IVec S128x128 1) (v172 : IVec S512x128 1) (hp : BitVec 1) (qa qb : Vec F S128x128 .bf16) (kb : Vec F S1x256x128 .bf16) : FVec F S512x128 .f32 :=
  select v172
    (Scalar.select hp (extractStridedSlice S512x128 ![0, 0] (matS v2 qa qb kb) slices_S512x256_o0_0_S512x128)
      (broadcast S512x128 (Named.named κ "mask" 0xF149F2CA#32)))
    (extractStridedSlice S512x128 ![0, 128] (matS v2 qa qb kb) slices_S512x256_o0_128_S512x128)

/-- and of one whose previous block is in the tile. -/
def score1 (v2 : IVec S128x128 1) (v172 : IVec S512x128 1) (qa qb : Vec F S128x128 .bf16) (kb : Vec F S1x256x128 .bf16) : FVec F S512x128 .f32 :=
  select v172 (extractStridedSlice S512x128 ![0, 0] (matS v2 qa qb kb) slices_S512x256_o0_0_S512x128)
    (extractStridedSlice S512x128 ![0, 128] (matS v2 qa qb kb) slices_S512x256_o0_128_S512x128)

/-- The scores of the unit at block row `j`, key head `hh`. -/
def scoreU (v0 : IVec S128x128 32) (v2 : IVec S128x128 1) (hp : BitVec 1) (Q : Vec F S1024x512 .bf16) (K0 K1 : Vec F S2x1152x128 .bf16) (j : Fin 8) (hh : Fin 2) : FVec F S512x128 .f32 :=
  match j.val with
  | 0 => score0 v2 (k0_pay94 v0) hp (rdA Q j ⟨2 * hh.val, by omega⟩) (rdA Q j ⟨2 * hh.val + 1, by omega⟩) (rdK K0 hh j)
  | _ + 1 => score1 v2 (k0_pay94 v0) (rdA Q j ⟨2 * hh.val, by omega⟩) (rdA Q j ⟨2 * hh.val + 1, by omega⟩) (rdK K1 hh j)

/-- One query head's scores. -/
def sG (sc : FVec F S512x128 .f32) (g : Fin 4) : FVec F S128x128 .f32 :=
  extractStridedSlice S128x128 ![128 * g.val, 0] sc (slP (by omega) (by omega))

def mG (sc : FVec F S512x128 .f32) (g : Fin 4) (s : Elt F .f32) : FVec F S128x1 .f32 :=
  maximumf (shapeCast S128x1 (multiReduction .maximumf [1] S128 (sG sc g) 0xFF800000#32 reduces_S128x128_S128 (.inl rfl) rfl) shapeCasts_S128_S128x1) (broadcast S128x1 s)

def pG (sc : FVec F S512x128 .f32) (g : Fin 4) (s : Elt F .f32) : FVec F S128x128 .f32 :=
  exp (subf (sG sc g) (broadcastTo S128x128 (mG sc g s) broadcasts_S128x1_S128x128))

def iG (sc : FVec F S512x128 .f32) (g : Fin 4) (s : Elt F .f32) : FVec F S128x1 .f32 :=
  divf (broadcast S128x1 (Scalar.ofBits .f32 0x3F800000#32))
    (addf (shapeCast S128x1 (multiReduction .add [1] S128 (pG sc g s) 0x00000000#32 reduces_S128x128_S128 (.inl rfl) rfl) shapeCasts_S128_S128x1)
      (exp (subf (broadcast S128x1 s) (mG sc g s))))

def ppG (mk : IVec S128x128 1) (sc : FVec F S512x128 .f32) (g : Fin 4) (s : Elt F .f32) : FVec F S128x256 .bf16 :=
  have z : FVec F S128x128 .bf16 := broadcast S128x128 (Scalar.ofBits .bf16 0x0000#16)
  concatenate S128x256 1 [⟨S128x128, select mk (truncf .bf16 (pG sc g s) bitsLt_bf16_f32) z⟩, ⟨S128x128, select mk z (truncf .bf16 (pG sc g s) bitsLt_bf16_f32)⟩] concatenates_S128x128_S128x128_S128x256_d1

def oU (mk : IVec S128x128 1) (sc : FVec F S512x128 .f32) (s : Fin 4 → Elt F .f32) (vb : Vec F S1x256x128 .bf16) : FVec F S512x128 .f32 :=
  matmul dot_S512x256_S256x128_S512x128_1_0_0_1_n_n none
    (concatenate S512x256 0 [⟨S128x256, ppG mk sc 0 (s 0)⟩, ⟨S128x256, ppG mk sc 1 (s 1)⟩, ⟨S128x256, ppG mk sc 2 (s 2)⟩, ⟨S128x256, ppG mk sc 3 (s 3)⟩] concatenates_S128x256_S128x256_S128x256_S128x256_S512x256_d0)
    (shapeCast S256x128 vb shapeCasts_S1x256x128_S256x128) (constant S512x128 .f32 0x00000000#32)

def oG (mk : IVec S128x128 1) (sc : FVec F S512x128 .f32) (s : Fin 4 → Elt F .f32) (vb : Vec F S1x256x128 .bf16) (g : Fin 4) : FVec F S128x128 .f32 :=
  mulf (extractStridedSlice S128x128 ![128 * g.val, 0] (oU mk sc s vb) (slP (by omega) (by omega)))
    (broadcastTo S128x128 (iG sc g (s g)) broadcasts_S128x1_S128x128)

/-- Two query heads' outputs, side by side. -/
def attO (v2 mk : IVec S128x128 1) (sc : FVec F S512x128 .f32) (s : Fin 4 → Elt F .f32) (vb : Vec F S1x256x128 .bf16) (c2 : Fin 2) : FVec F S128x128 .f32 :=
  select v2 (oG mk sc s vb ⟨2 * c2.val, by omega⟩) (oG mk sc s vb ⟨2 * c2.val + 1, by omega⟩)

/-- The unit's gated output, as it is kept. -/
def mixA (GA : FVec F S1024x512 .f32) (j : Fin 8) (k : Fin 4) (o : FVec F S128x128 .f32) : FVec F S128x128 .bf16 :=
  shapeCast S128x128 (truncf .bf16 (mulf o (extractStridedSlice S128x128 ![128 * j.val, 128 * k.val] GA (slP (by omega) (by omega)))) bitsLt_bf16_f32) shapeCasts_S128x128_S128x128

def vbU (V0 V1 : Vec F S2x1152x128 .bf16) (j : Fin 8) (hh : Fin 2) : Vec F S1x256x128 .bf16 :=
  match j.val with
  | 0 => rdK V0 hh j
  | _ + 1 => rdK V1 hh j

def rcM (j k : Fin 8) : Rect S1024x1024 :=
  Rect.unit (s := S1024x1024) ![128 * j.val, 128 * k.val] S128x128.size (inbP (by omega) (by omega))

/-- The attention's piece of the mixed rows, -/
def attPiece (v0 : IVec S128x128 32) (v2 : IVec S128x128 1) (hp : BitVec 1) (X2 : Vec F S8 .f32) (Q : Vec F S1024x512 .bf16) (K0 K1 V0 V1 : Vec F S2x1152x128 .bf16) (GA : FVec F S1024x512 .f32)
    (j : Fin 8) (hh c2 : Fin 2) : View.Piece (Elt F) S1024x1024 .bf16 :=
  ⟨rcM j ⟨2 * hh.val + c2.val, by omega⟩, mixA GA j ⟨2 * hh.val + c2.val, by omega⟩
    (attO v2 (k0_pay93 v0) (scoreU v0 v2 hp Q K0 K1 j hh) (fun g => sinkOf X2 ⟨4 * hh.val + g.val, by omega⟩) (vbU V0 V1 j hh) c2)⟩

/-- and the gating unit's. -/
def sguPiece (v2 : IVec S128x128 1) (U : Vec F S1024x512 .f32) (VL : Vec F S1024x512 .bf16) (GS : Vec F S1024x512 .f32) (X29 : Vec F S4x128x256 .bf16) (X30 : Vec F S128x512 .f32)
    (j : Fin 8) (p : Fin 4) : View.Piece (Elt F) S1024x1024 .bf16 :=
  ⟨rcM j ⟨4 + p.val, by omega⟩, k0_pay593 v2 (rdA VL j p)
    (View.ld X29 (Rect.unit (s := S4x128x256) ![p.val, 0, 0] S1x128x256.size (inbQ (by omega) (by omega) (by omega))))
    (View.ld X30 (Rect.unit (s := S128x512) ![0, 128 * p.val] S128x128.size (inbP (by omega) (by omega))))
    (rdA U j p) (rdA GS j p)⟩

def mixPieces (v0 : IVec S128x128 32) (v2 : IVec S128x128 1) (hp : BitVec 1) (X2 : Vec F S8 .f32) (Q : Vec F S1024x512 .bf16) (K0 K1 V0 V1 : Vec F S2x1152x128 .bf16) (GA : FVec F S1024x512 .f32)
    (U : Vec F S1024x512 .f32) (VL : Vec F S1024x512 .bf16) (GS : Vec F S1024x512 .f32) (X29 : Vec F S4x128x256 .bf16) (X30 : Vec F S128x512 .f32) : List (View.Piece (Elt F) S1024x1024 .bf16) :=
  (([0, 1, 2, 3, 4, 5, 6, 7] : List (Fin 8)).reverse.flatMap fun j => ([3, 2, 1, 0] : List (Fin 4)).map fun p => sguPiece v2 U VL GS X29 X30 j p) ++
  (([0, 1, 2, 3, 4, 5, 6, 7] : List (Fin 8)).reverse.flatMap fun j => ([1, 0] : List (Fin 2)).flatMap fun hh => ([1, 0] : List (Fin 2)).map fun c2 => attPiece v0 v2 hp X2 Q K0 K1 V0 V1 GA j hh c2)

/-- A chunk of the normed rows. -/
def hCk (X3 : Vec F S1x1024x1024 .f32) (X4 : Vec F S1x1024 .f32) (k : Fin 4) : FVec F S256x1024 .bf16 :=
  k0_pay70 (View.ld X3 (Rect.unit (s := S1x1024x1024) ![0, 256 * k.val, 0] S1x256x1024.size (inbQ (by omega) (by omega) (by omega))))
    (View.ld X4 (Rect.unit (s := S1x1024) ![0, 0] S1x1024.size (inbP (by omega) (by omega))))

/-- The normed rows. -/
def hAll (v30 : FVec F S256x1024 .bf16) (X3 : Vec F S1x1024x1024 .f32) (X4 : Vec F S1x1024 .f32) : FVec F S1024x1024 .bf16 :=
  k0_pay81 v30 (hCk X3 X4 1) (hCk X3 X4 2) (hCk X3 X4 3)

def wQ (X15 : Vec F S1024x2816 .bf16) : Vec F S1024x512 .bf16 := View.ld X15 (Rect.unit (s := S1024x2816) ![0, 0] S1024x512.size (inbP (by omega) (by omega)))
def bQ (X17 : Vec F S1x2816 .f32) : Vec F S1x512 .f32 := View.ld X17 (Rect.unit (s := S1x2816) ![0, 0] S1x512.size (inbP (by omega) (by omega)))

/-- The scaled queries, chunk by chunk. -/
def qPieces (v32 : FVec F S256x512 .f32) (v33 : Vec F S1x512 .f32) (X3 : Vec F S1x1024x1024 .f32) (X4 : Vec F S1x1024 .f32) (X15 : Vec F S1024x2816 .bf16) (X17 : Vec F S1x2816 .f32) : List (View.Piece (Elt F) S1024x512 .bf16) :=
  ([3, 2, 1] : List (Fin 4)).map (fun k => ⟨Rect.unit (s := S1024x512) ![256 * k.val, 0] S256x512.size (inbP (by omega) (by omega)), k0_pay80 (hCk X3 X4 k) (wQ X15) (bQ X17)⟩) ++
  [⟨Rect.unit (s := S1024x512) ![0, 0] S256x512.size (inbP (by omega) (by omega)), k0_pay72 v32 v33⟩]

/-- 256 columns of the projection, from column 256 · `n`. -/
def pT (h : FVec F S1024x1024 .bf16) (X15 : Vec F S1024x2816 .bf16) (X17 : Vec F S1x2816 .f32) (n : Fin 11) : FVec F S1024x256 .f32 :=
  have w : Vec F S1024x256 .bf16 := View.ld X15 (Rect.unit (s := S1024x2816) ![0, 256 * n.val] S1024x256.size (inbP (by omega) (by omega)))
  addf (concatenate S1024x256 0
    [⟨S512x256, matmul dot_S512x1024_S1024x256_S512x256_1_0_0_1_n_n none (extractStridedSlice S512x1024 ![0, 0] h slices_S1024x1024_o0_0_S512x1024) w (constant S512x256 .f32 0x00000000#32)⟩,
     ⟨S512x256, matmul dot_S512x1024_S1024x256_S512x256_1_0_0_1_n_n none (extractStridedSlice S512x1024 ![512, 0] h slices_S1024x1024_o512_0_S512x1024) w (constant S512x256 .f32 0x00000000#32)⟩] concatenates_S512x256_S512x256_S1024x256_d0)
    (broadcastTo S1024x256 (View.ld X17 (Rect.unit (s := S1x2816) ![0, 256 * n.val] S1x256.size (inbP (by omega) (by omega)))) broadcasts_S1x256_S1024x256)

def siluT (z : FVec F S1024x256 .f32) : FVec F S1024x256 .f32 :=
  mulf z (addf (broadcast S1024x256 (Scalar.ofBits .f32 0x3F800000#32)) (tanh z))

def geluT (z : FVec F S1024x256 .f32) : FVec F S1024x256 .f32 :=
  mulf z (addf (broadcast S1024x256 (Scalar.ofBits .f32 0x3F800000#32)) (erf (mulf z (broadcast S1024x256 (Scalar.ofBits .f32 0x3FB504F3#32)))))

def cat2 (a b : FVec F S1024x256 .f32) : FVec F S1024x512 .f32 :=
  concatenate S1024x512 1 [⟨S1024x256, a⟩, ⟨S1024x256, b⟩] concatenates_S1024x256_S1024x256_S1024x512_d1

/-- The two key heads, each doubled to both halves: `off` picks the keys' or the values' columns. -/
def dupPieces (t : FVec F S1024x128 .f32) : List (View.Piece (Elt F) S2x1152x128 .bf16) :=
  [⟨Rect.unit (s := S2x1152x128) ![1, 128, 0] S1x1024x128.size (inbQ (by omega) (by omega) (by omega)), k0_pay91 k0_pay83 t⟩,
   ⟨Rect.unit (s := S2x1152x128) ![0, 128, 0] S1x1024x128.size (inbQ (by omega) (by omega) (by omega)), k0_pay90 k0_pay83 t⟩]

def kCols (h : FVec F S1024x1024 .bf16) (X15 : Vec F S1024x2816 .bf16) (X17 : Vec F S1x2816 .f32) : FVec F S1024x128 .f32 :=
  extractStridedSlice S1024x128 ![0, 0] (pT h X15 X17 2) slices_S1024x256_o0_0_S1024x128
def vCols (h : FVec F S1024x1024 .bf16) (X15 : Vec F S1024x2816 .bf16) (X17 : Vec F S1x2816 .f32) : FVec F S1024x128 .f32 :=
  extractStridedSlice S1024x128 ![0, 128] (pT h X15 X17 2) slices_S1024x256_o0_128_S1024x128

def cast256 (z : FVec F S1024x256 .f32) : FVec F S1024x256 .f32 := shapeCast S1024x256 z shapeCasts_S1024x256_S1024x256

def colPieces (a b : FVec F S1024x256 .f32) : List (View.Piece (Elt F) S1024x512 .f32) :=
  [⟨Rect.unit (s := S1024x512) ![0, 256] S1024x256.size (inbP (by omega) (by omega)), cast256 b⟩,
   ⟨Rect.unit (s := S1024x512) ![0, 0] S1024x256.size (inbP (by omega) (by omega)), cast256 a⟩]

def vlPieces (h : FVec F S1024x1024 .bf16) (X15 : Vec F S1024x2816 .bf16) (X17 : Vec F S1x2816 .f32) (X7 X8 : Vec F S1x512 .f32) : List (View.Piece (Elt F) S1024x512 .bf16) :=
  [⟨Rect.unit (s := S1024x512) ![0, 0] S1024x512.size (inbP (by omega) (by omega)),
    k0_pay392 (k0_pay390 (geluT (pT h X15 X17 7)) (geluT (pT h X15 X17 8)) (View.ld X7 (Rect.unit (s := S1x512) ![0, 0] S1x512.size (inbP (by omega) (by omega)))))
      (k0_pay391 (View.ld X8 (Rect.unit (s := S1x512) ![0, 0] S1x512.size (inbP (by omega) (by omega)))))⟩]

/-- The tile's result, from the mixed rows. -/
def outT (X3 : Vec F S1x1024x1024 .f32) (M : Vec F S1024x1024 .bf16) (X16 : Vec F S1024x1024 .bf16) (X12 X13 : Vec F S1x1024 .f32) : FVec F S1x1024x1024 .f32 :=
  k0_pay1 (k0_pay594 (View.ld X3 (Rect.unit (s := S1x1024x1024) ![0, 0, 0] S1x1024x1024.size (inbQ (by omega) (by omega) (by omega)))))
    (View.ld M (Rect.unit (s := S1024x1024) ![0, 0] S1024x1024.size (inbP (by omega) (by omega))))
    (View.ld X16 (Rect.unit (s := S1024x1024) ![0, 0] S1024x1024.size (inbP (by omega) (by omega))))
    (View.ld X12 (Rect.unit (s := S1x1024) ![0, 0] S1x1024.size (inbP (by omega) (by omega))))
    (View.ld X13 (Rect.unit (s := S1x1024) ![0, 0] S1x1024.size (inbP (by omega) (by omega))))

end Words

section Whole
variable (c : Dev nD) (i : grid0.Coords) (arg2 : Memref sig .tc .smem S8 .f32) (harg2 : arg2.IsWhole) (arg3 : Memref sig .tc .vmem S1x1024x1024 .f32) (harg3 : arg3.IsWhole) (arg4 : Memref sig .tc .vmem S1x1024 .f32) (harg4 : arg4.IsWhole) (arg6 : Memref sig .tc .vmem S1x2816 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .f32) (harg9 : arg9.IsWhole) (arg10 : Memref sig .tc .vmem S8x128 .f32) (harg10 : arg10.IsWhole) (arg12 : Memref sig .tc .vmem S1x1024 .f32) (harg12 : arg12.IsWhole) (arg13 : Memref sig .tc .vmem S1x1024 .f32) (harg13 : arg13.IsWhole) (arg14 : Memref sig .tc .vmem S1x1024x1024 .f32) (harg14 : arg14.IsWhole) (arg15 : Memref sig .tc .vmem S1024x2816 .bf16) (harg15 : arg15.IsWhole) (arg16 : Memref sig .tc .vmem S1024x1024 .bf16) (harg16 : arg16.IsWhole) (arg17 : Memref sig .tc .vmem S1x2816 .f32) (harg17 : arg17.IsWhole) (arg18 : Memref sig .tc .vmem S8x64x2816 .f32) (harg18 : arg18.IsWhole) (arg19 : Memref sig .tc .vmem S8x64x1024 .f32) (harg19 : arg19.IsWhole) (arg22 : Memref sig .tc .vmem S1024x512 .bf16) (harg22 : arg22.IsWhole) (arg23 : Memref sig .tc .vmem S2x1152x128 .bf16) (harg23 : arg23.IsWhole) (arg24 : Memref sig .tc .vmem S2x1152x128 .bf16) (harg24 : arg24.IsWhole) (arg25 : Memref sig .tc .vmem S1024x512 .f32) (harg25 : arg25.IsWhole) (arg26 : Memref sig .tc .vmem S1024x512 .bf16) (harg26 : arg26.IsWhole) (arg27 : Memref sig .tc .vmem S1024x512 .f32) (harg27 : arg27.IsWhole) (arg28 : Memref sig .tc .vmem S1024x1024 .bf16) (harg28 : arg28.IsWhole) (arg29 : Memref sig .tc .vmem S4x128x256 .bf16) (harg29 : arg29.IsWhole) (arg30 : Memref sig .tc .vmem S128x512 .f32) (harg30 : arg30.IsWhole) (x2 : Vec F S8 .f32) (x3 : Vec F S1x1024x1024 .f32) (x4 : Vec F S1x1024 .f32) (x6 : Vec F S1x2816 .f32) (x7 : Vec F S1x512 .f32) (x8 : Vec F S1x512 .f32) (x9 : Vec F S8x128x128 .f32) (x10 : Vec F S8x128 .f32) (x12 : Vec F S1x1024 .f32) (x13 : Vec F S1x1024 .f32) (x14 : Vec F S1x1024x1024 .f32) (x15 : Vec F S1024x2816 .bf16) (x16 : Vec F S1024x1024 .bf16) (x17 : Vec F S1x2816 .f32) (x18 : Vec F S8x64x2816 .f32) (x19 : Vec F S8x64x1024 .f32) (x22 : Vec F S1024x512 .bf16) (x23 : Vec F S2x1152x128 .bf16) (x24 : Vec F S2x1152x128 .bf16) (x25 : Vec F S1024x512 .f32) (x26 : Vec F S1024x512 .bf16) (x27 : Vec F S1024x512 .f32) (x28 : Vec F S1024x1024 .bf16) (x29 : Vec F S4x128x256 .bf16) (x30 : Vec F S128x512 .f32) (fh0 : HbBuf0 (F := F) c hbM0_0) (fh1 : HbBuf0 (F := F) c hbM0_1) (arg1 : BitVec 32) (v0 : IVec S128x128 32) (v2 : IVec S128x128 1) (v30 : FVec F S256x1024 .bf16) (v32 : FVec F S256x512 .f32) (v33 : Vec F S1x512 .f32)

/-- The key buffer the body leaves: the tile's rows over what the first part left. -/
theorem mainRun_k : (mainRun c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 x2 x3 x4 x6 x7 x8 x9 x10 x12 x13 x14 x15 x16 x17 x18 x19 x22 x23 x24 x25 x26 x27 x28 x29 x30 fh0 fh1 arg1 v0 v2 v30 v32 v33).2.1 = arg23.view.read (Elt F) (arg23.view.writes (Elt F) (harg23.unread x23) (dupPieces (kCols (hAll v30 (arg3.view.read (Elt F) (harg3.unread x3)) (arg4.view.read (Elt F) (harg4.unread x4))) (arg15.view.read (Elt F) (harg15.unread x15)) (arg17.view.read (Elt F) (harg17.unread x17))))) := rfl

theorem mainRun_v : (mainRun c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 x2 x3 x4 x6 x7 x8 x9 x10 x12 x13 x14 x15 x16 x17 x18 x19 x22 x23 x24 x25 x26 x27 x28 x29 x30 fh0 fh1 arg1 v0 v2 v30 v32 v33).2.2.1 = arg24.view.read (Elt F) (arg24.view.writes (Elt F) (harg24.unread x24) (dupPieces (vCols (hAll v30 (arg3.view.read (Elt F) (harg3.unread x3)) (arg4.view.read (Elt F) (harg4.unread x4))) (arg15.view.read (Elt F) (harg15.unread x15)) (arg17.view.read (Elt F) (harg17.unread x17))))) := rfl

set_option maxHeartbeats 8000000 in
theorem mainRun_out :
    let h := hAll v30 (arg3.view.read (Elt F) (harg3.unread x3)) (arg4.view.read (Elt F) (harg4.unread x4))
    let X15 := (arg15.view.read (Elt F) (harg15.unread x15))
    let X17 := (arg17.view.read (Elt F) (harg17.unread x17))
    let Q := arg22.view.read (Elt F) (arg22.view.writes (Elt F) arg22.view.junk (qPieces v32 v33 (arg3.view.read (Elt F) (harg3.unread x3)) (arg4.view.read (Elt F) (harg4.unread x4)) X15 X17))
    let K0 := arg23.view.read (Elt F) (arg23.view.writes (Elt F) (harg23.unread x23) (dupPieces (kCols h X15 X17)))
    let K1 := arg23.view.read (Elt F) (arg23.view.writes (Elt F) arg23.view.junk (dupPieces (kCols h X15 X17)))
    let V0 := arg24.view.read (Elt F) (arg24.view.writes (Elt F) (harg24.unread x24) (dupPieces (vCols h X15 X17)))
    let V1 := arg24.view.read (Elt F) (arg24.view.writes (Elt F) arg24.view.junk (dupPieces (vCols h X15 X17)))
    let U := arg25.view.read (Elt F) (arg25.view.writes (Elt F) arg25.view.junk (colPieces (geluT (pT h X15 X17 5)) (geluT (pT h X15 X17 6))))
    let VL := arg26.view.read (Elt F) (arg26.view.writes (Elt F) arg26.view.junk (vlPieces h X15 X17 (arg7.view.read (Elt F) (harg7.unread x7)) (arg8.view.read (Elt F) (harg8.unread x8))))
    let GS := arg27.view.read (Elt F) (arg27.view.writes (Elt F) arg27.view.junk (colPieces (siluT (pT h X15 X17 9)) (siluT (pT h X15 X17 10))))
    let M := arg28.view.read (Elt F) (arg28.view.writes (Elt F) arg28.view.junk
      (mixPieces v0 v2 (Scalar.cmpi .sgt arg1 0#32) (arg2.view.read (Elt F) (harg2.unread x2)) Q K0 K1 V0 V1 (cat2 (siluT (pT h X15 X17 3)) (siluT (pT h X15 X17 4))) U VL GS (arg29.view.read (Elt F) (harg29.unread x29)) (arg30.view.read (Elt F) (harg30.unread x30))))
    (mainRun c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 x2 x3 x4 x6 x7 x8 x9 x10 x12 x13 x14 x15 x16 x17 x18 x19 x22 x23 x24 x25 x26 x27 x28 x29 x30 fh0 fh1 arg1 v0 v2 v30 v32 v33).1 = arg14.view.read (Elt F) (arg14.view.writes (Elt F) (harg14.unread x14)
      [⟨Rect.unit (s := S1x1024x1024) ![0, 0, 0] S1x1024x1024.size (inbQ (by omega) (by omega) (by omega)), outT (arg3.view.read (Elt F) (harg3.unread x3)) M (arg16.view.read (Elt F) (harg16.unread x16)) (arg12.view.read (Elt F) (harg12.unread x12)) (arg13.view.read (Elt F) (harg13.unread x13))⟩]) := by
  rfl

end Whole

end Cert.KernelIdeal.Hand

end
-- ==== Proof.IdealVal.lean ====
module

public import proofs.«01_k».proof.Proof.IdealTile
public import Idealize.ShloMosaic.Lib.Pointwise

@[expose] public section

set_option maxRecDepth 16384

noncomputable section

/-! ## The layer, written on the rows -/

namespace Cert.Spec

open Idealize.ShloMosaic

/-- A normed row. -/
def rowH (x g : Fin 1024 → EReal) (d : Fin 1024) : EReal :=
  x d * Ideal.rsqrt (Ideal.div (∑ k, x k * x k) (Ideal.ofBits .f32 0x44800000#32) + Ideal.ofBits .f32 0x3727C5AC#32) * g d

/-- A row's projection. -/
def proj (h : Fin 1024 → EReal) (W : Fin 1024 → Fin 2816 → EReal) (b : Fin 2816 → EReal) (e : Fin 2816) : EReal :=
  (∑ d, h d * W d e) + b e

def siluH (z : EReal) : EReal := z * (1 + Ideal.tanh z)
def geluH (z : EReal) : EReal := z * (1 + Ideal.erf (z * Ideal.ofBits .f32 0x3FB504F3#32))

/-- A row of 512, centred, scaled to unit variance, and sent through a gain and a shift. -/
def lnorm (v lg lb : Fin 512 → EReal) (c : Fin 512) : EReal :=
  (v c - Ideal.div (∑ k, v k) (Ideal.ofBits .f32 0x44000000#32)) *
    Ideal.rsqrt (Ideal.div (∑ k, (v k - Ideal.div (∑ k, v k) (Ideal.ofBits .f32 0x44000000#32)) * (v k - Ideal.div (∑ k, v k) (Ideal.ofBits .f32 0x44000000#32))) (Ideal.ofBits .f32 0x44000000#32) + Ideal.ofBits .f32 0x3727C5AC#32) * lg c + lb c

/-- The attention of one query over 128 scores, the weights' sum divided out at the end. -/
def attK (s : Fin 128 → EReal) (sink : EReal) (v : Fin 128 → EReal) : EReal :=
  (∑ l, Ideal.exp (s l - max (Finset.univ.fold max ⊥ s) sink) * v l) *
    Ideal.div 1 ((∑ l, Ideal.exp (s l - max (Finset.univ.fold max ⊥ s) sink)) + Ideal.exp (sink - max (Finset.univ.fold max ⊥ s) sink))

/-- The last norm of a residual row. -/
def lastRow (x : Fin 1024 → EReal) (mix : Fin 1024 → EReal) (Wo : Fin 1024 → Fin 1024 → EReal) (bo fg : Fin 1024 → EReal) : Fin 1024 → EReal :=
  rowH (fun d => x d + (∑ k, mix k * Wo k d) + bo d) fg

theorem ap2 {α : Type} {n m : ℕ} (f : Fin n → Fin m → α) {a a' : Fin n} {b b' : Fin m} (h : a.val = a'.val) (h' : b.val = b'.val) : f a b = f a' b' := by
  rw [Fin.ext h, Fin.ext h']

end Cert.Spec

namespace Cert.KernelIdeal.Hand

open Cert.KernelIdeal.Gen Cert.Spec
open Idealize.ShloMosaic Idealize.ShloMosaic.TcCoe Idealize.ShloMosaic.Tactic
open Idealize.SL.Sem

theorem hCk_at (X3 : FVec Ideal S1x1024x1024 .f32) (X4 : FVec Ideal S1x1024 .f32) (k : Fin 4) (r : Fin 256) (d : Fin 1024) :
    hCk (F := Ideal) X3 X4 k (ix2 r d) = rowH (fun d => X3 (ix3 0 ⟨256 * k.val + r.val, by omega⟩ d)) (fun d => X4 (ix2 0 d)) d := by
  pointwise [hCk, k0_pay70, rowH]

theorem pay81_at (a b c d : FVec Ideal S256x1024 .bf16) (r : Fin 1024) (k : Fin 1024) (G : Fin 1024 → Fin 1024 → EReal)
    (ha : ∀ (r : Fin 256) k, a (ix2 r k) = G ⟨r.val, by omega⟩ k) (hb : ∀ (r : Fin 256) k, b (ix2 r k) = G ⟨256 + r.val, by omega⟩ k)
    (hc : ∀ (r : Fin 256) k, c (ix2 r k) = G ⟨512 + r.val, by omega⟩ k) (hd : ∀ (r : Fin 256) k, d (ix2 r k) = G ⟨768 + r.val, by omega⟩ k) :
    k0_pay81 (F := Ideal) a b c d (ix2 r k) = G r k := by
  pointwise [k0_pay81, ha, hb, hc, hd]
  by_cases h1 : r.val < 256
  · simp only [h1, ↓reduceDIte]
  simp only [h1, ↓reduceDIte]
  by_cases h2 : r.val - 256 < 256
  · simp only [h2, ↓reduceDIte]; exact ap2 G (by simp only []; omega) rfl
  simp only [h2, ↓reduceDIte]
  by_cases h3 : r.val - 256 - 256 < 256
  · simp only [h3, ↓reduceDIte]; exact ap2 G (by simp only []; omega) rfl
  simp only [h3, ↓reduceDIte]; exact ap2 G (by simp only []; omega) rfl

theorem pT_at (h : FVec Ideal S1024x1024 .bf16) (X15 : FVec Ideal S1024x2816 .bf16) (X17 : FVec Ideal S1x2816 .f32) (n : Fin 11) (r : Fin 1024) (c : Fin 256) :
    pT (F := Ideal) h X15 X17 n (ix2 r c) = proj (fun d => h (ix2 r d)) (fun d e => X15 (ix2 d e)) (fun e => X17 (ix2 0 e)) ⟨256 * n.val + c.val, by omega⟩ := by
  pointwise [pT, proj]
  by_cases h1 : r.val < 512
  · simp only [h1, ↓reduceDIte]
  simp only [h1, ↓reduceDIte]
  exact congrArg (fun r => (∑ x, h (ix2 r x) * X15 (ix2 x ⟨256 * n.val + c.val, by omega⟩)) + X17 (ix2 0 ⟨256 * n.val + c.val, by omega⟩)) (Fin.ext (by simp only []; omega))

theorem siluT_at (z : FVec Ideal S1024x256 .f32) (r : Fin 1024) (c : Fin 256) : siluT (F := Ideal) z (ix2 r c) = siluH (z (ix2 r c)) := by
  pointwise [siluT, siluH]
theorem geluT_at (z : FVec Ideal S1024x256 .f32) (r : Fin 1024) (c : Fin 256) : geluT (F := Ideal) z (ix2 r c) = geluH (z (ix2 r c)) := by
  pointwise [geluT, geluH]
  rfl
theorem cat2_at (a b : FVec Ideal S1024x256 .f32) (r : Fin 1024) (c : Fin 512) (G : Fin 1024 → Fin 512 → EReal)
    (ha : ∀ r (c : Fin 256), a (ix2 r c) = G r ⟨c.val, by omega⟩) (hb : ∀ r (c : Fin 256), b (ix2 r c) = G r ⟨256 + c.val, by omega⟩) :
    cat2 (F := Ideal) a b (ix2 r c) = G r c := by
  pointwise [cat2, ha, hb]
  by_cases h1 : c.val < 256
  · simp only [h1, ↓reduceDIte]
  simp only [h1, ↓reduceDIte]; exact ap2 G rfl (by simp only []; omega)

theorem pay72_at (a : FVec Ideal S256x512 .f32) (b : FVec Ideal S1x512 .f32) (r : Fin 256) (c : Fin 512) :
    k0_pay72 (F := Ideal) a b (ix2 r c) = a (ix2 r c) + b (ix2 0 c) := by
  pointwise [k0_pay72]

theorem pay80_at (h : FVec Ideal S256x1024 .bf16) (w : FVec Ideal S1024x512 .bf16) (b : FVec Ideal S1x512 .f32) (r : Fin 256) (c : Fin 512) :
    k0_pay80 (F := Ideal) h w b (ix2 r c) = (∑ d, h (ix2 r d) * w (ix2 d c)) + b (ix2 0 c) := by
  pointwise [k0_pay80]

theorem pay90_at (t : FVec Ideal S1024x128 .f32) (r : Fin 1024) (l : Fin 128) :
    k0_pay90 (F := Ideal) k0_pay83 t (ix3 0 r l) = t (ix2 r ⟨l.val % 64, by omega⟩) := by
  pointwise [k0_pay90, k0_pay83, k0_pay89, hlo_ix]
  word_cmp
  split
  · exact congrArg (fun k => t (ix2 r k)) (Fin.ext (by simp only []; omega))
  · exact congrArg (fun k => t (ix2 r k)) (Fin.ext (by simp only []; omega))

theorem pay91_at (t : FVec Ideal S1024x128 .f32) (r : Fin 1024) (l : Fin 128) :
    k0_pay91 (F := Ideal) k0_pay83 t (ix3 0 r l) = t (ix2 r ⟨64 + l.val % 64, by omega⟩) := by
  pointwise [k0_pay91, k0_pay83, k0_pay89, hlo_ix]
  word_cmp
  split
  · exact congrArg (fun k => t (ix2 r k)) (Fin.ext (by simp only []; omega))
  · exact congrArg (fun k => t (ix2 r k)) (Fin.ext (by simp only []; omega))

theorem ln_at (a b : FVec Ideal S1024x256 .f32) (lg lb : FVec Ideal S1x512 .f32) (r : Fin 1024) (c : Fin 512) :
    k0_pay392 (F := Ideal) (k0_pay390 a b lg) (k0_pay391 lb) (ix2 r c) = lnorm (fun c => cat2 (F := Ideal) a b (ix2 r c)) (fun c => lg (ix2 0 c)) (fun c => lb (ix2 0 c)) c := by
  pointwise [k0_pay392, k0_pay390, k0_pay391, lnorm, cat2]

theorem outT_at (X3 : FVec Ideal S1x1024x1024 .f32) (M X16 : FVec Ideal S1024x1024 .bf16) (X12 X13 : FVec Ideal S1x1024 .f32) (r d : Fin 1024) :
    outT (F := Ideal) X3 M X16 X12 X13 (ix3 0 r d) = lastRow (fun d => X3 (ix3 0 r d)) (fun d => M (ix2 r d)) (fun k d => X16 (ix2 k d)) (fun d => X12 (ix2 0 d)) (fun d => X13 (ix2 0 d)) d := by
  pointwise [outT, k0_pay1, k0_pay594, lastRow, rowH]

/-! ## The attention's and the gating unit's pieces -/

theorem low_at (i l : Fin 128) : k0_pay60 (ix2 i l) = BitVec.ofBool (decide (l.val < 64)) := by
  pointwise [k0_pay60]
  word_cmp

/-- The lanes of the loop's counter of columns. -/
abbrev lanes : IVec S128x128 32 := iota .tc S128x128 32 [1] iota_S128x128_d1_w32

theorem prev_at (i l : Fin 128) : k0_pay93 lanes (ix2 i l) = BitVec.ofBool (decide (i.val < l.val)) := by
  pointwise [k0_pay93, lanes]
  word_cmp

theorem prev4_at (r : Fin 512) (l : Fin 128) : k0_pay94 lanes (ix2 r l) = BitVec.ofBool (decide (r.val % 128 < l.val)) := by
  pointwise [k0_pay94, prev_at]
  by_cases h1 : r.val < 128
  · simp only [h1, ↓reduceDIte]; rw [Nat.mod_eq_of_lt h1]
  simp only [h1, ↓reduceDIte]
  by_cases h2 : r.val - 128 < 128
  · simp only [h2, ↓reduceDIte]; rw [show r.val % 128 = r.val - 128 by omega]
  simp only [h2, ↓reduceDIte]
  by_cases h3 : r.val - 128 - 128 < 128
  · simp only [h3, ↓reduceDIte]; rw [show r.val % 128 = r.val - 128 - 128 by omega]
  simp only [h3, ↓reduceDIte]; rw [show r.val % 128 = r.val - 128 - 128 - 128 by omega]

theorem stackQ_at (qa qb : FVec Ideal S128x128 .bf16) (r : Fin 512) (d : Fin 128) :
    stackQ (F := Ideal) k0_pay60 qa qb (ix2 r d) = if (r.val / 128 % 2 = 0 ↔ d.val < 64) then (if r.val < 256 then qa else qb) (ix2 ⟨r.val % 128, by omega⟩ d) else 0 := by
  pointwise [stackQ, low_at]
  have e : ∀ {x y : Fin 128} (f : FVec Ideal S128x128 .bf16), x.val = y.val → f (ix2 x d) = f (ix2 y d) := fun f h => by rw [Fin.ext h]
  have nx : ∀ (p : Prop) [Decidable p] (a : EReal), Scalar.select (IntOp.xori (BitVec.ofBool (decide p)) 1#1) a 0 = if p then 0 else a := by
    intro p _ a
    by_cases h : p <;> simp [h, Scalar.select, IntOp.xori]
  simp only [nx]
  by_cases h1 : r.val < 128
  · simp only [h1, ↓reduceDIte, show r.val / 128 % 2 = 0 by omega, true_iff, show r.val < 256 by omega, ↓reduceIte]
    split
    · exact e qa (by simp only []; omega)
    · rfl
  simp only [h1, ↓reduceDIte]
  by_cases h2 : r.val - 128 < 128
  · simp only [h2, ↓reduceDIte, show r.val / 128 % 2 = 1 by omega, one_ne_zero, false_iff, show r.val < 256 by omega, ↓reduceIte]
    by_cases h : d.val < 64
    · simp only [h, ↓reduceIte, not_true_eq_false]
    · simp only [h, ↓reduceIte, not_false_eq_true]; exact e qa (by simp only []; omega)
  simp only [h2, ↓reduceDIte]
  by_cases h3 : r.val - 128 - 128 < 128
  · simp only [h3, ↓reduceDIte, show r.val / 128 % 2 = 0 by omega, true_iff, show ¬ r.val < 256 by omega, ↓reduceIte]
    split
    · exact e qb (by simp only []; omega)
    · rfl
  simp only [h3, ↓reduceDIte, show r.val / 128 % 2 = 1 by omega, one_ne_zero, false_iff, show ¬ r.val < 256 by omega, ↓reduceIte]
  by_cases h : d.val < 64
  · simp only [h, ↓reduceIte, not_true_eq_false]
  · simp only [h, ↓reduceIte, not_false_eq_true]; exact e qb (by simp only []; omega)

theorem matS_at (qa qb : FVec Ideal S128x128 .bf16) (kb : FVec Ideal S1x256x128 .bf16) (r : Fin 512) (k : Fin 256) :
    matS (F := Ideal) k0_pay60 qa qb kb (ix2 r k) = ∑ d : Fin 64, (if r.val < 256 then qa else qb) (ix2 ⟨r.val % 128, by omega⟩ ⟨64 * (r.val / 128 % 2) + d.val, by omega⟩) * kb (ix3 0 k ⟨64 * (r.val / 128 % 2) + d.val, by omega⟩) := by
  pointwise [matS, stackQ_at]
  rcases Nat.mod_two_eq_zero_or_one (r.val / 128) with h | h
  · simp only [h, iff_true, iff_false, not_true_eq_false, ↓reduceIte, zero_mul, Finset.sum_const_zero, add_zero, Nat.mul_zero, Nat.zero_add]
  · simp only [h, iff_true, iff_false, one_ne_zero, not_false_eq_true, ↓reduceIte, zero_mul, Finset.sum_const_zero, zero_add, Nat.mul_one]

/-- The buffer row of a key, from its lane. -/
def keyOf (i l : Fin 128) : Fin 256 := if i.val < l.val then ⟨l.val, by omega⟩ else ⟨128 + l.val, by omega⟩

theorem score1_at (qa qb : FVec Ideal S128x128 .bf16) (kb : FVec Ideal S1x256x128 .bf16) (g : Fin 4) (i l : Fin 128) :
    sG (F := Ideal) (score1 k0_pay60 (k0_pay94 lanes) qa qb kb) g (ix2 i l) = matS (F := Ideal) k0_pay60 qa qb kb (ix2 ⟨128 * g.val + i.val, by omega⟩ (keyOf i l)) := by
  pointwise [sG, score1, prev4_at, keyOf]
  rw [show (128 * g.val + i.val) % 128 = i.val by omega]
  split <;> rfl

theorem score0_at (hp : Bool) (qa qb : FVec Ideal S128x128 .bf16) (kb : FVec Ideal S1x256x128 .bf16) (g : Fin 4) (i l : Fin 128) :
    sG (F := Ideal) (score0 k0_pay60 (k0_pay94 lanes) (BitVec.ofBool hp) qa qb kb) g (ix2 i l) = if i.val < l.val ∧ hp = false then ⊥ else matS (F := Ideal) k0_pay60 qa qb kb (ix2 ⟨128 * g.val + i.val, by omega⟩ (keyOf i l)) := by
  pointwise [sG, score0, prev4_at, keyOf]
  rw [show (128 * g.val + i.val) % 128 = i.val by omega]
  cases hp <;> by_cases h : i.val < l.val <;> simp only [h, ↓reduceIte, true_and, false_and, and_false, and_true, Bool.false_eq_true, reduceCtorEq]
  · rfl
  · pointwise []

theorem ppG_at (sc : FVec Ideal S512x128 .f32) (g : Fin 4) (s : EReal) (i : Fin 128) (k : Fin 256) :
    ppG (F := Ideal) (k0_pay93 lanes) sc g s (ix2 i k) = if h : k.val < 128 then (if i.val < k.val then pG (F := Ideal) sc g s (ix2 i ⟨k.val, h⟩) else 0) else (if i.val < k.val - 128 then 0 else pG (F := Ideal) sc g s (ix2 i ⟨k.val - 128, by omega⟩)) := by
  pointwise [ppG, prev_at]

theorem cat4_at (a b c d : FVec Ideal S128x256 .bf16) (r : Fin 512) (k : Fin 256) (G : Fin 512 → Fin 256 → EReal)
    (ha : ∀ (r : Fin 128) k, a (ix2 r k) = G ⟨r.val, by omega⟩ k) (hb : ∀ (r : Fin 128) k, b (ix2 r k) = G ⟨128 + r.val, by omega⟩ k)
    (hc : ∀ (r : Fin 128) k, c (ix2 r k) = G ⟨256 + r.val, by omega⟩ k) (hd : ∀ (r : Fin 128) k, d (ix2 r k) = G ⟨384 + r.val, by omega⟩ k) :
    concatenate S512x256 0 [⟨S128x256, a⟩, ⟨S128x256, b⟩, ⟨S128x256, c⟩, ⟨S128x256, d⟩] concatenates_S128x256_S128x256_S128x256_S128x256_S512x256_d0 (ix2 r k) = G r k := by
  pointwise [ha, hb, hc, hd]
  by_cases h1 : r.val < 128
  · simp only [h1, ↓reduceDIte]
  simp only [h1, ↓reduceDIte]
  by_cases h2 : r.val - 128 < 128
  · simp only [h2, ↓reduceDIte]; exact ap2 G (by simp only []; omega) rfl
  simp only [h2, ↓reduceDIte]
  by_cases h3 : r.val - 128 - 128 < 128
  · simp only [h3, ↓reduceDIte]; exact ap2 G (by simp only []; omega) rfl
  simp only [h3, ↓reduceDIte]; exact ap2 G (by simp only []; omega) rfl

/-- The four heads' weights, stacked. -/
def ppAll (sc : FVec Ideal S512x128 .f32) (s : Fin 4 → EReal) (r : Fin 512) (k : Fin 256) : EReal :=
  ppG (F := Ideal) (k0_pay93 lanes) sc ⟨r.val / 128, by omega⟩ (s ⟨r.val / 128, by omega⟩) (ix2 ⟨r.val % 128, by omega⟩ k)

theorem ppAll_at (sc : FVec Ideal S512x128 .f32) (s : Fin 4 → EReal) (g : Fin 4) (i : Fin 128) (k : Fin 256) (r : Fin 512) (hr : r.val = 128 * g.val + i.val) :
    ppG (F := Ideal) (k0_pay93 lanes) sc g (s g) (ix2 i k) = ppAll sc s r k := by
  have h1 : (⟨r.val / 128, by omega⟩ : Fin 4) = g := Fin.ext (by simp only []; omega)
  have h2 : (⟨r.val % 128, by omega⟩ : Fin 128) = i := Fin.ext (by simp only []; omega)
  unfold ppAll
  rw [h1, h2]

theorem oU_at (sc : FVec Ideal S512x128 .f32) (s : Fin 4 → EReal) (vb : FVec Ideal S1x256x128 .bf16) (g : Fin 4) (i l : Fin 128) :
    oU (F := Ideal) (k0_pay93 lanes) sc s vb (ix2 ⟨128 * g.val + i.val, by omega⟩ l) = ∑ k, pG (F := Ideal) sc g (s g) (ix2 i k) * vb (ix3 0 (keyOf i k) l) := by
  have hc := fun (r : Fin 512) (k : Fin 256) => cat4_at (ppG (F := Ideal) (k0_pay93 lanes) sc 0 (s 0)) (ppG (F := Ideal) (k0_pay93 lanes) sc 1 (s 1)) (ppG (F := Ideal) (k0_pay93 lanes) sc 2 (s 2)) (ppG (F := Ideal) (k0_pay93 lanes) sc 3 (s 3)) r k (ppAll sc s)
    (fun r k => ppAll_at sc s 0 r k _ (by simp)) (fun r k => ppAll_at sc s 1 r k _ (by simp)) (fun r k => ppAll_at sc s 2 r k _ (by simp)) (fun r k => ppAll_at sc s 3 r k _ (by simp))
  unfold oU
  generalize concatenate S512x256 0 _ _ = A at hc ⊢
  have hA : ∀ k, A (ix2 ⟨128 * g.val + i.val, by omega⟩ k) = ppG (F := Ideal) (k0_pay93 lanes) sc g (s g) (ix2 i k) := fun k => (hc _ k).trans (ppAll_at sc s g i k _ rfl).symm
  have hs : matmul (F := Ideal) dot_S512x256_S256x128_S512x128_1_0_0_1_n_n none A (shapeCast S256x128 vb shapeCasts_S1x256x128_S256x128) (constant S512x128 .f32 0x00000000#32) (ix2 ⟨128 * g.val + i.val, by omega⟩ l)
      = ∑ k : Fin 256, A (ix2 ⟨128 * g.val + i.val, by omega⟩ k) * vb (ix3 0 k l) := by pointwise []
  refine hs.trans ?_
  rw [Fin.sum_univ_two_halves 128 128 rfl, ← Finset.sum_add_distrib]
  refine Finset.sum_congr rfl fun x _ => ?_
  rw [hA, hA, ppG_at, ppG_at]
  unfold keyOf
  by_cases h : i.val < x.val
  · simp [h]
  · simp [h]

theorem oG_at (sc : FVec Ideal S512x128 .f32) (s : Fin 4 → EReal) (vb : FVec Ideal S1x256x128 .bf16) (g : Fin 4) (i l : Fin 128) :
    oG (F := Ideal) (k0_pay93 lanes) sc s vb g (ix2 i l) = attK (fun l => sG (F := Ideal) sc g (ix2 i l)) (s g) (fun k => vb (ix3 0 (keyOf i k) l)) := by
  pointwise [oG, oU_at, iG, pG, mG, attK]
  rw [show Ideal.ofBits .f32 4286578688#32 = ⊥ from by simp [Ideal.ofBits, Ideal.ieee]]

theorem attO_at (sc : FVec Ideal S512x128 .f32) (s : Fin 4 → EReal) (vb : FVec Ideal S1x256x128 .bf16) (c2 : Fin 2) (i l : Fin 128) :
    attO (F := Ideal) k0_pay60 (k0_pay93 lanes) sc s vb c2 (ix2 i l) = oG (F := Ideal) (k0_pay93 lanes) sc s vb ⟨2 * c2.val + l.val / 64, by omega⟩ (ix2 i l) := by
  pointwise [attO, low_at]
  split
  · exact congrArg (fun g => oG (F := Ideal) (k0_pay93 lanes) sc s vb g (ix2 i l)) (Fin.ext (by simp only []; omega))
  · exact congrArg (fun g => oG (F := Ideal) (k0_pay93 lanes) sc s vb g (ix2 i l)) (Fin.ext (by simp only []; omega))

theorem mixA_at (GA : FVec Ideal S1024x512 .f32) (j : Fin 8) (k : Fin 4) (o : FVec Ideal S128x128 .f32) (i l : Fin 128) :
    mixA (F := Ideal) GA j k o (ix2 i l) = o (ix2 i l) * GA (ix2 ⟨128 * j.val + i.val, by omega⟩ ⟨128 * k.val + l.val, by omega⟩) := by
  pointwise [mixA]

theorem pay593_at (vl : FVec Ideal S128x128 .bf16) (w : FVec Ideal S1x128x256 .bf16) (b u g : FVec Ideal S128x128 .f32) (i l : Fin 128) :
    k0_pay593 (F := Ideal) k0_pay60 vl w b u g (ix2 i l)
      = u (ix2 i l) * ((∑ t : Fin 128, w (ix3 0 i ⟨128 * (l.val / 64) + t.val, by omega⟩) * vl (ix2 t l)) + b (ix2 i l)) * g (ix2 i l) := by
  pointwise [k0_pay593, low_at]
  by_cases h : l.val < 64
  · simp only [h, ↓reduceIte, mul_zero, Finset.sum_const_zero, add_zero, show l.val / 64 = 0 by omega, Nat.mul_zero, Nat.zero_add]
  · simp only [h, ↓reduceIte, mul_zero, Finset.sum_const_zero, zero_add, show l.val / 64 = 1 by omega, Nat.mul_one]

end Cert.KernelIdeal.Hand

end
-- ==== Proof.IdealTileVal.lean ====
module

public import proofs.«01_k».proof.Proof.IdealVal

@[expose] public section

set_option maxRecDepth 16384

noncomputable section

namespace Cert.Spec

open Idealize.ShloMosaic

/-- The row, in the halo and the tile, of the key in lane `l` of the query in row `r`. -/
def keyRow (r : Fin 1024) (l : Fin 128) : Fin 1152 := ⟨128 * (r.val / 128) + (if r.val % 128 < l.val then l.val else 128 + l.val), by split <;> omega⟩

/-- The attention of a tile's rows, over the halo and the tile. -/
def tileAtt (hp : Bool) (Q : Fin 1024 → Fin 2816 → EReal) (KB VB : Fin 2 → Fin 1152 → Fin 64 → EReal) (sink : Fin 8 → EReal) (r : Fin 1024) (c : Fin 512) : EReal :=
  attK (fun l => if r.val % 128 < l.val ∧ r.val / 128 = 0 ∧ hp = false then ⊥ else
      ∑ d : Fin 64, Q r ⟨64 * (c.val / 64) + d.val, by omega⟩ * KB ⟨c.val / 256, by omega⟩ (keyRow r l) d)
    (sink ⟨c.val / 64, by omega⟩) (fun l => VB ⟨c.val / 256, by omega⟩ (keyRow r l) ⟨c.val % 64, by omega⟩)

/-- The mixed rows of a tile. -/
def tileMix (hp : Bool) (P : Fin 1024 → Fin 2816 → EReal) (KB VB : Fin 2 → Fin 1152 → Fin 64 → EReal) (sink : Fin 8 → EReal)
    (VL : Fin 1024 → Fin 512 → EReal) (SW : Fin 8 → Fin 128 → Fin 128 → EReal) (SB : Fin 8 → Fin 128 → EReal) (r c : Fin 1024) : EReal :=
  if h : c.val < 512 then tileAtt hp P KB VB sink r ⟨c.val, h⟩ * siluH (P r ⟨768 + c.val, by omega⟩)
  else geluH (P r ⟨1280 + (c.val - 512), by omega⟩) *
      ((∑ t : Fin 128, SW ⟨(c.val - 512) / 64, by omega⟩ ⟨r.val % 128, by omega⟩ t * VL ⟨128 * (r.val / 128) + t.val, by omega⟩ ⟨c.val - 512, by omega⟩)
        + SB ⟨(c.val - 512) / 64, by omega⟩ ⟨r.val % 128, by omega⟩) * siluH (P r ⟨2304 + (c.val - 512), by omega⟩)

end Cert.Spec

namespace Cert.KernelIdeal.Hand

open Cert.KernelIdeal.Gen Cert.Spec
open Idealize.ShloMosaic Idealize.ShloMosaic.TcCoe Idealize.ShloMosaic.Tactic
open Idealize.SL.Sem

/-- A tile's projections. -/
def tp (X3 : FVec Ideal S1x1024x1024 .f32) (X4 : FVec Ideal S1x1024 .f32) (X15 : FVec Ideal S1024x2816 .bf16) (X17 : FVec Ideal S1x2816 .f32) (r : Fin 1024) (e : Fin 2816) : EReal :=
  proj (rowH (fun d => X3 (ix3 0 r d)) (fun d => X4 (ix2 0 d))) (fun d e => X15 (ix2 d e)) (fun e => X17 (ix2 0 e)) e

theorem hAll_at (X3 : FVec Ideal S1x1024x1024 .f32) (X4 : FVec Ideal S1x1024 .f32) (r d : Fin 1024) :
    hAll (F := Ideal) (hCk (F := Ideal) X3 X4 0) X3 X4 (ix2 r d) = rowH (fun d => X3 (ix3 0 r d)) (fun d => X4 (ix2 0 d)) d := by
  refine pay81_at _ _ _ _ r d (fun r d => rowH (fun d => X3 (ix3 0 r d)) (fun d => X4 (ix2 0 d)) d) ?_ ?_ ?_ ?_ <;>
  · intro r d
    rw [hCk_at]
    first | rfl | exact ap2 (fun (r : Fin 1024) d => rowH (fun d => X3 (ix3 0 r d)) (fun d => X4 (ix2 0 d)) d) (by simp) rfl

theorem pT_tp (X3 : FVec Ideal S1x1024x1024 .f32) (X4 : FVec Ideal S1x1024 .f32) (X15 : FVec Ideal S1024x2816 .bf16) (X17 : FVec Ideal S1x2816 .f32) (n : Fin 11) (r : Fin 1024) (c : Fin 256) :
    pT (F := Ideal) (hAll (F := Ideal) (hCk (F := Ideal) X3 X4 0) X3 X4) X15 X17 n (ix2 r c) = tp X3 X4 X15 X17 r ⟨256 * n.val + c.val, by omega⟩ := by
  rw [pT_at]
  unfold tp
  exact congrArg (fun h => proj h _ _ _) (funext fun d => hAll_at X3 X4 r d)

theorem mem2 {A B p q r k : ℕ} {inb} (y : (⟨2, ![A, B]⟩ : Shape).Idx) (h0 : r ≤ (y 0).val ∧ (y 0).val < r + p) (h1 : k ≤ (y 1).val ∧ (y 1).val < k + q) :
    y ∈ (Rect.unit (s := ⟨2, ![A, B]⟩) ![r, k] (⟨2, ![p, q]⟩ : Shape).size inb).set :=
  Rect.mem_set_unit.2 (by intro a; fin_cases a <;> assumption)

theorem mem3 {A B C p q u r k l : ℕ} {inb} (y : (⟨3, ![A, B, C]⟩ : Shape).Idx) (h0 : r ≤ (y 0).val ∧ (y 0).val < r + p) (h1 : k ≤ (y 1).val ∧ (y 1).val < k + q) (h2 : l ≤ (y 2).val ∧ (y 2).val < l + u) :
    y ∈ (Rect.unit (s := ⟨3, ![A, B, C]⟩) ![r, k, l] (⟨3, ![p, q, u]⟩ : Shape).size inb).set :=
  Rect.mem_set_unit.2 (by intro a; fin_cases a <;> assumption)

theorem notMem3 {A B C p q u r k l : ℕ} {inb} (y : (⟨3, ![A, B, C]⟩ : Shape).Idx) (h1 : (y 1).val < k) :
    y ∉ (Rect.unit (s := ⟨3, ![A, B, C]⟩) ![r, k, l] (⟨3, ![p, q, u]⟩ : Shape).size inb).set := fun h => by
  have := (Rect.mem_set_unit.1 h 1).1
  exact absurd h1 (Nat.not_lt.2 this)

section Buffers
variable {κ' : Kind} {sp : Space}

theorem q_at (v : View sig κ' sp S1024x512 .bf16) (f : v.ty.Contents (Elt Ideal)) (X3 : FVec Ideal S1x1024x1024 .f32) (X4 : FVec Ideal S1x1024 .f32) (X15 : FVec Ideal S1024x2816 .bf16) (X17 : FVec Ideal S1x2816 .f32)
    (v32 : FVec Ideal S256x512 .f32) (hv : ∀ r c, v32 (ix2 r c) = ∑ d, hCk (F := Ideal) X3 X4 0 (ix2 r d) * wQ (F := Ideal) X15 (ix2 d c)) (r : Fin 1024) (c : Fin 512) :
    v.read (Elt Ideal) (v.writes (Elt Ideal) f (qPieces (F := Ideal) v32 (bQ (F := Ideal) X17) X3 X4 X15 X17)) (ix2 r c) = tp X3 X4 X15 X17 r ⟨c.val, by omega⟩ := by
  have hw : ∀ d (c : Fin 512), wQ (F := Ideal) X15 (ix2 d c) = X15 (ix2 d ⟨c.val, by omega⟩) := fun d c => by pointwise [wQ]
  have hb : ∀ (c : Fin 512), bQ (F := Ideal) X17 (ix2 0 c) = X17 (ix2 0 ⟨c.val, by omega⟩) := fun c => by pointwise [bQ]
  have key : ∀ (k : Fin 4) (r : Fin 256) (c : Fin 512), (∑ d, hCk (F := Ideal) X3 X4 k (ix2 r d) * wQ (F := Ideal) X15 (ix2 d c)) + bQ (F := Ideal) X17 (ix2 0 c) = tp X3 X4 X15 X17 ⟨256 * k.val + r.val, by omega⟩ ⟨c.val, by omega⟩ := by
    intro k r c
    simp only [hw, hb, hCk_at]
    rfl
  refine v.read_writes_apply_of_pieces f (fun y => (fun (r : Fin 1024) (c : Fin 512) => tp X3 X4 X15 X17 r ⟨c.val, by omega⟩) (y 0) (y 1)) _ ?_ (ix2 r c) ?_
  · intro p hp
    simp only [qPieces, List.mem_append, List.mem_map, List.mem_cons, List.not_mem_nil, or_false] at hp
    rcases hp with ⟨k, -, rfl⟩ | rfl
    · intro x
      change S256x512.Idx at x
      idx_vars x
      refine (pay80_at _ _ _ _ _).trans ((key k _ _).trans ?_)
      exact ap2 (fun (r : Fin 1024) (c : Fin 512) => tp X3 X4 X15 X17 r ⟨c.val, by omega⟩) (by show _ = 256 * k.val + 1 * _; simp) (by show _ = 0 + 1 * _; simp)
    · intro x
      change S256x512.Idx at x
      idx_vars x
      refine (pay72_at _ _ _ _).trans ?_
      rw [hv]
      refine (key 0 _ _).trans ?_
      exact ap2 (fun (r : Fin 1024) (c : Fin 512) => tp X3 X4 X15 X17 r ⟨c.val, by omega⟩) (by show _ = 0 + 1 * _; simp) (by show _ = 0 + 1 * _; simp)
  · by_cases h : r.val < 256
    · exact ⟨_, List.mem_append_right _ (List.mem_singleton.2 rfl), mem2 (inb := inbP (by omega) (by omega)) _ ⟨Nat.zero_le _, by show r.val < 0 + 256; omega⟩ ⟨Nat.zero_le _, by show c.val < 0 + 512; omega⟩⟩
    · have hk : (⟨r.val / 256, by omega⟩ : Fin 4) ∈ ([3, 2, 1] : List (Fin 4)) := by
        have : r.val / 256 = 1 ∨ r.val / 256 = 2 ∨ r.val / 256 = 3 := by omega
        rcases this with h | h | h <;> simp [h]
      exact ⟨_, List.mem_append_left _ (List.mem_map.2 ⟨_, hk, rfl⟩), mem2 (inb := inbP (by omega) (by omega)) _ (by show 256 * (r.val / 256) ≤ r.val ∧ r.val < 256 * (r.val / 256) + 256; omega) ⟨Nat.zero_le _, by show c.val < 0 + 512; omega⟩⟩

theorem dup_at (v : View sig κ' sp S2x1152x128 .bf16) (f : v.ty.Contents (Elt Ideal)) (t : FVec Ideal S1024x128 .f32) (hh : Fin 2) (r : Fin 1152) (l : Fin 128) (hr : 128 ≤ r.val) :
    v.read (Elt Ideal) (v.writes (Elt Ideal) f (dupPieces (F := Ideal) t)) (ix3 hh r l) = t (ix2 ⟨r.val - 128, by omega⟩ ⟨64 * hh.val + l.val % 64, by omega⟩) := by
  refine v.read_writes_apply_of_pieces f (fun y => (fun (hh : Fin 2) (r : Fin 1152) (l : Fin 128) => t (ix2 ⟨r.val - 128, by omega⟩ ⟨64 * hh.val + l.val % 64, by omega⟩)) (y 0) (y 1) (y 2)) _ ?_ (ix3 hh r l) ?_
  · intro p hp
    simp only [dupPieces, List.mem_cons, List.not_mem_nil, or_false] at hp
    have e : ∀ {a a' : Fin 1024} {b b' : Fin 128}, a.val = a'.val → b.val = b'.val → t (ix2 a b) = t (ix2 a' b') := fun h h' => by rw [Fin.ext h, Fin.ext h']
    rcases hp with rfl | rfl <;>
    · intro x
      change S1x1024x128.Idx at x
      idx_vars x
      obtain rfl : x0 = 0 := Subsingleton.elim _ _
      first
        | exact (pay91_at _ _ _).trans (e (by show x1.val = 128 + 1 * x1.val - 128; omega) (by show 64 + x2.val % 64 = 64 * (1 + 1 * 0) + (0 + 1 * x2.val) % 64; omega))
        | exact (pay90_at _ _ _).trans (e (by show x1.val = 128 + 1 * x1.val - 128; omega) (by show x2.val % 64 = 64 * (0 + 1 * 0) + (0 + 1 * x2.val) % 64; omega))
  · have h2 : hh = 0 ∨ hh = 1 := by omega
    rcases h2 with rfl | rfl
    · exact ⟨_, List.mem_cons_of_mem _ (List.mem_singleton.2 rfl), mem3 (inb := inbQ (by omega) (by omega) (by omega)) _ ⟨Nat.le_refl _, by show 0 < 0 + 1; omega⟩ ⟨hr, by show r.val < 128 + 1024; omega⟩ ⟨Nat.zero_le _, by show l.val < 0 + 128; omega⟩⟩
    · exact ⟨_, List.mem_cons_self, mem3 (inb := inbQ (by omega) (by omega) (by omega)) _ ⟨Nat.le_refl _, by show 1 < 1 + 1; omega⟩ ⟨hr, by show r.val < 128 + 1024; omega⟩ ⟨Nat.zero_le _, by show l.val < 0 + 128; omega⟩⟩

theorem dup_halo (v : View sig κ' sp S2x1152x128 .bf16) (f : v.ty.Contents (Elt Ideal)) (t : FVec Ideal S1024x128 .f32) (hh : Fin 2) (r : Fin 1152) (l : Fin 128) (hr : r.val < 128) :
    v.read (Elt Ideal) (v.writes (Elt Ideal) f (dupPieces (F := Ideal) t)) (ix3 hh r l) = v.read (Elt Ideal) f (ix3 hh r l) := by
  refine v.read_writes_apply_of_forall_not_mem f (ix3 hh r l) _ ?_
  intro p hp
  simp only [dupPieces, List.mem_cons, List.not_mem_nil, or_false] at hp
  rcases hp with rfl | rfl <;> exact notMem3 (inb := inbQ (by omega) (by omega) (by omega)) _ hr

theorem col_at (v : View sig κ' sp S1024x512 .f32) (f : v.ty.Contents (Elt Ideal)) (a b : FVec Ideal S1024x256 .f32) (G : Fin 1024 → Fin 512 → EReal)
    (ha : ∀ r (c : Fin 256), a (ix2 r c) = G r ⟨c.val, by omega⟩) (hb : ∀ r (c : Fin 256), b (ix2 r c) = G r ⟨256 + c.val, by omega⟩) (r : Fin 1024) (c : Fin 512) :
    v.read (Elt Ideal) (v.writes (Elt Ideal) f (colPieces (F := Ideal) a b)) (ix2 r c) = G r c := by
  have hc : ∀ (z : FVec Ideal S1024x256 .f32) r c, cast256 (F := Ideal) z (ix2 r c) = z (ix2 r c) := fun z r c => by pointwise [cast256]
  refine v.read_writes_apply_of_pieces f (fun y => G (y 0) (y 1)) _ ?_ (ix2 r c) ?_
  · intro p hp
    simp only [colPieces, List.mem_cons, List.not_mem_nil, or_false] at hp
    rcases hp with rfl | rfl <;>
    · intro x
      change S1024x256.Idx at x
      idx_vars x
      first
        | exact ((hc _ _ _).trans (hb _ _)).trans (ap2 G (by show _ = 0 + 1 * _; simp) (by show _ = 256 + 1 * _; simp))
        | exact ((hc _ _ _).trans (ha _ _)).trans (ap2 G (by show _ = 0 + 1 * _; simp) (by show _ = 0 + 1 * _; simp))
  · by_cases h : c.val < 256
    · exact ⟨_, List.mem_cons_of_mem _ (List.mem_singleton.2 rfl), mem2 (inb := inbP (by omega) (by omega)) _ ⟨Nat.zero_le _, by show r.val < 0 + 1024; omega⟩ ⟨Nat.zero_le _, by show c.val < 0 + 256; omega⟩⟩
    · exact ⟨_, List.mem_cons_self, mem2 (inb := inbP (by omega) (by omega)) _ ⟨Nat.zero_le _, by show r.val < 0 + 1024; omega⟩ ⟨by show 256 ≤ c.val; omega, by show c.val < 256 + 256; omega⟩⟩

theorem vl_at (v : View sig κ' sp S1024x512 .bf16) (f : v.ty.Contents (Elt Ideal)) (h : FVec Ideal S1024x1024 .bf16) (X15 : FVec Ideal S1024x2816 .bf16) (X17 : FVec Ideal S1x2816 .f32) (X7 X8 : FVec Ideal S1x512 .f32)
    (G : Fin 1024 → Fin 512 → EReal) (ha : ∀ r (c : Fin 256), geluT (F := Ideal) (pT (F := Ideal) h X15 X17 7) (ix2 r c) = G r ⟨c.val, by omega⟩)
    (hb : ∀ r (c : Fin 256), geluT (F := Ideal) (pT (F := Ideal) h X15 X17 8) (ix2 r c) = G r ⟨256 + c.val, by omega⟩) (r : Fin 1024) (c : Fin 512) :
    v.read (Elt Ideal) (v.writes (Elt Ideal) f (vlPieces (F := Ideal) h X15 X17 X7 X8)) (ix2 r c) = lnorm (G r) (fun c => X7 (ix2 0 c)) (fun c => X8 (ix2 0 c)) c := by
  have h7 : ∀ c, (View.ld (X7 : Vec Ideal S1x512 .f32) (Rect.unit (s := S1x512) ![0, 0] S1x512.size (inbP (by omega) (by omega))) : Vec Ideal S1x512 .f32) (ix2 0 c) = X7 (ix2 0 c) := fun c => by pointwise []
  have h8 : ∀ c, (View.ld (X8 : Vec Ideal S1x512 .f32) (Rect.unit (s := S1x512) ![0, 0] S1x512.size (inbP (by omega) (by omega))) : Vec Ideal S1x512 .f32) (ix2 0 c) = X8 (ix2 0 c) := fun c => by pointwise []
  refine v.read_writes_apply_of_pieces f (fun y => (fun (r : Fin 1024) (c : Fin 512) => lnorm (G r) (fun c => X7 (ix2 0 c)) (fun c => X8 (ix2 0 c)) c) (y 0) (y 1)) _ ?_ (ix2 r c) ?_
  · intro p hp
    simp only [vlPieces, List.mem_cons, List.not_mem_nil, or_false] at hp
    subst hp
    intro x
    change S1024x512.Idx at x
    idx_vars x
    refine (ln_at _ _ _ _ _ _).trans ?_
    have hcat := fun c => cat2_at (geluT (F := Ideal) (pT (F := Ideal) h X15 X17 7)) (geluT (F := Ideal) (pT (F := Ideal) h X15 X17 8)) x0 c G ha hb
    rw [funext hcat, funext h7, funext h8]
    exact ap2 (fun (r : Fin 1024) (c : Fin 512) => lnorm (G r) (fun c => X7 (ix2 0 c)) (fun c => X8 (ix2 0 c)) c) (by show _ = 0 + 1 * _; simp) (by show _ = 0 + 1 * _; simp)
  · exact ⟨_, List.mem_singleton.2 rfl, mem2 (inb := inbP (by omega) (by omega)) _ ⟨Nat.zero_le _, by show r.val < 0 + 1024; omega⟩ ⟨Nat.zero_le _, by show c.val < 0 + 512; omega⟩⟩

end Buffers

/-! ### The mixed rows -/

theorem rdA_at {e : EltTy} (X : Vec Ideal S1024x512 e) (j : Fin 8) (k : Fin 4) (i l : Fin 128) : rdA (F := Ideal) X j k (ix2 i l) = X (ix2 ⟨128 * j.val + i.val, by omega⟩ ⟨128 * k.val + l.val, by omega⟩) := by
  pointwise [rdA]

theorem rdK_at (K : FVec Ideal S2x1152x128 .bf16) (hh : Fin 2) (j : Fin 8) (k : Fin 256) (l : Fin 128) : rdK (F := Ideal) K hh j (ix3 0 k l) = K (ix3 hh ⟨128 * j.val + k.val, by omega⟩ l) := by
  pointwise [rdK]

theorem sinkOf_at (X2 : FVec Ideal S8 .f32) (k : Fin 8) : sinkOf (F := Ideal) X2 k = X2 (ix1 k) := by
  pointwise [sinkOf]

/-! What each buffer holds, in the tile's projections. -/

abbrev IsQ (Q : FVec Ideal S1024x512 .bf16) (P : Fin 1024 → Fin 2816 → EReal) : Prop := ∀ r (c : Fin 512), Q (ix2 r c) = P r ⟨c.val, by omega⟩
abbrev IsBuf (K : FVec Ideal S2x1152x128 .bf16) (KB : Fin 2 → Fin 1152 → Fin 64 → EReal) : Prop := ∀ hh r (l : Fin 128), K (ix3 hh r l) = KB hh r ⟨l.val % 64, by omega⟩
abbrev IsBufT (K : FVec Ideal S2x1152x128 .bf16) (KB : Fin 2 → Fin 1152 → Fin 64 → EReal) : Prop := ∀ hh (r : Fin 1152) (l : Fin 128), 128 ≤ r.val → K (ix3 hh r l) = KB hh r ⟨l.val % 64, by omega⟩
abbrev IsGA (GA : FVec Ideal S1024x512 .f32) (P : Fin 1024 → Fin 2816 → EReal) : Prop := ∀ r (c : Fin 512), GA (ix2 r c) = siluH (P r ⟨768 + c.val, by omega⟩)
abbrev IsU (U : FVec Ideal S1024x512 .f32) (P : Fin 1024 → Fin 2816 → EReal) : Prop := ∀ r (c : Fin 512), U (ix2 r c) = geluH (P r ⟨1280 + c.val, by omega⟩)
abbrev IsGS (GS : FVec Ideal S1024x512 .f32) (P : Fin 1024 → Fin 2816 → EReal) : Prop := ∀ r (c : Fin 512), GS (ix2 r c) = siluH (P r ⟨2304 + c.val, by omega⟩)
abbrev IsW (X29 : FVec Ideal S4x128x256 .bf16) (SW : Fin 8 → Fin 128 → Fin 128 → EReal) : Prop := ∀ (p : Fin 4) i (h : Fin 2) (t : Fin 128), X29 (ix3 p i ⟨128 * h.val + t.val, by omega⟩) = SW ⟨2 * p.val + h.val, by omega⟩ i t
abbrev IsB (X30 : FVec Ideal S128x512 .f32) (SB : Fin 8 → Fin 128 → EReal) : Prop := ∀ i (c : Fin 512), X30 (ix2 i c) = SB ⟨c.val / 64, by omega⟩ i

section Mix
variable (hp : Bool) (Q : FVec Ideal S1024x512 .bf16) (K0 K1 V0 V1 : FVec Ideal S2x1152x128 .bf16) (P : Fin 1024 → Fin 2816 → EReal) (KB VB : Fin 2 → Fin 1152 → Fin 64 → EReal)
  (hQ : IsQ Q P)
  (hK0 : IsBuf K0 KB) (hK1 : IsBufT K1 KB)
  (hV0 : IsBuf V0 VB) (hV1 : IsBufT V1 VB)

include hV0 hV1 in
theorem vbU_at (j : Fin 8) (hh : Fin 2) (k : Fin 256) (l : Fin 128) : vbU (F := Ideal) V0 V1 j hh (ix3 0 k l) = VB hh ⟨128 * j.val + k.val, by omega⟩ ⟨l.val % 64, by omega⟩ := by
  obtain ⟨j, hj⟩ := j
  cases j with
  | zero => exact (rdK_at V0 hh _ k l).trans (hV0 _ _ _)
  | succ j => exact (rdK_at V1 hh _ k l).trans (hV1 _ _ _ (by show 128 ≤ 128 * (j + 1) + k.val; omega))

include hQ in
theorem mat_at (j : Fin 8) (hh : Fin 2) (kb : FVec Ideal S1x256x128 .bf16) (hk : ∀ (k : Fin 256) (l : Fin 128), kb (ix3 0 k l) = KB hh ⟨128 * j.val + k.val, by omega⟩ ⟨l.val % 64, by omega⟩) (g : Fin 4) (i : Fin 128) (k : Fin 256) :
    matS (F := Ideal) k0_pay60 (rdA (F := Ideal) Q j ⟨2 * hh.val, by omega⟩) (rdA (F := Ideal) Q j ⟨2 * hh.val + 1, by omega⟩) kb (ix2 ⟨128 * g.val + i.val, by omega⟩ k)
      = ∑ d : Fin 64, P ⟨128 * j.val + i.val, by omega⟩ ⟨64 * (4 * hh.val + g.val) + d.val, by omega⟩ * KB hh ⟨128 * j.val + k.val, by omega⟩ d := by
  rw [matS_at]
  refine Finset.sum_congr rfl fun d _ => ?_
  refine Ideal.mul_congr ?_ ?_
  · by_cases h : g.val < 2
    · rw [if_pos (show (⟨128 * g.val + i.val, by omega⟩ : Fin 512).val < 256 by show 128 * g.val + i.val < 256; omega), rdA_at, hQ]
      exact ap2 P (by show 128 * j.val + (128 * g.val + i.val) % 128 = 128 * j.val + i.val; omega) (by show 128 * (2 * hh.val) + (64 * ((128 * g.val + i.val) / 128 % 2) + d.val) = 64 * (4 * hh.val + g.val) + d.val; omega)
    · rw [if_neg (show ¬ (⟨128 * g.val + i.val, by omega⟩ : Fin 512).val < 256 by show ¬ 128 * g.val + i.val < 256; omega), rdA_at, hQ]
      exact ap2 P (by show 128 * j.val + (128 * g.val + i.val) % 128 = 128 * j.val + i.val; omega) (by show 128 * (2 * hh.val + 1) + (64 * ((128 * g.val + i.val) / 128 % 2) + d.val) = 64 * (4 * hh.val + g.val) + d.val; omega)
  · rw [hk]
    exact congrArg _ (Fin.ext (by show (64 * ((128 * g.val + i.val) / 128 % 2) + d.val) % 64 = d.val; omega))

include hQ hK0 hK1 in
theorem scoreU_at (j : Fin 8) (hh : Fin 2) (g : Fin 4) (i l : Fin 128) :
    sG (F := Ideal) (scoreU (F := Ideal) lanes k0_pay60 (BitVec.ofBool hp) Q K0 K1 j hh) g (ix2 i l)
      = if i.val < l.val ∧ j.val = 0 ∧ hp = false then ⊥ else
          ∑ d : Fin 64, P ⟨128 * j.val + i.val, by omega⟩ ⟨64 * (4 * hh.val + g.val) + d.val, by omega⟩ * KB hh ⟨128 * j.val + (keyOf i l).val, by omega⟩ d := by
  obtain ⟨j, hj⟩ := j
  cases j with
  | zero =>
    refine (score0_at hp _ _ _ g i l).trans ?_
    refine (if_congr (by simp) rfl ?_)
    exact mat_at Q P KB hQ ⟨0, hj⟩ hh _ (fun k l => (rdK_at K0 hh _ k l).trans (hK0 _ _ _)) g i _
  | succ j =>
    refine (score1_at _ _ _ g i l).trans ?_
    rw [if_neg (by simp)]
    exact mat_at Q P KB hQ ⟨j + 1, hj⟩ hh _ (fun k l => (rdK_at K1 hh _ k l).trans (hK1 _ _ _ (by show 128 ≤ 128 * (j + 1) + k.val; omega))) g i _

variable (X2 : FVec Ideal S8 .f32) (GA : FVec Ideal S1024x512 .f32) (U : FVec Ideal S1024x512 .f32) (VL : FVec Ideal S1024x512 .bf16) (GS : FVec Ideal S1024x512 .f32) (X29 : FVec Ideal S4x128x256 .bf16) (X30 : FVec Ideal S128x512 .f32)
  (SW : Fin 8 → Fin 128 → Fin 128 → EReal) (SB : Fin 8 → Fin 128 → EReal)
  (hGA : IsGA GA P) (hU : IsU U P)
  (hGS : IsGS GS P)
  (h29 : IsW X29 SW)
  (h30 : IsB X30 SB)

include hQ hK0 hK1 hV0 hV1 hGA in
theorem attPiece_at (j : Fin 8) (hh c2 : Fin 2) (i l : Fin 128) :
    mixA (F := Ideal) GA j ⟨2 * hh.val + c2.val, by omega⟩
      (attO (F := Ideal) k0_pay60 (k0_pay93 lanes) (scoreU (F := Ideal) lanes k0_pay60 (BitVec.ofBool hp) Q K0 K1 j hh) (fun g => sinkOf (F := Ideal) X2 ⟨4 * hh.val + g.val, by omega⟩) (vbU (F := Ideal) V0 V1 j hh) c2) (ix2 i l)
    = tileMix hp P KB VB (fun h => X2 (ix1 h)) (fun r c => VL (ix2 r c)) SW SB ⟨128 * j.val + i.val, by omega⟩ ⟨128 * (2 * hh.val + c2.val) + l.val, by omega⟩ := by
  rw [mixA_at, attO_at, oG_at, hGA]
  unfold tileMix
  rw [dif_pos (show 128 * (2 * hh.val + c2.val) + l.val < 512 by omega)]
  refine Ideal.mul_congr ?_ rfl
  unfold tileAtt
  have hs : sinkOf (F := Ideal) X2 ⟨4 * hh.val + (2 * c2.val + l.val / 64), by omega⟩ = X2 (ix1 ⟨(128 * (2 * hh.val + c2.val) + l.val) / 64, by omega⟩) :=
    (sinkOf_at X2 _).trans (congrArg (fun k => X2 (ix1 k)) (Fin.ext (by show 4 * hh.val + (2 * c2.val + l.val / 64) = (128 * (2 * hh.val + c2.val) + l.val) / 64; omega)))
  have hk : ∀ k : Fin 128, (⟨128 * j.val + (keyOf i k).val, by omega⟩ : Fin 1152) = keyRow ⟨128 * j.val + i.val, by omega⟩ k := by
    intro k
    refine Fin.ext ?_
    show 128 * j.val + (keyOf i k).val = 128 * ((128 * j.val + i.val) / 128) + (if (128 * j.val + i.val) % 128 < k.val then k.val else 128 + k.val)
    rw [show (128 * j.val + i.val) % 128 = i.val by omega, show (128 * j.val + i.val) / 128 = j.val by omega]
    unfold keyOf
    split <;> rfl
  have hhe : (⟨(128 * (2 * hh.val + c2.val) + l.val) / 256, by omega⟩ : Fin 2) = hh := Fin.ext (by show (128 * (2 * hh.val + c2.val) + l.val) / 256 = hh.val; omega)
  refine congr (congr (congrArg attK (funext fun k => ?_)) hs) (funext fun k => ?_)
  · rw [scoreU_at hp Q K0 K1 P KB hQ hK0 hK1, hhe, hk]
    refine if_congr ?_ rfl ?_
    · rw [show (⟨128 * j.val + i.val, by omega⟩ : Fin 1024).val % 128 = i.val by show (128 * j.val + i.val) % 128 = i.val; omega, show (⟨128 * j.val + i.val, by omega⟩ : Fin 1024).val / 128 = j.val by show (128 * j.val + i.val) / 128 = j.val; omega]
    · refine Finset.sum_congr rfl fun d _ => Ideal.mul_congr (ap2 P rfl ?_) rfl
      show 64 * (4 * hh.val + (2 * c2.val + l.val / 64)) + d.val = 64 * ((128 * (2 * hh.val + c2.val) + l.val) / 64) + d.val
      omega
  · rw [vbU_at V0 V1 VB hV0 hV1, hhe, hk]
    exact congrArg _ (Fin.ext (by show l.val % 64 = (128 * (2 * hh.val + c2.val) + l.val) % 64; omega))

include hU hGS h29 h30 in
theorem sguPiece_at (j : Fin 8) (p : Fin 4) (i l : Fin 128) :
    (sguPiece (F := Ideal) k0_pay60 U VL GS X29 X30 j p).2 (ix2 i l)
    = tileMix hp P KB VB (fun h => X2 (ix1 h)) (fun r c => VL (ix2 r c)) SW SB ⟨128 * j.val + i.val, by omega⟩ ⟨128 * (4 + p.val) + l.val, by omega⟩ := by
  refine (pay593_at _ _ _ _ _ _ _).trans ?_
  unfold tileMix
  rw [dif_neg (show ¬ 128 * (4 + p.val) + l.val < 512 by omega), rdA_at, rdA_at, hU, hGS]
  have hW : ∀ t : Fin 256, (View.ld (X29 : Vec Ideal S4x128x256 .bf16) (Rect.unit (s := S4x128x256) ![p.val, 0, 0] S1x128x256.size (inbQ (by omega) (by omega) (by omega))) : Vec Ideal S1x128x256 .bf16) (ix3 0 i t) = X29 (ix3 p i t) := fun t => by pointwise []
  have hB : (View.ld (X30 : Vec Ideal S128x512 .f32) (Rect.unit (s := S128x512) ![0, 128 * p.val] S128x128.size (inbP (by omega) (by omega))) : Vec Ideal S128x128 .f32) (ix2 i l) = X30 (ix2 i ⟨128 * p.val + l.val, by omega⟩) := by pointwise []
  have ei : ∀ q, (⟨(128 * j.val + i.val) % 128, q⟩ : Fin 128) = i := fun q => Fin.ext (by show (128 * j.val + i.val) % 128 = i.val; omega)
  refine Ideal.mul_congr (Ideal.mul_congr (congrArg geluH (ap2 P rfl ?_)) (Ideal.add_congr (Finset.sum_congr rfl fun t _ => Ideal.mul_congr ?_ ?_) ?_)) (congrArg siluH (ap2 P rfl ?_))
  · show 1280 + (128 * p.val + l.val) = 1280 + (128 * (4 + p.val) + l.val - 512); omega
  · refine (hW _).trans ((h29 p i ⟨l.val / 64, by omega⟩ t).trans ?_)
    show _ = SW _ ⟨(128 * j.val + i.val) % 128, _⟩ t
    rw [ei]
    exact congrArg (fun h => SW h i t) (Fin.ext (by show 2 * p.val + l.val / 64 = (128 * (4 + p.val) + l.val - 512) / 64; omega))
  · rw [rdA_at]
    exact congrArg₂ (fun (a : Fin 1024) (b : Fin 512) => VL (ix2 a b)) (Fin.ext (by show 128 * j.val + t.val = 128 * ((128 * j.val + i.val) / 128) + t.val; omega)) (Fin.ext (by show 128 * p.val + l.val = 128 * (4 + p.val) + l.val - 512; omega))
  · refine hB.trans ((h30 _ _).trans ?_)
    show _ = SB _ ⟨(128 * j.val + i.val) % 128, _⟩
    rw [ei]
    exact congrArg (fun h => SB h i) (Fin.ext (by show (128 * p.val + l.val) / 64 = (128 * (4 + p.val) + l.val - 512) / 64; omega))
  · show 2304 + (128 * p.val + l.val) = 2304 + (128 * (4 + p.val) + l.val - 512); omega

include hQ hK0 hK1 hV0 hV1 hGA hU hGS h29 h30 in
theorem mix_at {κ' : Kind} {sp : Space} (v : View sig κ' sp S1024x1024 .bf16) (f : v.ty.Contents (Elt Ideal)) (r c : Fin 1024) :
    v.read (Elt Ideal) (v.writes (Elt Ideal) f (mixPieces (F := Ideal) lanes k0_pay60 (BitVec.ofBool hp) X2 Q K0 K1 V0 V1 GA U VL GS X29 X30)) (ix2 r c)
      = tileMix hp P KB VB (fun h => X2 (ix1 h)) (fun r c => VL (ix2 r c)) SW SB r c := by
  have all8 : ∀ j : Fin 8, j ∈ ([0, 1, 2, 3, 4, 5, 6, 7] : List (Fin 8)).reverse := by decide
  have all4 : ∀ j : Fin 4, j ∈ ([3, 2, 1, 0] : List (Fin 4)) := by decide
  have all2 : ∀ j : Fin 2, j ∈ ([1, 0] : List (Fin 2)) := by decide
  refine v.read_writes_apply_of_pieces f (fun y => tileMix hp P KB VB (fun h => X2 (ix1 h)) (fun r c => VL (ix2 r c)) SW SB (y 0) (y 1)) _ ?_ (ix2 r c) ?_
  · intro p hp'
    simp only [mixPieces, List.mem_append, List.mem_flatMap, List.mem_map] at hp'
    rcases hp' with ⟨j, -, p, -, rfl⟩ | ⟨j, -, hh, -, c2, -, rfl⟩
    · intro x
      change S128x128.Idx at x
      idx_vars x
      refine (sguPiece_at hp P KB VB X2 U VL GS X29 X30 SW SB hU hGS h29 h30 j p _ _).trans ?_
      exact ap2 (tileMix hp P KB VB (fun h => X2 (ix1 h)) (fun r c => VL (ix2 r c)) SW SB) (by show _ = 128 * j.val + 1 * _; simp) (by show _ = 128 * (4 + p.val) + 1 * _; simp)
    · intro x
      change S128x128.Idx at x
      idx_vars x
      refine (attPiece_at hp Q K0 K1 V0 V1 P KB VB hQ hK0 hK1 hV0 hV1 X2 GA VL SW SB hGA j hh c2 _ _).trans ?_
      exact ap2 (tileMix hp P KB VB (fun h => X2 (ix1 h)) (fun r c => VL (ix2 r c)) SW SB) (by show _ = 128 * j.val + 1 * _; simp) (by show _ = 128 * (2 * hh.val + c2.val) + 1 * _; simp)
  · by_cases h : c.val < 512
    · refine ⟨_, List.mem_append_right _ (List.mem_flatMap.2 ⟨⟨r.val / 128, by omega⟩, all8 _, List.mem_flatMap.2 ⟨⟨c.val / 256, by omega⟩, all2 _, List.mem_map.2 ⟨⟨c.val / 128 % 2, by omega⟩, all2 _, rfl⟩⟩⟩), ?_⟩
      exact mem2 (inb := inbP (by omega) (by omega)) _ (by show 128 * (r.val / 128) ≤ r.val ∧ r.val < 128 * (r.val / 128) + 128; omega) (by show 128 * (2 * (c.val / 256) + c.val / 128 % 2) ≤ c.val ∧ c.val < 128 * (2 * (c.val / 256) + c.val / 128 % 2) + 128; omega)
    · refine ⟨_, List.mem_append_left _ (List.mem_flatMap.2 ⟨⟨r.val / 128, by omega⟩, all8 _, List.mem_map.2 ⟨⟨c.val / 128 - 4, by omega⟩, all4 _, rfl⟩⟩), ?_⟩
      exact mem2 (inb := inbP (by omega) (by omega)) _ (by show 128 * (r.val / 128) ≤ r.val ∧ r.val < 128 * (r.val / 128) + 128; omega) (by show 128 * (4 + (c.val / 128 - 4)) ≤ c.val ∧ c.val < 128 * (4 + (c.val / 128 - 4)) + 128; omega)

end Mix

end Cert.KernelIdeal.Hand

end
-- ==== Proof.IdealRunVal.lean ====
module

public import proofs.«01_k».proof.Proof.IdealTileVal
public import Idealize.ShloMosaic.Lib.VecWindow

@[expose] public section

set_option maxRecDepth 16384

noncomputable section

namespace Cert.Spec

open Idealize.ShloMosaic

/-- A key or value buffer: the halo's rows, then the tile's, 64 columns from `off` for each key head. -/
def bufOf (off : ℕ) (ho : off + 128 ≤ 2816) (H : Fin 2 → Fin 128 → Fin 64 → EReal) (P : Fin 1024 → Fin 2816 → EReal) (hh : Fin 2) (r : Fin 1152) (d : Fin 64) : EReal :=
  if h : r.val < 128 then H hh ⟨r.val, h⟩ d else P ⟨r.val - 128, by omega⟩ ⟨off + 64 * hh.val + d.val, by omega⟩

/-- The normed gate rows. -/
def vlOf (P : Fin 1024 → Fin 2816 → EReal) (lg lb : Fin 512 → EReal) (r : Fin 1024) : Fin 512 → EReal :=
  lnorm (fun c => geluH (P r ⟨1792 + c.val, by omega⟩)) lg lb

/-- A tile's result. -/
def tileOut (hp : Bool) (X : Fin 1024 → Fin 1024 → EReal) (P : Fin 1024 → Fin 2816 → EReal) (HK HV : Fin 2 → Fin 128 → Fin 64 → EReal) (sink : Fin 8 → EReal) (lg lb : Fin 512 → EReal)
    (SW : Fin 8 → Fin 128 → Fin 128 → EReal) (SB : Fin 8 → Fin 128 → EReal) (Wo : Fin 1024 → Fin 1024 → EReal) (bo fg : Fin 1024 → EReal) (r : Fin 1024) : Fin 1024 → EReal :=
  lastRow (X r) (tileMix hp P (bufOf 512 (by omega) HK P) (bufOf 640 (by omega) HV P) sink (vlOf P lg lb) SW SB r) Wo bo fg

end Cert.Spec

namespace Cert.KernelIdeal.Hand

open Cert.KernelIdeal.Gen Cert.Spec
open Idealize.ShloMosaic Idealize.ShloMosaic.TcCoe Idealize.ShloMosaic.Tactic
open Idealize.SL Idealize.SL.Sem
open Idealize.ShloMosaic.Pipeline (Dat Cfg Window BodyObligation cellOf)

theorem kCols_at (X3 : FVec Ideal S1x1024x1024 .f32) (X4 : FVec Ideal S1x1024 .f32) (X15 : FVec Ideal S1024x2816 .bf16) (X17 : FVec Ideal S1x2816 .f32) (r : Fin 1024) (c : Fin 128) :
    kCols (F := Ideal) (hAll (F := Ideal) (hCk (F := Ideal) X3 X4 0) X3 X4) X15 X17 (ix2 r c) = tp X3 X4 X15 X17 r ⟨512 + c.val, by omega⟩ := by
  have h : ∀ z : FVec Ideal S1024x256 .f32, extractStridedSlice S1024x128 ![0, 0] z slices_S1024x256_o0_0_S1024x128 (ix2 r c) = z (ix2 r ⟨c.val, by omega⟩) := fun z => by pointwise []
  exact (h _).trans (pT_tp X3 X4 X15 X17 2 r _)

theorem vCols_at (X3 : FVec Ideal S1x1024x1024 .f32) (X4 : FVec Ideal S1x1024 .f32) (X15 : FVec Ideal S1024x2816 .bf16) (X17 : FVec Ideal S1x2816 .f32) (r : Fin 1024) (c : Fin 128) :
    vCols (F := Ideal) (hAll (F := Ideal) (hCk (F := Ideal) X3 X4 0) X3 X4) X15 X17 (ix2 r c) = tp X3 X4 X15 X17 r ⟨640 + c.val, by omega⟩ := by
  have h : ∀ z : FVec Ideal S1024x256 .f32, extractStridedSlice S1024x128 ![0, 128] z slices_S1024x256_o0_128_S1024x128 (ix2 r c) = z (ix2 r ⟨128 + c.val, by omega⟩) := fun z => by pointwise []
  exact (h _).trans ((pT_tp X3 X4 X15 X17 2 r _).trans (ap2 (tp X3 X4 X15 X17) rfl (by show 256 * 2 + (128 + c.val) = 640 + c.val; omega)))

section Buf
variable {κ' : Kind} {sp : Space} (v : View sig κ' sp S2x1152x128 .bf16)

/-- A key or value buffer after the tile's rows are written over a halo. -/
theorem buf_at (off : ℕ) (ho : off + 128 ≤ 2816) (f : v.ty.Contents (Elt Ideal)) (t : FVec Ideal S1024x128 .f32) (P : Fin 1024 → Fin 2816 → EReal) (ht : ∀ r (c : Fin 128), t (ix2 r c) = P r ⟨off + c.val, by omega⟩)
    (H : Fin 2 → Fin 128 → Fin 64 → EReal) (hf : ∀ hh (r : Fin 128) (l : Fin 128), v.read (Elt Ideal) f (ix3 hh ⟨r.val, by omega⟩ l) = H hh r ⟨l.val % 64, by omega⟩) (hh : Fin 2) (r : Fin 1152) (l : Fin 128) :
    v.read (Elt Ideal) (v.writes (Elt Ideal) f (dupPieces (F := Ideal) t)) (ix3 hh r l) = bufOf off ho H P hh r ⟨l.val % 64, by omega⟩ := by
  unfold bufOf
  by_cases h : r.val < 128
  · rw [dif_pos h, dup_halo v f t hh r l h]; exact hf hh ⟨r.val, h⟩ l
  · rw [dif_neg h, dup_at v f t hh r l (by omega), ht]
    exact ap2 P rfl (by show off + (64 * hh.val + l.val % 64) = off + 64 * hh.val + l.val % 64; omega)

theorem buf_at' (off : ℕ) (ho : off + 128 ≤ 2816) (f : v.ty.Contents (Elt Ideal)) (t : FVec Ideal S1024x128 .f32) (P : Fin 1024 → Fin 2816 → EReal) (ht : ∀ r (c : Fin 128), t (ix2 r c) = P r ⟨off + c.val, by omega⟩)
    (H : Fin 2 → Fin 128 → Fin 64 → EReal) (hh : Fin 2) (r : Fin 1152) (l : Fin 128) (hr : 128 ≤ r.val) :
    v.read (Elt Ideal) (v.writes (Elt Ideal) f (dupPieces (F := Ideal) t)) (ix3 hh r l) = bufOf off ho H P hh r ⟨l.val % 64, by omega⟩ := by
  unfold bufOf
  rw [dif_neg (by omega), dup_at v f t hh r l (by omega), ht]
  exact ap2 P rfl (by show off + (64 * hh.val + l.val % 64) = off + 64 * hh.val + l.val % 64; omega)

theorem out_read (v : View sig κ' sp S1x1024x1024 .f32) (f : v.ty.Contents (Elt Ideal)) (inb : ∀ a, (![0, 0, 0] : Fin 3 → ℕ) a + S1x1024x1024.size a ≤ S1x1024x1024.size a) (w : Vec Ideal S1x1024x1024 .f32) (y : S1x1024x1024.Idx) :
    v.read (Elt Ideal) (v.writes (Elt Ideal) f [⟨Rect.unit (s := S1x1024x1024) ![0, 0, 0] S1x1024x1024.size inb, w⟩]) y = w y :=
  congrFun (View.read_writes_full v f (off := ![0, 0, 0]) inb w []) y

end Buf

section Whole
variable (c : Dev nD) (i : grid0.Coords) (arg2 : Memref sig .tc .smem S8 .f32) (harg2 : arg2.IsWhole) (arg3 : Memref sig .tc .vmem S1x1024x1024 .f32) (harg3 : arg3.IsWhole) (arg4 : Memref sig .tc .vmem S1x1024 .f32) (harg4 : arg4.IsWhole) (arg6 : Memref sig .tc .vmem S1x2816 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .f32) (harg9 : arg9.IsWhole) (arg10 : Memref sig .tc .vmem S8x128 .f32) (harg10 : arg10.IsWhole) (arg12 : Memref sig .tc .vmem S1x1024 .f32) (harg12 : arg12.IsWhole) (arg13 : Memref sig .tc .vmem S1x1024 .f32) (harg13 : arg13.IsWhole) (arg14 : Memref sig .tc .vmem S1x1024x1024 .f32) (harg14 : arg14.IsWhole) (arg15 : Memref sig .tc .vmem S1024x2816 .bf16) (harg15 : arg15.IsWhole) (arg16 : Memref sig .tc .vmem S1024x1024 .bf16) (harg16 : arg16.IsWhole) (arg17 : Memref sig .tc .vmem S1x2816 .f32) (harg17 : arg17.IsWhole) (arg18 : Memref sig .tc .vmem S8x64x2816 .f32) (harg18 : arg18.IsWhole) (arg19 : Memref sig .tc .vmem S8x64x1024 .f32) (harg19 : arg19.IsWhole) (arg22 : Memref sig .tc .vmem S1024x512 .bf16) (harg22 : arg22.IsWhole) (arg23 : Memref sig .tc .vmem S2x1152x128 .bf16) (harg23 : arg23.IsWhole) (arg24 : Memref sig .tc .vmem S2x1152x128 .bf16) (harg24 : arg24.IsWhole) (arg25 : Memref sig .tc .vmem S1024x512 .f32) (harg25 : arg25.IsWhole) (arg26 : Memref sig .tc .vmem S1024x512 .bf16) (harg26 : arg26.IsWhole) (arg27 : Memref sig .tc .vmem S1024x512 .f32) (harg27 : arg27.IsWhole) (arg28 : Memref sig .tc .vmem S1024x1024 .bf16) (harg28 : arg28.IsWhole) (arg29 : Memref sig .tc .vmem S4x128x256 .bf16) (harg29 : arg29.IsWhole) (arg30 : Memref sig .tc .vmem S128x512 .f32) (harg30 : arg30.IsWhole) (x2 : Vec Ideal S8 .f32) (x3 : Vec Ideal S1x1024x1024 .f32) (x4 : Vec Ideal S1x1024 .f32) (x6 : Vec Ideal S1x2816 .f32) (x7 : Vec Ideal S1x512 .f32) (x8 : Vec Ideal S1x512 .f32) (x9 : Vec Ideal S8x128x128 .f32) (x10 : Vec Ideal S8x128 .f32) (x12 : Vec Ideal S1x1024 .f32) (x13 : Vec Ideal S1x1024 .f32) (x14 : Vec Ideal S1x1024x1024 .f32) (x15 : Vec Ideal S1024x2816 .bf16) (x16 : Vec Ideal S1024x1024 .bf16) (x17 : Vec Ideal S1x2816 .f32) (x18 : Vec Ideal S8x64x2816 .f32) (x19 : Vec Ideal S8x64x1024 .f32) (x22 : Vec Ideal S1024x512 .bf16) (x23 : Vec Ideal S2x1152x128 .bf16) (x24 : Vec Ideal S2x1152x128 .bf16) (x25 : Vec Ideal S1024x512 .f32) (x26 : Vec Ideal S1024x512 .bf16) (x27 : Vec Ideal S1024x512 .f32) (x28 : Vec Ideal S1024x1024 .bf16) (x29 : Vec Ideal S4x128x256 .bf16) (x30 : Vec Ideal S128x512 .f32) (fh0 : HbBuf0 (F := Ideal) c hbM0_0) (fh1 : HbBuf0 (F := Ideal) c hbM0_1) (arg1 : BitVec 32) (v0 : IVec S128x128 32) (v2 : IVec S128x128 1) (v30 : FVec Ideal S256x1024 .bf16) (v32 : FVec Ideal S256x512 .f32) (v33 : Vec Ideal S1x512 .f32)

theorem run_k (hv30 : v30 = hCk (F := Ideal) x3 x4 0) (hh : Fin 2) (r : Fin 1152) (l : Fin 128) (hr : 128 ≤ r.val) :
    (mainRun (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 x2 x3 x4 x6 x7 x8 x9 x10 x12 x13 x14 x15 x16 x17 x18 x19 x22 x23 x24 x25 x26 x27 x28 x29 x30 fh0 fh1 arg1 v0 v2 v30 v32 v33).2.1 (ix3 hh r l) = tp x3 x4 x15 x17 ⟨r.val - 128, by omega⟩ ⟨512 + 64 * hh.val + l.val % 64, by omega⟩ := by
  rw [mainRun_k, harg3.read_unread, harg4.read_unread, harg15.read_unread, harg17.read_unread, hv30, dup_at _ _ _ hh r l hr, kCols_at]
  exact ap2 (tp x3 x4 x15 x17) rfl (by show 512 + (64 * hh.val + l.val % 64) = 512 + 64 * hh.val + l.val % 64; omega)

theorem run_v (hv30 : v30 = hCk (F := Ideal) x3 x4 0) (hh : Fin 2) (r : Fin 1152) (l : Fin 128) (hr : 128 ≤ r.val) :
    (mainRun (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 x2 x3 x4 x6 x7 x8 x9 x10 x12 x13 x14 x15 x16 x17 x18 x19 x22 x23 x24 x25 x26 x27 x28 x29 x30 fh0 fh1 arg1 v0 v2 v30 v32 v33).2.2.1 (ix3 hh r l) = tp x3 x4 x15 x17 ⟨r.val - 128, by omega⟩ ⟨640 + 64 * hh.val + l.val % 64, by omega⟩ := by
  rw [mainRun_v, harg3.read_unread, harg4.read_unread, harg15.read_unread, harg17.read_unread, hv30, dup_at _ _ _ hh r l hr, vCols_at]
  exact ap2 (tp x3 x4 x15 x17) rfl (by show 640 + (64 * hh.val + l.val % 64) = 640 + 64 * hh.val + l.val % 64; omega)

theorem run_out (hp : Bool) (hv0 : v0 = lanes) (hv2 : v2 = k0_pay60) (hv30 : v30 = hCk (F := Ideal) x3 x4 0)
    (hv32 : ∀ r c, v32 (ix2 r c) = ∑ d, hCk (F := Ideal) x3 x4 0 (ix2 r d) * wQ (F := Ideal) x15 (ix2 d c)) (hv33 : v33 = bQ (F := Ideal) x17)
    (harg1 : Scalar.cmpi .sgt arg1 0#32 = BitVec.ofBool hp)
    (HK HV : Fin 2 → Fin 128 → Fin 64 → EReal) (hHK : ∀ hh (r : Fin 128) (l : Fin 128), x23 (ix3 hh ⟨r.val, by omega⟩ l) = HK hh r ⟨l.val % 64, by omega⟩)
    (hHV : ∀ hh (r : Fin 128) (l : Fin 128), x24 (ix3 hh ⟨r.val, by omega⟩ l) = HV hh r ⟨l.val % 64, by omega⟩)
    (SW : Fin 8 → Fin 128 → Fin 128 → EReal) (SB : Fin 8 → Fin 128 → EReal)
    (h29 : IsW x29 SW)
    (h30 : IsB x30 SB) (r d : Fin 1024) :
    (mainRun (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 x2 x3 x4 x6 x7 x8 x9 x10 x12 x13 x14 x15 x16 x17 x18 x19 x22 x23 x24 x25 x26 x27 x28 x29 x30 fh0 fh1 arg1 v0 v2 v30 v32 v33).1 (ix3 0 r d)
      = tileOut hp (fun r d => x3 (ix3 0 r d)) (tp x3 x4 x15 x17) HK HV (fun h => x2 (ix1 h)) (fun c => x7 (ix2 0 c)) (fun c => x8 (ix2 0 c)) SW SB (fun k d => x16 (ix2 k d)) (fun d => x12 (ix2 0 d)) (fun d => x13 (ix2 0 d)) r d := by
  refine (congrFun (mainRun_out (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 x2 x3 x4 x6 x7 x8 x9 x10 x12 x13 x14 x15 x16 x17 x18 x19 x22 x23 x24 x25 x26 x27 x28 x29 x30 fh0 fh1 arg1 v0 v2 v30 v32 v33) (ix3 0 r d)).trans ?_
  refine (out_read arg14.view _ _ _ _).trans ?_
  simp only [harg2.read_unread, harg3.read_unread, harg4.read_unread, harg7.read_unread, harg8.read_unread, harg12.read_unread, harg13.read_unread, harg15.read_unread, harg16.read_unread, harg17.read_unread, harg29.read_unread, harg30.read_unread]
  subst hv0 hv2 hv30 hv33
  rw [harg1]
  refine (outT_at _ _ _ _ _ r d).trans ?_
  unfold tileOut
  refine congrArg (fun m => lastRow _ m _ _ _ d) (funext fun k => ?_)
  have hk := kCols_at x3 x4 x15 x17
  have hv := vCols_at x3 x4 x15 x17
  refine (mix_at hp _ _ _ _ _ (tp x3 x4 x15 x17) (bufOf 512 (by omega) HK (tp x3 x4 x15 x17)) (bufOf 640 (by omega) HV (tp x3 x4 x15 x17))
    (q_at _ _ x3 x4 x15 x17 v32 hv32)
    (buf_at _ 512 _ _ _ _ hk HK (fun hh r l => by rw [harg23.read_unread]; exact hHK hh r l))
    (fun hh r l hr => buf_at' _ 512 _ _ _ _ hk HK hh r l hr)
    (buf_at _ 640 _ _ _ _ hv HV (fun hh r l => by rw [harg24.read_unread]; exact hHV hh r l))
    (fun hh r l hr => buf_at' _ 640 _ _ _ _ hv HV hh r l hr)
    x2 _ _ _ _ x29 x30 SW SB ?_ ?_ ?_ h29 h30 _ _ r k).trans ?_
  · exact fun r c => cat2_at _ _ r c (fun r c => siluH (tp x3 x4 x15 x17 r ⟨768 + c.val, by omega⟩))
      (fun r c => by rw [siluT_at, pT_tp]; rfl) (fun r c => by rw [siluT_at, pT_tp]; exact congrArg siluH (ap2 _ rfl (by show 256 * 4 + c.val = 768 + (256 + c.val); omega)))
  · exact fun r c => col_at _ _ _ _ (fun r c => geluH (tp x3 x4 x15 x17 r ⟨1280 + c.val, by omega⟩))
      (fun r c => by rw [geluT_at, pT_tp]; rfl) (fun r c => by rw [geluT_at, pT_tp]; exact congrArg geluH (ap2 _ rfl (by show 256 * 6 + c.val = 1280 + (256 + c.val); omega))) r c
  · exact fun r c => col_at _ _ _ _ (fun r c => siluH (tp x3 x4 x15 x17 r ⟨2304 + c.val, by omega⟩))
      (fun r c => by rw [siluT_at, pT_tp]; rfl) (fun r c => by rw [siluT_at, pT_tp]; exact congrArg siluH (ap2 _ rfl (by show 256 * 10 + c.val = 2304 + (256 + c.val); omega))) r c
  · refine congrArg (fun V => tileMix hp (tp x3 x4 x15 x17) _ _ _ V SW SB r k) (funext fun r => funext fun c => ?_)
    exact vl_at _ _ _ x15 x17 x7 x8 (fun r c => geluH (tp x3 x4 x15 x17 r ⟨1792 + c.val, by omega⟩))
      (fun r c => by rw [geluT_at, pT_tp]; rfl) (fun r c => by rw [geluT_at, pT_tp]; exact congrArg geluH (ap2 _ rfl (by show 256 * 8 + c.val = 1792 + (256 + c.val); omega))) r c

end Whole

end Cert.KernelIdeal.Hand

end
-- ==== Proof.IdealStage.lean ====
module

public import proofs.«01_k».proof.Proof.IdealRunVal

@[expose] public section

set_option maxRecDepth 16384

noncomputable section

namespace Cert.Spec

open Idealize.ShloMosaic

/-- The scale the kernel folds into a projection's column: an eighth for the queries, one for the keys and values, a half for the rest. -/
def cs (e : Fin 2816) : EReal := if e.val < 512 then Ideal.ofBits .f32 0x3E000000#32 else if e.val < 768 then Ideal.ofBits .f32 0x3F800000#32 else Ideal.ofBits .f32 0x3F000000#32

end Cert.Spec

namespace Cert.KernelIdeal.Hand

open Cert.KernelIdeal.Gen Cert.Spec
open Idealize.ShloMosaic Idealize.ShloMosaic.TcCoe Idealize.ShloMosaic.Tactic
open Idealize.SL Idealize.SL.Sem

section Stage
variable {F : FTy → Type} [FloatOps F] {n : ℕ}

theorem inbS (k : ℕ) : ∀ a, (![k % 8, 0, 0] : Fin 3 → ℕ) a + (⟨3, ![1, 64, n]⟩ : Shape).size a ≤ (⟨3, ![8, 64, n]⟩ : Shape).size a :=
  inbQ (by omega) (by omega) (by omega)

theorem inbW (k : ℕ) : ∀ a, (![64 * (k % 16), 0] : Fin 2 → ℕ) a + (⟨2, ![64, n]⟩ : Shape).size a ≤ (⟨2, ![1024, n]⟩ : Shape).size a :=
  inbP (by omega) (by omega)

/-- Slot `k` modulo 8 of a staging buffer. -/
def slot (M : Memref sig .tc .vmem ⟨3, ![8, 64, n]⟩ .f32) (hq : (⟨3, ![1, 64, n]⟩ : Shape).Squeezes ⟨2, ![64, n]⟩) (k : ℕ) : Memref sig .tc .vmem ⟨2, ![64, n]⟩ .f32 :=
  (M.slice (Rect.unit (s := ⟨3, ![8, 64, n]⟩) ![k % 8, 0, 0] (⟨3, ![1, 64, n]⟩ : Shape).size (inbS k)) (fun _ => rfl)).squeeze ⟨2, ![64, n]⟩ hq

/-- A staging buffer after its first copies, each into the next slot around. -/
def stage (M : Memref sig .tc .vmem ⟨3, ![8, 64, n]⟩ .f32) (hq : (⟨3, ![1, 64, n]⟩ : Shape).Squeezes ⟨2, ![64, n]⟩) (f : M.view.ty.Contents (Elt F)) (D : ℕ → Vec F ⟨2, ![64, n]⟩ .f32) : ℕ → M.view.ty.Contents (Elt F)
  | 0 => f
  | k + 1 => (slot M hq k).view.write (Elt F) (stage M hq f D k) (D k) Finset.univ

variable (M : Memref sig .tc .vmem ⟨3, ![8, 64, n]⟩ .f32) (hq : (⟨3, ![1, 64, n]⟩ : Shape).Squeezes ⟨2, ![64, n]⟩) (f : M.view.ty.Contents (Elt F)) (D : ℕ → Vec F ⟨2, ![64, n]⟩ .f32)

theorem slot_disjoint (j k : ℕ) (h : j % 8 ≠ k % 8) : Disjoint (slot M hq k).view.set (slot M hq j).view.set := by
  unfold slot
  rw [Memref.set_view_squeeze, Memref.set_view_squeeze, Finset.disjoint_left]
  intro i hi hj
  obtain ⟨x, -, rfl⟩ := Finset.mem_map.1 hi
  obtain ⟨y, -, hy⟩ := Finset.mem_map.1 hj
  have hy' := M.view.emb.injective hy
  have h0 := congrArg (fun z : (⟨3, ![8, 64, n]⟩ : Shape).Idx => (z 0).val) hy'
  change j % 8 + 1 * (y 0).val = k % 8 + 1 * (x 0).val at h0
  have hx0 : (x 0).val < 1 := (x 0).isLt
  have hy0 : (y 0).val < 1 := (y 0).isLt
  omega

theorem slot_read_ne (j k : ℕ) (h : j % 8 ≠ k % 8) (g : M.view.ty.Contents (Elt F)) (w : Vec F ⟨2, ![64, n]⟩ .f32) :
    (slot M hq k).view.read (Elt F) ((slot M hq j).view.write (Elt F) g w Finset.univ : M.view.ty.Contents (Elt F)) = (slot M hq k).view.read (Elt F) g := by
  apply View.read_congr
  intro i hi
  exact View.write_of_not_mem (v := (slot M hq j).view) g w Finset.univ (Finset.disjoint_left.mp (slot_disjoint M hq j k h) hi)

theorem stage_read (k N : ℕ) (h : k < N) (h' : N ≤ k + 8) : (slot M hq k).view.read (Elt F) (stage M hq f D N) = D k := by
  obtain ⟨j, rfl⟩ : ∃ j, N = k + 1 + j := ⟨N - (k + 1), by omega⟩
  clear h
  induction j with
  | zero => exact View.read_write_univ _ _
  | succ j ih =>
    have hne : (k + 1 + j) % 8 ≠ k % 8 := by omega
    exact (slot_read_ne M hq (k + 1 + j) k hne _ _).trans (ih (by omega))

/-- The rows written 64 at a time, the last first. -/
def rowPieces (val : ℕ → Vec F ⟨2, ![64, n]⟩ .bf16) : ℕ → List (View.Piece (Elt F) ⟨2, ![1024, n]⟩ .bf16)
  | 0 => []
  | k + 1 => ⟨Rect.unit (s := ⟨2, ![1024, n]⟩) ![64 * (k % 16), 0] (⟨2, ![64, n]⟩ : Shape).size (inbW k), val k⟩ :: rowPieces val k

theorem mem_rowPieces (val : ℕ → Vec F ⟨2, ![64, n]⟩ .bf16) (N : ℕ) (p) : p ∈ rowPieces val N ↔ ∃ k < N, p = ⟨Rect.unit (s := ⟨2, ![1024, n]⟩) ![64 * (k % 16), 0] (⟨2, ![64, n]⟩ : Shape).size (inbW k), val k⟩ := by
  induction N with
  | zero => simp [rowPieces]
  | succ N ih =>
    rw [rowPieces, List.mem_cons, ih]
    constructor
    · rintro (rfl | ⟨k, hk, rfl⟩)
      · exact ⟨N, by omega, rfl⟩
      · exact ⟨k, by omega, rfl⟩
    · rintro ⟨k, hk, rfl⟩
      by_cases h : k = N
      · exact Or.inl (by rw [h])
      · exact Or.inr ⟨k, by omega, rfl⟩

end Stage

theorem rows_at {n : ℕ} {κ' : Kind} {sp : Space} (v : View sig κ' sp ⟨2, ![1024, n]⟩ .bf16) (f : v.ty.Contents (Elt Ideal)) (val : ℕ → Vec Ideal ⟨2, ![64, n]⟩ .bf16) (G : Fin 1024 → Fin n → EReal)
    (h : ∀ (k : Fin 16) (r : Fin 64) e, val k.val (ix2 r e) = G ⟨64 * k.val + r.val, by omega⟩ e) (d : Fin 1024) (e : Fin n) :
    v.read (Elt Ideal) (v.writes (Elt Ideal) f (rowPieces (F := Ideal) val 16)) (ix2 d e) = G d e := by
  refine v.read_writes_apply_of_pieces f (fun y => G (y 0) (y 1)) _ ?_ (ix2 d e) ?_
  · intro p hp
    obtain ⟨k, hk, rfl⟩ := (mem_rowPieces val 16 p).1 hp
    intro x
    change (⟨2, ![64, n]⟩ : Shape).Idx at x
    obtain ⟨x0, x1, rfl⟩ : ∃ (x0 : Fin 64) (x1 : Fin n), x = ix2 x0 x1 := ⟨x 0, x 1, funext fun a => by fin_cases a <;> rfl⟩
    refine (h ⟨k, hk⟩ _ _).trans (ap2 G ?_ ?_)
    · show 64 * k + x0.val = 64 * (k % 16) + 1 * x0.val; omega
    · show x1.val = 0 + 1 * x1.val; omega
  · exact ⟨_, (mem_rowPieces val 16 _).2 ⟨d.val / 64, by omega, rfl⟩, mem2 (inb := inbW _) _ (by show 64 * (d.val / 64 % 16) ≤ d.val ∧ d.val < 64 * (d.val / 64 % 16) + 64; omega) ⟨Nat.zero_le _, by show e.val < 0 + n; omega⟩⟩

/-- Rows 64 at a time of the projection's weight in HBM. -/
def winRows {F : FTy → Type} [FloatOps F] {c : Dev nD} (fh0 : HbBuf0 (F := F) c hbM0_0) (k : ℕ) : Vec F S64x2816 .f32 :=
  View.read (Elt F) ((Memref.whole main_v3).slice (Rect.unit (s := S1024x2816) ![64 * (k % 16), 0] S64x2816.size (inbW k)) (fun _ => rfl)).view fh0

/-- Rows 64 at a time of the output weight in HBM. -/
def woutRows {F : FTy → Type} [FloatOps F] {c : Dev nD} (fh1 : HbBuf0 (F := F) c hbM0_1) (k : ℕ) : Vec F S64x1024 .f32 :=
  View.read (Elt F) ((Memref.whole main_v12).slice (Rect.unit (s := S1024x1024) ![64 * (k % 16), 0] S64x1024.size (inbW k)) (fun _ => rfl)).view fh1

/-- The rows of the projection's weight as the kernel keeps them. -/
def winVal {F : FTy → Type} [FloatOps F] {c : Dev nD} (M : Memref sig .tc .vmem S8x64x2816 .f32) (f : M.view.ty.Contents (Elt F)) (fh0 : HbBuf0 (F := F) c hbM0_0) (k : ℕ) : Vec F S64x2816 .bf16 :=
  k0_pay25 k0_pay23 (M.view.readAt (Elt F) (Rect.unit (s := S8x64x2816) ![k % 8, 0, 0] S1x64x2816.size (inbS k)).toLoadRect (stage M squeezes_S1x64x2816_S64x2816 f (winRows fh0) (min (k + 8) 16)))

/-- The rows of the output weight as the kernel keeps them. -/
def woutVal {F : FTy → Type} [FloatOps F] {c : Dev nD} (M : Memref sig .tc .vmem S8x64x1024 .f32) (f : M.view.ty.Contents (Elt F)) (fh1 : HbBuf0 (F := F) c hbM0_1) (k : ℕ) : Vec F S64x1024 .bf16 :=
  k0_pay44 (M.view.readAt (Elt F) (Rect.unit (s := S8x64x1024) ![k % 8, 0, 0] S1x64x1024.size (inbS k)).toLoadRect (stage M squeezes_S1x64x1024_S64x1024 f (woutRows fh1) (min (k + 8) 16)))

theorem pay23_at (e : Fin 2816) : k0_pay23 (F := Ideal) (ix2 0 e) = cs e := by
  pointwise [k0_pay23, cs]
  word_cmp

theorem winVal_at {c : Dev nD} (M : Memref sig .tc .vmem S8x64x2816 .f32) (f : M.view.ty.Contents (Elt Ideal)) (fh0 : HbBuf0 (F := Ideal) c hbM0_0) (k : Fin 16) (r : Fin 64) (e : Fin 2816) :
    winVal M f fh0 k.val (ix2 r e) = (hbM0_0.view.read (Elt Ideal) fh0 : Vec Ideal S1024x2816 .f32) (ix2 ⟨64 * k.val + r.val, by omega⟩ e) * cs e := by
  have h1 : ∀ v : Vec Ideal S1x64x2816 .f32, k0_pay25 (F := Ideal) k0_pay23 v (ix2 r e) = shapeCast S64x2816 v shapeCasts_S1x64x2816_S64x2816 (ix2 r e) * k0_pay23 (F := Ideal) (ix2 0 e) := fun v => by
    generalize k0_pay23 (F := Ideal) = z
    pointwise [k0_pay25]
  refine (h1 _).trans ?_
  rw [pay23_at]
  refine congrArg (· * cs e) ?_
  refine (congrFun (stage_read M squeezes_S1x64x2816_S64x2816 f (winRows fh0) k.val (min (k.val + 8) 16) (by omega) (by omega)) (ix2 r e)).trans ?_
  exact congrArg (hbM0_0.view.read (Elt Ideal) fh0) (funext fun a => Fin.ext (by fin_cases a <;> [(show 64 * (k.val % 16) + 1 * r.val = 64 * k.val + r.val; omega); (show 0 + 1 * e.val = e.val; omega)]))

theorem woutVal_at {c : Dev nD} (M : Memref sig .tc .vmem S8x64x1024 .f32) (f : M.view.ty.Contents (Elt Ideal)) (fh1 : HbBuf0 (F := Ideal) c hbM0_1) (k : Fin 16) (r : Fin 64) (e : Fin 1024) :
    woutVal M f fh1 k.val (ix2 r e) = (hbM0_1.view.read (Elt Ideal) fh1 : Vec Ideal S1024x1024 .f32) (ix2 ⟨64 * k.val + r.val, by omega⟩ e) := by
  have h1 : ∀ v : Vec Ideal S1x64x1024 .f32, k0_pay44 (F := Ideal) v (ix2 r e) = shapeCast S64x1024 v shapeCasts_S1x64x1024_S64x1024 (ix2 r e) := fun v => by
    pointwise [k0_pay44]
  refine (h1 _).trans ?_
  refine (congrFun (stage_read M squeezes_S1x64x1024_S64x1024 f (woutRows fh1) k.val (min (k.val + 8) 16) (by omega) (by omega)) (ix2 r e)).trans ?_
  exact congrArg (hbM0_1.view.read (Elt Ideal) fh1) (funext fun a => Fin.ext (by fin_cases a <;> [(show 64 * (k.val % 16) + 1 * r.val = 64 * k.val + r.val; omega); (show 0 + 1 * e.val = e.val; omega)]))

/-- The gate weights kept: the part at and under the diagonal. -/
def tril (w : Vec Ideal S8x128x128 .f32) (h : Fin 8) (i t : Fin 128) : EReal := if t.val ≤ i.val then w (ix3 h i t) else 0

/-- Reads of the gate weight's heads. -/
def swRd {F : FTy → Type} [FloatOps F] (X9 : Vec F S8x128x128 .f32) (k : Fin 8) : Vec F S1x128x128 .f32 :=
  View.ld X9 (Rect.unit (s := S8x128x128) ![k.val, 0, 0] S1x128x128.size (inbQ (by omega) (by omega) (by omega)))

/-- The gate weights' pieces, head by head. -/
def wpPieces {F : FTy → Type} [FloatOps F] (X9 : Vec F S8x128x128 .f32) : List (View.Piece (Elt F) S4x128x256 .bf16) :=
  ([(3, 1), (3, 0), (2, 1), (2, 0), (1, 1), (1, 0), (0, 1), (0, 0)] : List (Fin 4 × Fin 2)).map fun q =>
    ⟨Rect.unit (s := S4x128x256) ![q.1.val, 0, 128 * q.2.val] S1x128x128.size (inbQ (by omega) (by omega) (by omega)), k0_pay2 (iota .tc S128x128 32 [1] iota_S128x128_d1_w32) (swRd X9 ⟨2 * q.1.val + q.2.val, by omega⟩)⟩

theorem pay2_at (v : Vec Ideal S1x128x128 .f32) (i t : Fin 128) :
    k0_pay2 (F := Ideal) (iota .tc S128x128 32 [1] iota_S128x128_d1_w32) v (ix3 0 i t) = if t.val ≤ i.val then v (ix3 0 i t) else 0 := by
  pointwise [k0_pay2]
  word_cmp

theorem wp_at {κ' : Kind} {sp : Space} (v : View sig κ' sp S4x128x256 .bf16) (f : v.ty.Contents (Elt Ideal)) (X9 : Vec Ideal S8x128x128 .f32) :
    IsW (v.read (Elt Ideal) (v.writes (Elt Ideal) f (wpPieces (F := Ideal) X9))) (tril X9) := by
  intro p i h t
  refine (v.read_writes_apply_of_pieces f (fun y => (fun (p : Fin 4) (i : Fin 128) (u : Fin 256) => tril X9 ⟨2 * p.val + u.val / 128, by omega⟩ i ⟨u.val % 128, by omega⟩) (y 0) (y 1) (y 2)) _ ?_ (ix3 p i ⟨128 * h.val + t.val, by omega⟩) ?_).trans ?_
  · intro q hq
    obtain ⟨⟨a, b⟩, -, rfl⟩ := List.mem_map.1 hq
    intro x
    change S1x128x128.Idx at x
    idx_vars x
    obtain rfl : x0 = 0 := Subsingleton.elim _ _
    refine (pay2_at _ _ _).trans ?_
    have hr : swRd (F := Ideal) X9 ⟨2 * a.val + b.val, by omega⟩ (ix3 0 x1 x2) = X9 (ix3 ⟨2 * a.val + b.val, by omega⟩ x1 x2) := by pointwise [swRd]
    rw [hr]
    have e : ∀ {h h' : Fin 8} {i i' t t' : Fin 128}, h.val = h'.val → i.val = i'.val → t.val = t'.val → tril X9 h i t = tril X9 h' i' t' := fun p q r => by rw [Fin.ext p, Fin.ext q, Fin.ext r]
    exact e (by show 2 * a.val + b.val = 2 * (a.val + 1 * 0) + (128 * b.val + 1 * x2.val) / 128; omega) (by show x1.val = 0 + 1 * x1.val; omega) (by show x2.val = (128 * b.val + 1 * x2.val) % 128; omega)
  · refine ⟨_, List.mem_map.2 ⟨(p, h), ?_, rfl⟩, mem3 (inb := inbQ (by omega) (by omega) (by omega)) _ ⟨Nat.le_refl _, by show p.val < p.val + 1; omega⟩ ⟨Nat.zero_le _, by show i.val < 0 + 128; omega⟩ ⟨by show 128 * h.val ≤ 128 * h.val + t.val; omega, by show 128 * h.val + t.val < 128 * h.val + 128; omega⟩⟩
    revert p h; decide
  · have e : ∀ {h h' : Fin 8} {i i' t t' : Fin 128}, h.val = h'.val → i.val = i'.val → t.val = t'.val → tril X9 h i t = tril X9 h' i' t' := fun p q r => by rw [Fin.ext p, Fin.ext q, Fin.ext r]
    exact e (by show 2 * p.val + (128 * h.val + t.val) / 128 = 2 * p.val + h.val; omega) rfl (by show (128 * h.val + t.val) % 128 = t.val; omega)

/-- A gate bias's column, spread over its head's lanes. -/
def sbVal {F : FTy → Type} [FloatOps F] (X10 : Vec F S8x128 .f32) (k : Fin 8) : FVec F S128x64 .f32 :=
  shapeCast S128x64 (broadcastTo S128x64 (shapeCast S128x1 (extractStridedSlice S128x1 ![0, k.val] (k0_pay13 X10) ⟨rfl, fun a => by fin_cases a; exacts [(by show 0 + 128 ≤ 128; omega), (by show k.val + 1 ≤ 8; omega)]⟩) shapeCasts_S128x1_S128x1) broadcasts_S128x1_S128x64) shapeCasts_S128x64_S128x64

def sbPieces {F : FTy → Type} [FloatOps F] (X10 : Vec F S8x128 .f32) : List (View.Piece (Elt F) S128x512 .f32) :=
  ([7, 6, 5, 4, 3, 2, 1, 0] : List (Fin 8)).map fun k => ⟨Rect.unit (s := S128x512) ![0, 64 * k.val] S128x64.size (inbP (by omega) (by omega)), sbVal (View.ld X10 (Rect.unit (s := S8x128) ![0, 0] S8x128.size (inbP (by omega) (by omega)))) k⟩

theorem sb_at {κ' : Kind} {sp : Space} (v : View sig κ' sp S128x512 .f32) (f : v.ty.Contents (Elt Ideal)) (X10 : Vec Ideal S8x128 .f32) :
    IsB (v.read (Elt Ideal) (v.writes (Elt Ideal) f (sbPieces (F := Ideal) X10))) (fun h i => X10 (ix2 h i)) := by
  intro i u
  refine v.read_writes_apply_of_pieces f (fun y => (fun (i : Fin 128) (u : Fin 512) => X10 (ix2 ⟨u.val / 64, by omega⟩ i)) (y 0) (y 1)) _ ?_ (ix2 i u) ?_
  · intro q hq
    obtain ⟨k, -, rfl⟩ := List.mem_map.1 hq
    intro x
    change S128x64.Idx at x
    idx_vars x
    have h1 : sbVal (F := Ideal) (View.ld X10 (Rect.unit (s := S8x128) ![0, 0] S8x128.size (inbP (by omega) (by omega)))) k (ix2 x0 x1) = X10 (ix2 k x0) := by
      pointwise [sbVal, k0_pay13]
    refine h1.trans ?_
    exact ap2 (fun (a : Fin 8) (b : Fin 128) => X10 (ix2 a b)) (by show k.val = (64 * k.val + 1 * x1.val) / 64; omega) (by show x0.val = 0 + 1 * x0.val; omega)
  · refine ⟨_, List.mem_map.2 ⟨⟨u.val / 64, by omega⟩, ?_, rfl⟩, mem2 (inb := inbP (by omega) (by omega)) _ ⟨Nat.zero_le _, by show i.val < 0 + 128; omega⟩ (by show 64 * (u.val / 64) ≤ u.val ∧ u.val < 64 * (u.val / 64) + 64; omega)⟩
    generalize (⟨u.val / 64, by omega⟩ : Fin 8) = k
    revert k; decide

/-- The two halo pieces of a key or value buffer. -/
def haloPieces {F : FTy → Type} [FloatOps F] (a b : Vec F S1x128x128 .bf16) : List (View.Piece (Elt F) S2x1152x128 .bf16) :=
  [⟨Rect.unit (s := S2x1152x128) ![1, 0, 0] S1x128x128.size (inbQ (by omega) (by omega) (by omega)), b⟩,
   ⟨Rect.unit (s := S2x1152x128) ![0, 0, 0] S1x128x128.size (inbQ (by omega) (by omega) (by omega)), a⟩]

theorem halo_at {κ' : Kind} {sp : Space} (v : View sig κ' sp S2x1152x128 .bf16) (f : v.ty.Contents (Elt Ideal)) (a b : Vec Ideal S1x128x128 .bf16) (H : Fin 2 → Fin 128 → Fin 64 → EReal)
    (ha : ∀ r l, a (ix3 0 r l) = H 0 r ⟨l.val % 64, by omega⟩) (hb : ∀ r l, b (ix3 0 r l) = H 1 r ⟨l.val % 64, by omega⟩) (hh : Fin 2) (r l : Fin 128) :
    v.read (Elt Ideal) (v.writes (Elt Ideal) f (haloPieces (F := Ideal) a b)) (ix3 hh ⟨r.val, by omega⟩ l) = H hh r ⟨l.val % 64, by omega⟩ := by
  refine (v.read_writes_apply_of_pieces f (fun y => (fun (hh : Fin 2) (r : Fin 1152) (l : Fin 128) => if h : r.val < 128 then H hh ⟨r.val, h⟩ ⟨l.val % 64, by omega⟩ else 0) (y 0) (y 1) (y 2)) _ ?_ (ix3 hh ⟨r.val, by omega⟩ l) ?_).trans (dif_pos r.isLt)
  · intro q hq
    have e : ∀ {h h' : Fin 2} {i i' : Fin 128} {t t' : Fin 64}, h.val = h'.val → i.val = i'.val → t.val = t'.val → H h i t = H h' i' t' := fun p q r => by rw [Fin.ext p, Fin.ext q, Fin.ext r]
    simp only [haloPieces, List.mem_cons, List.not_mem_nil, or_false] at hq
    rcases hq with rfl | rfl <;>
    · intro x
      change S1x128x128.Idx at x
      idx_vars x
      obtain rfl : x0 = 0 := Subsingleton.elim _ _
      refine Eq.trans ?_ (dif_pos (show 0 + 1 * x1.val < 128 by omega)).symm
      first
        | exact (hb _ _).trans (e rfl (by show x1.val = 0 + 1 * x1.val; omega) (by show x2.val % 64 = (0 + 1 * x2.val) % 64; omega))
        | exact (ha _ _).trans (e rfl (by show x1.val = 0 + 1 * x1.val; omega) (by show x2.val % 64 = (0 + 1 * x2.val) % 64; omega))
  · have h2 : hh = 0 ∨ hh = 1 := by omega
    rcases h2 with rfl | rfl
    · exact ⟨_, List.mem_cons_of_mem _ (List.mem_singleton.2 rfl), mem3 (inb := inbQ (by omega) (by omega) (by omega)) _ ⟨Nat.le_refl _, by show 0 < 0 + 1; omega⟩ ⟨Nat.zero_le _, by show r.val < 0 + 128; omega⟩ ⟨Nat.zero_le _, by show l.val < 0 + 128; omega⟩⟩
    · exact ⟨_, List.mem_cons_self, mem3 (inb := inbQ (by omega) (by omega) (by omega)) _ ⟨Nat.le_refl _, by show 1 < 1 + 1; omega⟩ ⟨Nat.zero_le _, by show r.val < 0 + 128; omega⟩ ⟨Nat.zero_le _, by show l.val < 0 + 128; omega⟩⟩

end Cert.KernelIdeal.Hand

end
-- ==== Proof.IdealPreVal.lean ====
module

public import proofs.«01_k».proof.Proof.IdealStage
public import proofs.«01_k».proof.Proof.IdealPreA
public import proofs.«01_k».proof.Proof.IdealPreBC

@[expose] public section

set_option maxRecDepth 16384

noncomputable section

namespace Cert.KernelIdeal.Hand

open Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

section
variable (c : Dev nD) (i : grid0.Coords) (arg2 : Memref sig .tc .smem S8 .f32) (harg2 : arg2.IsWhole) (arg3 : Memref sig .tc .vmem S1x1024x1024 .f32) (harg3 : arg3.IsWhole) (arg4 : Memref sig .tc .vmem S1x1024 .f32) (harg4 : arg4.IsWhole) (arg6 : Memref sig .tc .vmem S1x2816 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .f32) (harg9 : arg9.IsWhole) (arg10 : Memref sig .tc .vmem S8x128 .f32) (harg10 : arg10.IsWhole) (arg12 : Memref sig .tc .vmem S1x1024 .f32) (harg12 : arg12.IsWhole) (arg13 : Memref sig .tc .vmem S1x1024 .f32) (harg13 : arg13.IsWhole) (arg14 : Memref sig .tc .vmem S1x1024x1024 .f32) (harg14 : arg14.IsWhole) (arg15 : Memref sig .tc .vmem S1024x2816 .bf16) (harg15 : arg15.IsWhole) (arg16 : Memref sig .tc .vmem S1024x1024 .bf16) (harg16 : arg16.IsWhole) (arg17 : Memref sig .tc .vmem S1x2816 .f32) (harg17 : arg17.IsWhole) (arg18 : Memref sig .tc .vmem S8x64x2816 .f32) (harg18 : arg18.IsWhole) (arg19 : Memref sig .tc .vmem S8x64x1024 .f32) (harg19 : arg19.IsWhole) (arg22 : Memref sig .tc .vmem S1024x512 .bf16) (harg22 : arg22.IsWhole) (arg23 : Memref sig .tc .vmem S2x1152x128 .bf16) (harg23 : arg23.IsWhole) (arg24 : Memref sig .tc .vmem S2x1152x128 .bf16) (harg24 : arg24.IsWhole) (arg25 : Memref sig .tc .vmem S1024x512 .f32) (harg25 : arg25.IsWhole) (arg26 : Memref sig .tc .vmem S1024x512 .bf16) (harg26 : arg26.IsWhole) (arg27 : Memref sig .tc .vmem S1024x512 .f32) (harg27 : arg27.IsWhole) (arg28 : Memref sig .tc .vmem S1024x1024 .bf16) (harg28 : arg28.IsWhole) (arg29 : Memref sig .tc .vmem S4x128x256 .bf16) (harg29 : arg29.IsWhole) (arg30 : Memref sig .tc .vmem S128x512 .f32) (harg30 : arg30.IsWhole)

section
variable (hc0 : cond0_0 i) (hc1 : cond0_1 i) (hc2 : ¬cond0_2 i) (x2 : Vec F S8 .f32) (x3 : Vec F S1x1024x1024 .f32) (x4 : Vec F S1x1024 .f32) (x6 : Vec F S1x2816 .f32) (x7 : Vec F S1x512 .f32) (x8 : Vec F S1x512 .f32) (x9 : Vec F S8x128x128 .f32) (x10 : Vec F S8x128 .f32) (x12 : Vec F S1x1024 .f32) (x13 : Vec F S1x1024 .f32) (x14 : Vec F S1x1024x1024 .f32) (x15 : Vec F S1024x2816 .bf16) (x16 : Vec F S1024x1024 .bf16) (x17 : Vec F S1x2816 .f32) (x18 : Vec F S8x64x2816 .f32) (x19 : Vec F S8x64x1024 .f32) (x22 : Vec F S1024x512 .bf16) (x23 : Vec F S2x1152x128 .bf16) (x24 : Vec F S2x1152x128 .bf16) (x25 : Vec F S1024x512 .f32) (x26 : Vec F S1024x512 .bf16) (x27 : Vec F S1024x512 .f32) (x28 : Vec F S1024x1024 .bf16) (x29 : Vec F S4x128x256 .bf16) (x30 : Vec F S128x512 .f32) (fh0 : HbBuf0 (F := F) c hbM0_0) (fh1 : HbBuf0 (F := F) c hbM0_1)

theorem preA_y15 : (preA (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).1 = (View.read (Elt F) arg15.view (arg15.view.writes (Elt F) (harg15.unread x15) (rowPieces (winVal arg18 (harg18.unread x18) fh0) 16))) := rfl

theorem preA_y16 : (preA (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.1 = View.read (Elt F) arg16.view (arg16.view.writes (Elt F) (harg16.unread x16) (rowPieces (woutVal arg19 (harg19.unread x19) fh1) 16)) := rfl

theorem preA_y17 : (preA (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.1 = (View.read (Elt F) arg17.view (arg17.view.writes (Elt F) (harg17.unread x17) [⟨Rect.unit (s := S1x2816) ![0, 0] S1x2816.size (inbP (by omega) (by omega)), (k0_pay24 (View.ld (arg6.view.read (Elt F) (harg6.unread x6)) (Rect.unit (s := S1x2816) ![0, 0] S1x2816.size (inbP (by omega) (by omega)))))⟩])) := rfl

theorem preA_y23 : (preA (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.1 = View.read (Elt F) arg23.view (arg23.view.writes (Elt F) (harg23.unread x23) (haloPieces k0_pay62 k0_pay64)) := rfl

theorem preA_y24 : (preA (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.1 = View.read (Elt F) arg24.view (arg24.view.writes (Elt F) (harg24.unread x24) (haloPieces k0_pay63 k0_pay65)) := rfl

theorem preA_y29 : (preA (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.2.1 = View.read (Elt F) arg29.view (arg29.view.writes (Elt F) (harg29.unread x29) (wpPieces (arg9.view.read (Elt F) (harg9.unread x9)))) := rfl

theorem preA_y30 : (preA (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.2.2.1 = View.read (Elt F) arg30.view (arg30.view.writes (Elt F) (harg30.unread x30) (sbPieces (arg10.view.read (Elt F) (harg10.unread x10)))) := rfl

theorem preA_arg1 : (preA (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.2.2.2.1 = BitVec.ofNat 32 (i 1).val := rfl

theorem preA_v0 : (preA (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.2.2.2.2.1 = iota .tc S128x128 32 [1] iota_S128x128_d1_w32 := rfl

theorem preA_v2 : (preA (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.2.2.2.2.2.1 = k0_pay60 := rfl

theorem preA_v30 : (preA (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.2.2.2.2.2.2.1 = k0_pay70 (View.ld (arg3.view.read (Elt F) (harg3.unread x3)) (Rect.unit (s := S1x1024x1024) ![0, 256 * (0 : Fin 4).val, 0] S1x256x1024.size (inbQ (by decide) (by decide) (by decide)))) (View.ld (arg4.view.read (Elt F) (harg4.unread x4)) (Rect.unit (s := S1x1024) ![0, 0] S1x1024.size (inbP (by omega) (by omega)))) := rfl

theorem preA_v32 : (preA (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.2.2.2.2.2.2.2.1 = k0_pay71 (View.ld (arg3.view.read (Elt F) (harg3.unread x3)) (Rect.unit (s := S1x1024x1024) ![0, 256 * (0 : Fin 4).val, 0] S1x256x1024.size (inbQ (by decide) (by decide) (by decide)))) (View.ld (arg4.view.read (Elt F) (harg4.unread x4)) (Rect.unit (s := S1x1024) ![0, 0] S1x1024.size (inbP (by omega) (by omega)))) (View.ld (View.read (Elt F) arg15.view (arg15.view.writes (Elt F) arg15.view.junk (rowPieces (winVal arg18 (harg18.unread x18) fh0) 16))) (Rect.unit (s := S1024x2816) ![0, 0] S1024x512.size (inbP (by omega) (by omega)))) := rfl

theorem preA_v33 : (preA (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.2.2.2.2.2.2.2.2.1 = (View.ld (View.read (Elt F) arg17.view (arg17.view.writes (Elt F) arg17.view.junk [⟨Rect.unit (s := S1x2816) ![0, 0] S1x2816.size (inbP (by omega) (by omega)), (k0_pay24 (View.ld (arg6.view.read (Elt F) (harg6.unread x6)) (Rect.unit (s := S1x2816) ![0, 0] S1x2816.size (inbP (by omega) (by omega)))))⟩])) (Rect.unit (s := S1x2816) ![0, 0] S1x512.size (inbP (by omega) (by omega)))) := rfl

end

section
variable (hc0 : ¬cond0_0 i) (hc1 : cond0_1 i) (hc2 : ¬cond0_2 i) (x2 : Vec F S8 .f32) (x3 : Vec F S1x1024x1024 .f32) (x4 : Vec F S1x1024 .f32) (x6 : Vec F S1x2816 .f32) (x7 : Vec F S1x512 .f32) (x8 : Vec F S1x512 .f32) (x9 : Vec F S8x128x128 .f32) (x10 : Vec F S8x128 .f32) (x12 : Vec F S1x1024 .f32) (x13 : Vec F S1x1024 .f32) (x14 : Vec F S1x1024x1024 .f32) (x15 : Vec F S1024x2816 .bf16) (x16 : Vec F S1024x1024 .bf16) (x17 : Vec F S1x2816 .f32) (x18 : Vec F S8x64x2816 .f32) (x19 : Vec F S8x64x1024 .f32) (x22 : Vec F S1024x512 .bf16) (x23 : Vec F S2x1152x128 .bf16) (x24 : Vec F S2x1152x128 .bf16) (x25 : Vec F S1024x512 .f32) (x26 : Vec F S1024x512 .bf16) (x27 : Vec F S1024x512 .f32) (x28 : Vec F S1024x1024 .bf16) (x29 : Vec F S4x128x256 .bf16) (x30 : Vec F S128x512 .f32) (fh0 : HbBuf0 (F := F) c hbM0_0) (fh1 : HbBuf0 (F := F) c hbM0_1)

theorem preB_y23 : (preB (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).1 = View.read (Elt F) arg23.view (arg23.view.writes (Elt F) (harg23.unread x23) (haloPieces k0_pay62 k0_pay64)) := rfl

theorem preB_y24 : (preB (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.1 = View.read (Elt F) arg24.view (arg24.view.writes (Elt F) (harg24.unread x24) (haloPieces k0_pay63 k0_pay65)) := rfl

theorem preB_arg1 : (preB (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.1 = BitVec.ofNat 32 (i 1).val := rfl

theorem preB_v0 : (preB (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.1 = iota .tc S128x128 32 [1] iota_S128x128_d1_w32 := rfl

theorem preB_v2 : (preB (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.1 = k0_pay60 := rfl

theorem preB_v30 : (preB (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.1 = k0_pay70 (View.ld (arg3.view.read (Elt F) (harg3.unread x3)) (Rect.unit (s := S1x1024x1024) ![0, 256 * (0 : Fin 4).val, 0] S1x256x1024.size (inbQ (by decide) (by decide) (by decide)))) (View.ld (arg4.view.read (Elt F) (harg4.unread x4)) (Rect.unit (s := S1x1024) ![0, 0] S1x1024.size (inbP (by omega) (by omega)))) := rfl

theorem preB_v32 : (preB (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.1 = k0_pay71 (View.ld (arg3.view.read (Elt F) (harg3.unread x3)) (Rect.unit (s := S1x1024x1024) ![0, 256 * (0 : Fin 4).val, 0] S1x256x1024.size (inbQ (by decide) (by decide) (by decide)))) (View.ld (arg4.view.read (Elt F) (harg4.unread x4)) (Rect.unit (s := S1x1024) ![0, 0] S1x1024.size (inbP (by omega) (by omega)))) (View.ld (arg15.view.read (Elt F) (harg15.unread x15)) (Rect.unit (s := S1024x2816) ![0, 0] S1024x512.size (inbP (by omega) (by omega)))) := rfl

theorem preB_v33 : (preB (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.2.1 = (View.ld (arg17.view.read (Elt F) (harg17.unread x17)) (Rect.unit (s := S1x2816) ![0, 0] S1x512.size (inbP (by omega) (by omega)))) := rfl

end

section
variable (hc0 : ¬cond0_0 i) (hc1 : ¬cond0_1 i) (hc2 : cond0_2 i) (x2 : Vec F S8 .f32) (x3 : Vec F S1x1024x1024 .f32) (x4 : Vec F S1x1024 .f32) (x6 : Vec F S1x2816 .f32) (x7 : Vec F S1x512 .f32) (x8 : Vec F S1x512 .f32) (x9 : Vec F S8x128x128 .f32) (x10 : Vec F S8x128 .f32) (x12 : Vec F S1x1024 .f32) (x13 : Vec F S1x1024 .f32) (x14 : Vec F S1x1024x1024 .f32) (x15 : Vec F S1024x2816 .bf16) (x16 : Vec F S1024x1024 .bf16) (x17 : Vec F S1x2816 .f32) (x18 : Vec F S8x64x2816 .f32) (x19 : Vec F S8x64x1024 .f32) (x22 : Vec F S1024x512 .bf16) (x23 : Vec F S2x1152x128 .bf16) (x24 : Vec F S2x1152x128 .bf16) (x25 : Vec F S1024x512 .f32) (x26 : Vec F S1024x512 .bf16) (x27 : Vec F S1024x512 .f32) (x28 : Vec F S1024x1024 .bf16) (x29 : Vec F S4x128x256 .bf16) (x30 : Vec F S128x512 .f32) (fh0 : HbBuf0 (F := F) c hbM0_0) (fh1 : HbBuf0 (F := F) c hbM0_1)

theorem preC_y23 : (preC (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).1 = View.read (Elt F) arg23.view (arg23.view.writes (Elt F) (harg23.unread x23) (haloPieces (k0_pay66 (View.ld (arg23.view.read (Elt F) (harg23.unread x23)) (Rect.unit (s := S2x1152x128) ![0, 1024, 0] S1x128x128.size (inbQ (by omega) (by omega) (by omega))))) (k0_pay68 (View.ld (arg23.view.read (Elt F) (harg23.unread x23)) (Rect.unit (s := S2x1152x128) ![1, 1024, 0] S1x128x128.size (inbQ (by omega) (by omega) (by omega))))))) := rfl

theorem preC_y24 : (preC (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.1 = View.read (Elt F) arg24.view (arg24.view.writes (Elt F) (harg24.unread x24) (haloPieces (k0_pay67 (View.ld (arg24.view.read (Elt F) (harg24.unread x24)) (Rect.unit (s := S2x1152x128) ![0, 1024, 0] S1x128x128.size (inbQ (by omega) (by omega) (by omega))))) (k0_pay69 (View.ld (arg24.view.read (Elt F) (harg24.unread x24)) (Rect.unit (s := S2x1152x128) ![1, 1024, 0] S1x128x128.size (inbQ (by omega) (by omega) (by omega))))))) := rfl

theorem preC_arg1 : (preC (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.1 = BitVec.ofNat 32 (i 1).val := rfl

theorem preC_v0 : (preC (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.1 = iota .tc S128x128 32 [1] iota_S128x128_d1_w32 := rfl

theorem preC_v2 : (preC (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.1 = k0_pay60 := rfl

theorem preC_v30 : (preC (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.1 = k0_pay70 (View.ld (arg3.view.read (Elt F) (harg3.unread x3)) (Rect.unit (s := S1x1024x1024) ![0, 256 * (0 : Fin 4).val, 0] S1x256x1024.size (inbQ (by decide) (by decide) (by decide)))) (View.ld (arg4.view.read (Elt F) (harg4.unread x4)) (Rect.unit (s := S1x1024) ![0, 0] S1x1024.size (inbP (by omega) (by omega)))) := rfl

theorem preC_v32 : (preC (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.1 = k0_pay71 (View.ld (arg3.view.read (Elt F) (harg3.unread x3)) (Rect.unit (s := S1x1024x1024) ![0, 256 * (0 : Fin 4).val, 0] S1x256x1024.size (inbQ (by decide) (by decide) (by decide)))) (View.ld (arg4.view.read (Elt F) (harg4.unread x4)) (Rect.unit (s := S1x1024) ![0, 0] S1x1024.size (inbP (by omega) (by omega)))) (View.ld (arg15.view.read (Elt F) (harg15.unread x15)) (Rect.unit (s := S1024x2816) ![0, 0] S1024x512.size (inbP (by omega) (by omega)))) := rfl

theorem preC_v33 : (preC (F := F) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.2.1 = (View.ld (arg17.view.read (Elt F) (harg17.unread x17)) (Rect.unit (s := S1x2816) ![0, 0] S1x512.size (inbP (by omega) (by omega)))) := rfl

end

end

/-- What the first part leaves, as the rest of the body uses it. -/
structure PreOK (i : grid0.Coords) (W : Fin 1024 → Fin 2816 → EReal) (b : Fin 2816 → EReal) (Wo : Fin 1024 → Fin 1024 → EReal) (SW : Fin 8 → Fin 128 → Fin 128 → EReal) (SB : Fin 8 → Fin 128 → EReal)
    (HK HV : Fin 2 → Fin 128 → Fin 64 → EReal) (x3 : Vec Ideal S1x1024x1024 .f32) (x4 : Vec Ideal S1x1024 .f32)
    (y15 : Vec Ideal S1024x2816 .bf16) (y16 : Vec Ideal S1024x1024 .bf16) (y17 : Vec Ideal S1x2816 .f32) (y23 y24 : Vec Ideal S2x1152x128 .bf16) (y29 : Vec Ideal S4x128x256 .bf16) (y30 : Vec Ideal S128x512 .f32)
    (arg1 : BitVec 32) (v0 : IVec S128x128 32) (v2 : IVec S128x128 1) (v30 : FVec Ideal S256x1024 .bf16) (v32 : FVec Ideal S256x512 .f32) (v33 : Vec Ideal S1x512 .f32) : Prop where
  h15 : ∀ d e, y15 (ix2 d e) = W d e
  h16 : ∀ d e, y16 (ix2 d e) = Wo d e
  h17 : ∀ e, y17 (ix2 0 e) = b e
  h23 : ∀ (hh : Fin 2) (r l : Fin 128), y23 (ix3 hh ⟨r.val, by omega⟩ l) = HK hh r ⟨l.val % 64, by omega⟩
  h24 : ∀ (hh : Fin 2) (r l : Fin 128), y24 (ix3 hh ⟨r.val, by omega⟩ l) = HV hh r ⟨l.val % 64, by omega⟩
  h29 : IsW y29 SW
  h30 : IsB y30 SB
  harg1 : arg1 = BitVec.ofNat 32 (i 1).val
  hv0 : v0 = lanes
  hv2 : v2 = k0_pay60
  hv30 : v30 = hCk (F := Ideal) x3 x4 0
  hv32 : ∀ r c, v32 (ix2 r c) = ∑ d, hCk (F := Ideal) x3 x4 0 (ix2 r d) * wQ (F := Ideal) y15 (ix2 d c)
  hv33 : v33 = bQ (F := Ideal) y17

theorem pay24_at (v : Vec Ideal S1x2816 .f32) (e : Fin 2816) : k0_pay24 (F := Ideal) v (ix2 0 e) = v (ix2 0 e) * cs e := by
  rw [← pay23_at]
  have h : ∀ z : FVec Ideal S1x2816 .f32, shapeCast S1x2816 (mulf (shapeCast S1x2816 v shapeCasts_S1x2816_S1x2816) z) shapeCasts_S1x2816_S1x2816 (ix2 0 e) = v (ix2 0 e) * z (ix2 0 e) := fun z => by
    pointwise []
  exact h _

theorem pay71_at (a : Vec Ideal S1x256x1024 .f32) (g : Vec Ideal S1x1024 .f32) (w : FVec Ideal S1024x512 .bf16) (r : Fin 256) (e : Fin 512) :
    k0_pay71 (F := Ideal) a g w (ix2 r e) = ∑ d, k0_pay70 (F := Ideal) a g (ix2 r d) * w (ix2 d e) := by
  have h : ∀ z : FVec Ideal S256x1024 .bf16, matmul (F := Ideal) dot_S256x1024_S1024x512_S256x512_1_0_0_1_n_n none z w (constant S256x512 .f32 0x00000000#32) (ix2 r e) = ∑ d, z (ix2 r d) * w (ix2 d e) := fun z => by
    pointwise []
  exact h _

theorem preA_ok (c : Dev nD) (i : grid0.Coords) (arg2 : Memref sig .tc .smem S8 .f32) (harg2 : arg2.IsWhole) (arg3 : Memref sig .tc .vmem S1x1024x1024 .f32) (harg3 : arg3.IsWhole) (arg4 : Memref sig .tc .vmem S1x1024 .f32) (harg4 : arg4.IsWhole) (arg6 : Memref sig .tc .vmem S1x2816 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .f32) (harg9 : arg9.IsWhole) (arg10 : Memref sig .tc .vmem S8x128 .f32) (harg10 : arg10.IsWhole) (arg12 : Memref sig .tc .vmem S1x1024 .f32) (harg12 : arg12.IsWhole) (arg13 : Memref sig .tc .vmem S1x1024 .f32) (harg13 : arg13.IsWhole) (arg14 : Memref sig .tc .vmem S1x1024x1024 .f32) (harg14 : arg14.IsWhole) (arg15 : Memref sig .tc .vmem S1024x2816 .bf16) (harg15 : arg15.IsWhole) (arg16 : Memref sig .tc .vmem S1024x1024 .bf16) (harg16 : arg16.IsWhole) (arg17 : Memref sig .tc .vmem S1x2816 .f32) (harg17 : arg17.IsWhole) (arg18 : Memref sig .tc .vmem S8x64x2816 .f32) (harg18 : arg18.IsWhole) (arg19 : Memref sig .tc .vmem S8x64x1024 .f32) (harg19 : arg19.IsWhole) (arg22 : Memref sig .tc .vmem S1024x512 .bf16) (harg22 : arg22.IsWhole) (arg23 : Memref sig .tc .vmem S2x1152x128 .bf16) (harg23 : arg23.IsWhole) (arg24 : Memref sig .tc .vmem S2x1152x128 .bf16) (harg24 : arg24.IsWhole) (arg25 : Memref sig .tc .vmem S1024x512 .f32) (harg25 : arg25.IsWhole) (arg26 : Memref sig .tc .vmem S1024x512 .bf16) (harg26 : arg26.IsWhole) (arg27 : Memref sig .tc .vmem S1024x512 .f32) (harg27 : arg27.IsWhole) (arg28 : Memref sig .tc .vmem S1024x1024 .bf16) (harg28 : arg28.IsWhole) (arg29 : Memref sig .tc .vmem S4x128x256 .bf16) (harg29 : arg29.IsWhole) (arg30 : Memref sig .tc .vmem S128x512 .f32) (harg30 : arg30.IsWhole) (hc0 : cond0_0 i) (hc1 : cond0_1 i) (hc2 : ¬cond0_2 i) (x2 : Vec Ideal S8 .f32) (x3 : Vec Ideal S1x1024x1024 .f32) (x4 : Vec Ideal S1x1024 .f32) (x6 : Vec Ideal S1x2816 .f32) (x7 : Vec Ideal S1x512 .f32) (x8 : Vec Ideal S1x512 .f32) (x9 : Vec Ideal S8x128x128 .f32) (x10 : Vec Ideal S8x128 .f32) (x12 : Vec Ideal S1x1024 .f32) (x13 : Vec Ideal S1x1024 .f32) (x14 : Vec Ideal S1x1024x1024 .f32) (x15 : Vec Ideal S1024x2816 .bf16) (x16 : Vec Ideal S1024x1024 .bf16) (x17 : Vec Ideal S1x2816 .f32) (x18 : Vec Ideal S8x64x2816 .f32) (x19 : Vec Ideal S8x64x1024 .f32) (x22 : Vec Ideal S1024x512 .bf16) (x23 : Vec Ideal S2x1152x128 .bf16) (x24 : Vec Ideal S2x1152x128 .bf16) (x25 : Vec Ideal S1024x512 .f32) (x26 : Vec Ideal S1024x512 .bf16) (x27 : Vec Ideal S1024x512 .f32) (x28 : Vec Ideal S1024x1024 .bf16) (x29 : Vec Ideal S4x128x256 .bf16) (x30 : Vec Ideal S128x512 .f32) (fh0 : HbBuf0 (F := Ideal) c hbM0_0) (fh1 : HbBuf0 (F := Ideal) c hbM0_1) :
    PreOK i (fun d e => (hbM0_0.view.read (Elt Ideal) fh0 : Vec Ideal S1024x2816 .f32) (ix2 d e) * cs e) (fun e => x6 (ix2 0 e) * cs e) (fun d e => (hbM0_1.view.read (Elt Ideal) fh1 : Vec Ideal S1024x1024 .f32) (ix2 d e)) (tril x9) (fun h i => x10 (ix2 h i))
      (fun _ _ _ => 0) (fun _ _ _ => 0) x3 x4 ((preA (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).1) ((preA (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.1) ((preA (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.1) ((preA (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.1) ((preA (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.1) ((preA (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.2.1) ((preA (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.2.2.1) ((preA (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.2.2.2.1) ((preA (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.2.2.2.2.1) ((preA (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.2.2.2.2.2.1) ((preA (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.2.2.2.2.2.2.1) ((preA (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.2.2.2.2.2.2.2.1) ((preA (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.2.2.2.2.2.2.2.2.1) := by
  have k15 : ∀ f d e, View.read (Elt Ideal) arg15.view (arg15.view.writes (Elt Ideal) f (rowPieces (F := Ideal) (winVal arg18 (harg18.unread x18) fh0) 16)) (ix2 d e) = (hbM0_0.view.read (Elt Ideal) fh0 : Vec Ideal S1024x2816 .f32) (ix2 d e) * cs e :=
    fun f d e => rows_at _ f _ (fun d e => (hbM0_0.view.read (Elt Ideal) fh0 : Vec Ideal S1024x2816 .f32) (ix2 d e) * cs e) (fun k r e => winVal_at _ _ _ k r e) d e
  have k17 : ∀ f, View.read (Elt Ideal) arg17.view (arg17.view.writes (Elt Ideal) f [⟨Rect.unit (s := S1x2816) ![0, 0] S1x2816.size (inbP (by omega) (by omega)), (k0_pay24 (F := Ideal) (View.ld (arg6.view.read (Elt Ideal) (harg6.unread x6)) (Rect.unit (s := S1x2816) ![0, 0] S1x2816.size (inbP (by omega) (by omega)))))⟩]) = fun y => x6 (ix2 0 (y 1)) * cs (y 1) := by
    intro f
    rw [View.read_writes_full]
    funext y
    change S1x2816.Idx at y
    idx_vars y
    obtain rfl : y0 = 0 := Subsingleton.elim _ _
    refine (pay24_at _ _).trans ?_
    rw [harg6.read_unread]
    refine congrArg (· * cs y1) ?_
    pointwise []
  refine ⟨fun d e => ?_, fun d e => ?_, fun e => ?_, fun hh r l => ?_, fun hh r l => ?_, ?_, ?_, ?_, ?_, ?_, ?_, fun r e => ?_, ?_⟩
  · rw [preA_y15]; exact k15 _ d e
  · rw [preA_y16]; exact rows_at _ _ _ (fun d e => (hbM0_1.view.read (Elt Ideal) fh1 : Vec Ideal S1024x1024 .f32) (ix2 d e)) (fun k r e => woutVal_at _ _ _ k r e) d e
  · rw [preA_y17, k17]; rfl
  · rw [preA_y23]; exact halo_at _ _ _ _ (fun _ _ _ => 0) (fun r l => by pointwise [k0_pay62]) (fun r l => by pointwise [k0_pay64]) hh r l
  · rw [preA_y24]; exact halo_at _ _ _ _ (fun _ _ _ => 0) (fun r l => by pointwise [k0_pay63]) (fun r l => by pointwise [k0_pay65]) hh r l
  · rw [preA_y29, harg9.read_unread]; exact wp_at _ _ _
  · rw [preA_y30, harg10.read_unread]; exact sb_at _ _ _
  · exact preA_arg1 ..
  · exact preA_v0 ..
  · exact preA_v2 ..
  · rw [preA_v30, harg3.read_unread, harg4.read_unread]; rfl
  · rw [preA_v32, harg3.read_unread, harg4.read_unread, preA_y15, pay71_at]
    refine Finset.sum_congr rfl fun d _ => ?_
    have q : ∀ Z : Vec Ideal S1024x2816 .bf16, wQ (F := Ideal) Z (ix2 d e) = Z (ix2 d ⟨e.val, by omega⟩) := fun Z => by pointwise [wQ]
    exact congrArg (hCk (F := Ideal) x3 x4 0 (ix2 r d) * ·) (((q _).trans (k15 _ _ _)).trans ((q _).trans (k15 _ _ _)).symm)
  · rw [preA_v33, preA_y17, k17, k17]; rfl

theorem preB_ok (c : Dev nD) (i : grid0.Coords) (arg2 : Memref sig .tc .smem S8 .f32) (harg2 : arg2.IsWhole) (arg3 : Memref sig .tc .vmem S1x1024x1024 .f32) (harg3 : arg3.IsWhole) (arg4 : Memref sig .tc .vmem S1x1024 .f32) (harg4 : arg4.IsWhole) (arg6 : Memref sig .tc .vmem S1x2816 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .f32) (harg9 : arg9.IsWhole) (arg10 : Memref sig .tc .vmem S8x128 .f32) (harg10 : arg10.IsWhole) (arg12 : Memref sig .tc .vmem S1x1024 .f32) (harg12 : arg12.IsWhole) (arg13 : Memref sig .tc .vmem S1x1024 .f32) (harg13 : arg13.IsWhole) (arg14 : Memref sig .tc .vmem S1x1024x1024 .f32) (harg14 : arg14.IsWhole) (arg15 : Memref sig .tc .vmem S1024x2816 .bf16) (harg15 : arg15.IsWhole) (arg16 : Memref sig .tc .vmem S1024x1024 .bf16) (harg16 : arg16.IsWhole) (arg17 : Memref sig .tc .vmem S1x2816 .f32) (harg17 : arg17.IsWhole) (arg18 : Memref sig .tc .vmem S8x64x2816 .f32) (harg18 : arg18.IsWhole) (arg19 : Memref sig .tc .vmem S8x64x1024 .f32) (harg19 : arg19.IsWhole) (arg22 : Memref sig .tc .vmem S1024x512 .bf16) (harg22 : arg22.IsWhole) (arg23 : Memref sig .tc .vmem S2x1152x128 .bf16) (harg23 : arg23.IsWhole) (arg24 : Memref sig .tc .vmem S2x1152x128 .bf16) (harg24 : arg24.IsWhole) (arg25 : Memref sig .tc .vmem S1024x512 .f32) (harg25 : arg25.IsWhole) (arg26 : Memref sig .tc .vmem S1024x512 .bf16) (harg26 : arg26.IsWhole) (arg27 : Memref sig .tc .vmem S1024x512 .f32) (harg27 : arg27.IsWhole) (arg28 : Memref sig .tc .vmem S1024x1024 .bf16) (harg28 : arg28.IsWhole) (arg29 : Memref sig .tc .vmem S4x128x256 .bf16) (harg29 : arg29.IsWhole) (arg30 : Memref sig .tc .vmem S128x512 .f32) (harg30 : arg30.IsWhole) (hc0 : ¬cond0_0 i) (hc1 : cond0_1 i) (hc2 : ¬cond0_2 i) (x2 : Vec Ideal S8 .f32) (x3 : Vec Ideal S1x1024x1024 .f32) (x4 : Vec Ideal S1x1024 .f32) (x6 : Vec Ideal S1x2816 .f32) (x7 : Vec Ideal S1x512 .f32) (x8 : Vec Ideal S1x512 .f32) (x9 : Vec Ideal S8x128x128 .f32) (x10 : Vec Ideal S8x128 .f32) (x12 : Vec Ideal S1x1024 .f32) (x13 : Vec Ideal S1x1024 .f32) (x14 : Vec Ideal S1x1024x1024 .f32) (x15 : Vec Ideal S1024x2816 .bf16) (x16 : Vec Ideal S1024x1024 .bf16) (x17 : Vec Ideal S1x2816 .f32) (x18 : Vec Ideal S8x64x2816 .f32) (x19 : Vec Ideal S8x64x1024 .f32) (x22 : Vec Ideal S1024x512 .bf16) (x23 : Vec Ideal S2x1152x128 .bf16) (x24 : Vec Ideal S2x1152x128 .bf16) (x25 : Vec Ideal S1024x512 .f32) (x26 : Vec Ideal S1024x512 .bf16) (x27 : Vec Ideal S1024x512 .f32) (x28 : Vec Ideal S1024x1024 .bf16) (x29 : Vec Ideal S4x128x256 .bf16) (x30 : Vec Ideal S128x512 .f32) (fh0 : HbBuf0 (F := Ideal) c hbM0_0) (fh1 : HbBuf0 (F := Ideal) c hbM0_1) (W : Fin 1024 → Fin 2816 → EReal) (b : Fin 2816 → EReal) (Wo : Fin 1024 → Fin 1024 → EReal) (SW : Fin 8 → Fin 128 → Fin 128 → EReal) (SB : Fin 8 → Fin 128 → EReal)
    (h15 : ∀ d e, x15 (ix2 d e) = W d e) (h16 : ∀ d e, x16 (ix2 d e) = Wo d e) (h17 : ∀ e, x17 (ix2 0 e) = b e) (h29 : IsW x29 SW) (h30 : IsB x30 SB)  :
    PreOK i W b Wo SW SB (fun _ _ _ => 0) (fun _ _ _ => 0) x3 x4 x15 x16 x17 ((preB (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).1) ((preB (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.1) x29 x30 ((preB (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.1) ((preB (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.1) ((preB (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.1) ((preB (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.1) ((preB (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.1) ((preB (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.2.1) := by
  refine ⟨h15, h16, h17, fun hh r l => ?_, fun hh r l => ?_, h29, h30, ?_, ?_, ?_, ?_, fun r e => ?_, ?_⟩
  · rw [preB_y23]; exact halo_at _ _ _ _ (fun _ _ _ => 0) (fun r l => by pointwise [k0_pay62]) (fun r l => by pointwise [k0_pay64]) hh r l
  · rw [preB_y24]; exact halo_at _ _ _ _ (fun _ _ _ => 0) (fun r l => by pointwise [k0_pay63]) (fun r l => by pointwise [k0_pay65]) hh r l
  · exact preB_arg1 ..
  · exact preB_v0 ..
  · exact preB_v2 ..
  · rw [preB_v30, harg3.read_unread, harg4.read_unread]; rfl
  · rw [preB_v32, harg3.read_unread, harg4.read_unread, harg15.read_unread, pay71_at]; rfl
  · rw [preB_v33, harg17.read_unread]; rfl

theorem preC_ok (c : Dev nD) (i : grid0.Coords) (arg2 : Memref sig .tc .smem S8 .f32) (harg2 : arg2.IsWhole) (arg3 : Memref sig .tc .vmem S1x1024x1024 .f32) (harg3 : arg3.IsWhole) (arg4 : Memref sig .tc .vmem S1x1024 .f32) (harg4 : arg4.IsWhole) (arg6 : Memref sig .tc .vmem S1x2816 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .f32) (harg9 : arg9.IsWhole) (arg10 : Memref sig .tc .vmem S8x128 .f32) (harg10 : arg10.IsWhole) (arg12 : Memref sig .tc .vmem S1x1024 .f32) (harg12 : arg12.IsWhole) (arg13 : Memref sig .tc .vmem S1x1024 .f32) (harg13 : arg13.IsWhole) (arg14 : Memref sig .tc .vmem S1x1024x1024 .f32) (harg14 : arg14.IsWhole) (arg15 : Memref sig .tc .vmem S1024x2816 .bf16) (harg15 : arg15.IsWhole) (arg16 : Memref sig .tc .vmem S1024x1024 .bf16) (harg16 : arg16.IsWhole) (arg17 : Memref sig .tc .vmem S1x2816 .f32) (harg17 : arg17.IsWhole) (arg18 : Memref sig .tc .vmem S8x64x2816 .f32) (harg18 : arg18.IsWhole) (arg19 : Memref sig .tc .vmem S8x64x1024 .f32) (harg19 : arg19.IsWhole) (arg22 : Memref sig .tc .vmem S1024x512 .bf16) (harg22 : arg22.IsWhole) (arg23 : Memref sig .tc .vmem S2x1152x128 .bf16) (harg23 : arg23.IsWhole) (arg24 : Memref sig .tc .vmem S2x1152x128 .bf16) (harg24 : arg24.IsWhole) (arg25 : Memref sig .tc .vmem S1024x512 .f32) (harg25 : arg25.IsWhole) (arg26 : Memref sig .tc .vmem S1024x512 .bf16) (harg26 : arg26.IsWhole) (arg27 : Memref sig .tc .vmem S1024x512 .f32) (harg27 : arg27.IsWhole) (arg28 : Memref sig .tc .vmem S1024x1024 .bf16) (harg28 : arg28.IsWhole) (arg29 : Memref sig .tc .vmem S4x128x256 .bf16) (harg29 : arg29.IsWhole) (arg30 : Memref sig .tc .vmem S128x512 .f32) (harg30 : arg30.IsWhole) (hc0 : ¬cond0_0 i) (hc1 : ¬cond0_1 i) (hc2 : cond0_2 i) (x2 : Vec Ideal S8 .f32) (x3 : Vec Ideal S1x1024x1024 .f32) (x4 : Vec Ideal S1x1024 .f32) (x6 : Vec Ideal S1x2816 .f32) (x7 : Vec Ideal S1x512 .f32) (x8 : Vec Ideal S1x512 .f32) (x9 : Vec Ideal S8x128x128 .f32) (x10 : Vec Ideal S8x128 .f32) (x12 : Vec Ideal S1x1024 .f32) (x13 : Vec Ideal S1x1024 .f32) (x14 : Vec Ideal S1x1024x1024 .f32) (x15 : Vec Ideal S1024x2816 .bf16) (x16 : Vec Ideal S1024x1024 .bf16) (x17 : Vec Ideal S1x2816 .f32) (x18 : Vec Ideal S8x64x2816 .f32) (x19 : Vec Ideal S8x64x1024 .f32) (x22 : Vec Ideal S1024x512 .bf16) (x23 : Vec Ideal S2x1152x128 .bf16) (x24 : Vec Ideal S2x1152x128 .bf16) (x25 : Vec Ideal S1024x512 .f32) (x26 : Vec Ideal S1024x512 .bf16) (x27 : Vec Ideal S1024x512 .f32) (x28 : Vec Ideal S1024x1024 .bf16) (x29 : Vec Ideal S4x128x256 .bf16) (x30 : Vec Ideal S128x512 .f32) (fh0 : HbBuf0 (F := Ideal) c hbM0_0) (fh1 : HbBuf0 (F := Ideal) c hbM0_1) (W : Fin 1024 → Fin 2816 → EReal) (b : Fin 2816 → EReal) (Wo : Fin 1024 → Fin 1024 → EReal) (SW : Fin 8 → Fin 128 → Fin 128 → EReal) (SB : Fin 8 → Fin 128 → EReal)
    (h15 : ∀ d e, x15 (ix2 d e) = W d e) (h16 : ∀ d e, x16 (ix2 d e) = Wo d e) (h17 : ∀ e, x17 (ix2 0 e) = b e) (h29 : IsW x29 SW) (h30 : IsB x30 SB) (HX23 HX24 : Fin 2 → Fin 128 → Fin 64 → EReal) (hx23 : ∀ (hh : Fin 2) (r l : Fin 128), x23 (ix3 hh ⟨1024 + r.val, by omega⟩ l) = HX23 hh r ⟨l.val % 64, by omega⟩) (hx24 : ∀ (hh : Fin 2) (r l : Fin 128), x24 (ix3 hh ⟨1024 + r.val, by omega⟩ l) = HX24 hh r ⟨l.val % 64, by omega⟩) :
    PreOK i W b Wo SW SB HX23 HX24 x3 x4 x15 x16 x17 ((preC (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).1) ((preC (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.1) x29 x30 ((preC (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.1) ((preC (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.1) ((preC (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.1) ((preC (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.1) ((preC (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.1) ((preC (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 hc2 x2 x3 x4 x6 x7 x8 x9 x10 x12 x13 x14 x15 x16 x17 x18 x19 x22 x23 x24 x25 x26 x27 x28 x29 x30 fh0 fh1).2.2.2.2.2.2.2.1) := by
  refine ⟨h15, h16, h17, fun hh r l => ?_, fun hh r l => ?_, h29, h30, ?_, ?_, ?_, ?_, fun r e => ?_, ?_⟩
  · rw [preC_y23]; rw [harg23.read_unread]; exact halo_at _ _ _ _ HX23 (fun r l => (show _ = x23 (ix3 0 ⟨1024 + r.val, by omega⟩ l) by pointwise [k0_pay66]).trans (hx23 0 r l)) (fun r l => (show _ = x23 (ix3 1 ⟨1024 + r.val, by omega⟩ l) by pointwise [k0_pay68]).trans (hx23 1 r l)) hh r l
  · rw [preC_y24]; rw [harg24.read_unread]; exact halo_at _ _ _ _ HX24 (fun r l => (show _ = x24 (ix3 0 ⟨1024 + r.val, by omega⟩ l) by pointwise [k0_pay67]).trans (hx24 0 r l)) (fun r l => (show _ = x24 (ix3 1 ⟨1024 + r.val, by omega⟩ l) by pointwise [k0_pay69]).trans (hx24 1 r l)) hh r l
  · exact preC_arg1 ..
  · exact preC_v0 ..
  · exact preC_v2 ..
  · rw [preC_v30, harg3.read_unread, harg4.read_unread]; rfl
  · rw [preC_v32, harg3.read_unread, harg4.read_unread, harg15.read_unread, pay71_at]; rfl
  · rw [preC_v33, harg17.read_unread]; rfl

end Cert.KernelIdeal.Hand

end
-- ==== Proof.IdealBodyV.lean ====
module

public import proofs.«01_k».proof.Proof.IdealPreVal
public import Idealize.ShloMosaic.Lib.Claim

@[expose] public section

set_option maxRecDepth 16384

noncomputable section

namespace Cert.KernelIdeal.Hand

open Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

/-- What is kept between grid points: the weights and, above the halo, the last tile's keys and values. -/
structure Kept (W : Fin 1024 → Fin 2816 → EReal) (b : Fin 2816 → EReal) (Wo : Fin 1024 → Fin 1024 → EReal) (SW : Fin 8 → Fin 128 → Fin 128 → EReal) (SB : Fin 8 → Fin 128 → EReal)
    (P : Fin 1024 → Fin 2816 → EReal) (d15 : Vec Ideal S1024x2816 .bf16) (d16 : Vec Ideal S1024x1024 .bf16) (d17 : Vec Ideal S1x2816 .f32) (d23 : Vec Ideal S2x1152x128 .bf16) (d24 : Vec Ideal S2x1152x128 .bf16) (d29 : Vec Ideal S4x128x256 .bf16) (d30 : Vec Ideal S128x512 .f32) : Prop where
  h15 : ∀ d e, d15 (ix2 d e) = W d e
  h16 : ∀ d e, d16 (ix2 d e) = Wo d e
  h17 : ∀ e, d17 (ix2 0 e) = b e
  h23 : ∀ (hh : Fin 2) (r : Fin 1024) (l : Fin 128), d23 (ix3 hh ⟨128 + r.val, by omega⟩ l) = P r ⟨512 + 64 * hh.val + l.val % 64, by omega⟩
  h24 : ∀ (hh : Fin 2) (r : Fin 1024) (l : Fin 128), d24 (ix3 hh ⟨128 + r.val, by omega⟩ l) = P r ⟨640 + 64 * hh.val + l.val % 64, by omega⟩
  h29 : IsW d29 SW
  h30 : IsB d30 SB

/-- What the body gives back: the output named, the kept scratch as said, the rest at some contents. -/
def FoV (c : Dev nD) (arg2 : Memref sig .tc .smem S8 .f32) (arg3 : Memref sig .tc .vmem S1x1024x1024 .f32) (arg4 : Memref sig .tc .vmem S1x1024 .f32) (arg6 : Memref sig .tc .vmem S1x2816 .f32) (arg7 : Memref sig .tc .vmem S1x512 .f32) (arg8 : Memref sig .tc .vmem S1x512 .f32) (arg9 : Memref sig .tc .vmem S8x128x128 .f32) (arg10 : Memref sig .tc .vmem S8x128 .f32) (arg12 : Memref sig .tc .vmem S1x1024 .f32) (arg13 : Memref sig .tc .vmem S1x1024 .f32) (arg14 : Memref sig .tc .vmem S1x1024x1024 .f32) (arg15 : Memref sig .tc .vmem S1024x2816 .bf16) (arg16 : Memref sig .tc .vmem S1024x1024 .bf16) (arg17 : Memref sig .tc .vmem S1x2816 .f32) (arg18 : Memref sig .tc .vmem S8x64x2816 .f32) (arg19 : Memref sig .tc .vmem S8x64x1024 .f32) (arg22 : Memref sig .tc .vmem S1024x512 .bf16) (arg23 : Memref sig .tc .vmem S2x1152x128 .bf16) (arg24 : Memref sig .tc .vmem S2x1152x128 .bf16) (arg25 : Memref sig .tc .vmem S1024x512 .f32) (arg26 : Memref sig .tc .vmem S1024x512 .bf16) (arg27 : Memref sig .tc .vmem S1024x512 .f32) (arg28 : Memref sig .tc .vmem S1024x1024 .bf16) (arg29 : Memref sig .tc .vmem S4x128x256 .bf16) (arg30 : Memref sig .tc .vmem S128x512 .f32) (x2 : Vec Ideal S8 .f32) (x3 : Vec Ideal S1x1024x1024 .f32) (x4 : Vec Ideal S1x1024 .f32) (x6 : Vec Ideal S1x2816 .f32) (x7 : Vec Ideal S1x512 .f32) (x8 : Vec Ideal S1x512 .f32) (x9 : Vec Ideal S8x128x128 .f32) (x10 : Vec Ideal S8x128 .f32) (x12 : Vec Ideal S1x1024 .f32) (x13 : Vec Ideal S1x1024 .f32) (fh0 : HbBuf0 (F := Ideal) c hbM0_0) (fh1 : HbBuf0 (F := Ideal) c hbM0_1) (O : Vec Ideal S1x1024x1024 .f32) (Ix : Vec Ideal S1024x2816 .bf16 → Vec Ideal S1024x1024 .bf16 → Vec Ideal S1x2816 .f32 → Vec Ideal S2x1152x128 .bf16 → Vec Ideal S2x1152x128 .bf16 → Vec Ideal S4x128x256 .bf16 → Vec Ideal S128x512 .f32 → Prop) : sProp 𝕄 :=
  iprop(∃ d15, ∃ d16, ∃ d17, ∃ d23, ∃ d24, ∃ d29, ∃ d30, ⌜Ix d15 d16 d17 d23 d24 d29 d30⌝ ∗ owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg12 fullShare x12 ∗ owns (c : Thread nD τ) arg13 fullShare x13 ∗ owns (c : Thread nD τ) arg14 fullShare O ∗ owns (c : Thread nD τ) arg15 fullShare d15 ∗ owns (c : Thread nD τ) arg16 fullShare d16 ∗ owns (c : Thread nD τ) arg17 fullShare d17 ∗ (∃ d, owns (c : Thread nD τ) arg18 fullShare d) ∗ (∃ d, owns (c : Thread nD τ) arg19 fullShare d) ∗ (∃ d, owns (c : Thread nD τ) arg22 fullShare d) ∗ owns (c : Thread nD τ) arg23 fullShare d23 ∗ owns (c : Thread nD τ) arg24 fullShare d24 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ owns (c : Thread nD τ) arg29 fullShare d29 ∗ owns (c : Thread nD τ) arg30 fullShare d30 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ hbPt0 c hbM0_0 fh0 ∗ hbPt0 c hbM0_1 fh1 ∗ (∃ W, owes (c : Thread nD τ) 0 W))

/-- The projections of a tile from its rows. -/
def tileP (x3 : Vec Ideal S1x1024x1024 .f32) (x4 : Vec Ideal S1x1024 .f32) (W : Fin 1024 → Fin 2816 → EReal) (b : Fin 2816 → EReal) (r : Fin 1024) (e : Fin 2816) : EReal :=
  proj (rowH (fun d => x3 (ix3 0 r d)) (fun d => x4 (ix2 0 d))) W b e

/-- The whole body from a triple of its first part and what that part leaves. -/
theorem body_of_preV (c : Dev nD) (i : grid0.Coords) (arg2 : Memref sig .tc .smem S8 .f32) (harg2 : arg2.IsWhole) (arg3 : Memref sig .tc .vmem S1x1024x1024 .f32) (harg3 : arg3.IsWhole) (arg4 : Memref sig .tc .vmem S1x1024 .f32) (harg4 : arg4.IsWhole) (arg6 : Memref sig .tc .vmem S1x2816 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .f32) (harg9 : arg9.IsWhole) (arg10 : Memref sig .tc .vmem S8x128 .f32) (harg10 : arg10.IsWhole) (arg12 : Memref sig .tc .vmem S1x1024 .f32) (harg12 : arg12.IsWhole) (arg13 : Memref sig .tc .vmem S1x1024 .f32) (harg13 : arg13.IsWhole) (arg14 : Memref sig .tc .vmem S1x1024x1024 .f32) (harg14 : arg14.IsWhole) (arg15 : Memref sig .tc .vmem S1024x2816 .bf16) (harg15 : arg15.IsWhole) (arg16 : Memref sig .tc .vmem S1024x1024 .bf16) (harg16 : arg16.IsWhole) (arg17 : Memref sig .tc .vmem S1x2816 .f32) (harg17 : arg17.IsWhole) (arg18 : Memref sig .tc .vmem S8x64x2816 .f32) (harg18 : arg18.IsWhole) (arg19 : Memref sig .tc .vmem S8x64x1024 .f32) (harg19 : arg19.IsWhole) (arg22 : Memref sig .tc .vmem S1024x512 .bf16) (harg22 : arg22.IsWhole) (arg23 : Memref sig .tc .vmem S2x1152x128 .bf16) (harg23 : arg23.IsWhole) (arg24 : Memref sig .tc .vmem S2x1152x128 .bf16) (harg24 : arg24.IsWhole) (arg25 : Memref sig .tc .vmem S1024x512 .f32) (harg25 : arg25.IsWhole) (arg26 : Memref sig .tc .vmem S1024x512 .bf16) (harg26 : arg26.IsWhole) (arg27 : Memref sig .tc .vmem S1024x512 .f32) (harg27 : arg27.IsWhole) (arg28 : Memref sig .tc .vmem S1024x1024 .bf16) (harg28 : arg28.IsWhole) (arg29 : Memref sig .tc .vmem S4x128x256 .bf16) (harg29 : arg29.IsWhole) (arg30 : Memref sig .tc .vmem S128x512 .f32) (harg30 : arg30.IsWhole) (x2 : Vec Ideal S8 .f32) (x3 : Vec Ideal S1x1024x1024 .f32) (x4 : Vec Ideal S1x1024 .f32) (x6 : Vec Ideal S1x2816 .f32) (x7 : Vec Ideal S1x512 .f32) (x8 : Vec Ideal S1x512 .f32) (x9 : Vec Ideal S8x128x128 .f32) (x10 : Vec Ideal S8x128 .f32) (x12 : Vec Ideal S1x1024 .f32) (x13 : Vec Ideal S1x1024 .f32) (x14 : Vec Ideal S1x1024x1024 .f32) (x15 : Vec Ideal S1024x2816 .bf16) (x16 : Vec Ideal S1024x1024 .bf16) (x17 : Vec Ideal S1x2816 .f32) (x18 : Vec Ideal S8x64x2816 .f32) (x19 : Vec Ideal S8x64x1024 .f32) (x22 : Vec Ideal S1024x512 .bf16) (x23 : Vec Ideal S2x1152x128 .bf16) (x24 : Vec Ideal S2x1152x128 .bf16) (x25 : Vec Ideal S1024x512 .f32) (x26 : Vec Ideal S1024x512 .bf16) (x27 : Vec Ideal S1024x512 .f32) (x28 : Vec Ideal S1024x1024 .bf16) (x29 : Vec Ideal S4x128x256 .bf16) (x30 : Vec Ideal S128x512 .f32) (y15 : Vec Ideal S1024x2816 .bf16) (y16 : Vec Ideal S1024x1024 .bf16) (y17 : Vec Ideal S1x2816 .f32) (y18 : Vec Ideal S8x64x2816 .f32) (y19 : Vec Ideal S8x64x1024 .f32) (y22 : Vec Ideal S1024x512 .bf16) (y23 : Vec Ideal S2x1152x128 .bf16) (y24 : Vec Ideal S2x1152x128 .bf16) (y25 : Vec Ideal S1024x512 .f32) (y26 : Vec Ideal S1024x512 .bf16) (y27 : Vec Ideal S1024x512 .f32) (y28 : Vec Ideal S1024x1024 .bf16) (y29 : Vec Ideal S4x128x256 .bf16) (y30 : Vec Ideal S128x512 .f32) (fh0 : HbBuf0 (F := Ideal) c hbM0_0) (fh1 : HbBuf0 (F := Ideal) c hbM0_1) (arg1 : BitVec 32) (v0 : IVec S128x128 32) (v2 : IVec S128x128 1) (v30 : FVec Ideal S256x1024 .bf16) (v32 : FVec Ideal S256x512 .f32) (v33 : Vec Ideal S1x512 .f32)
    (hA : ∀ Q, iprop(St c arg2 arg3 arg4 arg6 arg7 arg8 arg9 arg10 arg12 arg13 arg14 arg15 arg16 arg17 arg18 arg19 arg22 arg23 arg24 arg25 arg26 arg27 arg28 arg29 arg30 x2 x3 x4 x6 x7 x8 x9 x10 x12 x13 x14 x15 x16 x17 x18 x19 x22 x23 x24 x25 x26 x27 x28 x29 x30 fh0 fh1 ∗ (St c arg2 arg3 arg4 arg6 arg7 arg8 arg9 arg10 arg12 arg13 arg14 arg15 arg16 arg17 arg18 arg19 arg22 arg23 arg24 arg25 arg26 arg27 arg28 arg29 arg30 x2 x3 x4 x6 x7 x8 x9 x10 x12 x13 x14 y15 y16 y17 y18 y19 y22 y23 y24 y25 y26 y27 y28 y29 y30 fh0 fh1 -∗ Q ⟨arg1, v0, v2, v30, v32, v33⟩)) ⊢ wp frame (wpE (defs₀ (F := Ideal)) Variants.none c none) Set.univ (k0_part25 i arg2 harg2 arg3 harg3 arg4 harg4 (Memref.whole main_v3) (Memref.isWhole_whole _) arg6 harg6 arg7 harg7 arg8 harg8 arg9 harg9 arg10 harg10 (Memref.whole main_v12) (Memref.isWhole_whole _) arg12 harg12 arg13 harg13 arg14 harg14 arg15 harg15 arg16 harg16 arg17 harg17 arg18 harg18 arg19 harg19 cc0_scratch5 cc0_scratch6 arg22 harg22 arg23 harg23 arg24 harg24 arg25 harg25 arg26 harg26 arg27 harg27 arg28 harg28 arg29 harg29 arg30 harg30) Q)
    (hp : Bool) (W : Fin 1024 → Fin 2816 → EReal) (b : Fin 2816 → EReal) (Wo : Fin 1024 → Fin 1024 → EReal) (SW : Fin 8 → Fin 128 → Fin 128 → EReal) (SB : Fin 8 → Fin 128 → EReal) (HK HV : Fin 2 → Fin 128 → Fin 64 → EReal) (ok : PreOK i W b Wo SW SB HK HV x3 x4 y15 y16 y17 y23 y24 y29 y30 arg1 v0 v2 v30 v32 v33)
    (O : Vec Ideal S1x1024x1024 .f32) (hO : ∀ r d, O (ix3 0 r d) = tileOut hp (fun r d => x3 (ix3 0 r d)) (tileP x3 x4 W b) HK HV (fun h => x2 (ix1 h)) (fun c => x7 (ix2 0 c)) (fun c => x8 (ix2 0 c)) SW SB Wo (fun d => x12 (ix2 0 d)) (fun d => x13 (ix2 0 d)) r d)
    (hhp : Scalar.cmpi .sgt (BitVec.ofNat 32 (i 1).val) 0#32 = BitVec.ofBool hp)
    (K : PUnit → sProp 𝕄) :
    iprop(St c arg2 arg3 arg4 arg6 arg7 arg8 arg9 arg10 arg12 arg13 arg14 arg15 arg16 arg17 arg18 arg19 arg22 arg23 arg24 arg25 arg26 arg27 arg28 arg29 arg30 x2 x3 x4 x6 x7 x8 x9 x10 x12 x13 x14 x15 x16 x17 x18 x19 x22 x23 x24 x25 x26 x27 x28 x29 x30 fh0 fh1 ∗ (FoV c arg2 arg3 arg4 arg6 arg7 arg8 arg9 arg10 arg12 arg13 arg14 arg15 arg16 arg17 arg18 arg19 arg22 arg23 arg24 arg25 arg26 arg27 arg28 arg29 arg30 x2 x3 x4 x6 x7 x8 x9 x10 x12 x13 fh0 fh1 O (Kept W b Wo SW SB (tileP x3 x4 W b)) -∗ K ⟨⟩)) ⊢ wp frame (wpE (defs₀ (F := Ideal)) Variants.none c none) Set.univ (cc0_hybrid_layer i arg2 harg2 arg3 harg3 arg4 harg4 (Memref.whole main_v3) (Memref.isWhole_whole _) arg6 harg6 arg7 harg7 arg8 harg8 arg9 harg9 arg10 harg10 (Memref.whole main_v12) (Memref.isWhole_whole _) arg12 harg12 arg13 harg13 arg14 harg14 arg15 harg15 arg16 harg16 arg17 harg17 arg18 harg18 arg19 harg19 cc0_scratch5 cc0_scratch6 arg22 harg22 arg23 harg23 arg24 harg24 arg25 harg25 arg26 harg26 arg27 harg27 arg28 harg28 arg29 harg29 arg30 harg30) K := by
  have eW : (fun d e => y15 (ix2 d e)) = W := funext fun d => funext fun e => ok.h15 d e
  have eB : (fun e => y17 (ix2 0 e)) = b := funext fun e => ok.h17 e
  have eWo : (fun d e => y16 (ix2 d e)) = Wo := funext fun d => funext fun e => ok.h16 d e
  have eP : tp x3 x4 y15 y17 = tileP x3 x4 W b := by subst eW eB; rfl
  have hk := fun hh (r : Fin 1024) l => run_k c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 x2 x3 x4 x6 x7 x8 x9 x10 x12 x13 x14 y15 y16 y17 y18 y19 y22 y23 y24 y25 y26 y27 y28 y29 y30 fh0 fh1 arg1 v0 v2 v30 v32 v33 ok.hv30 hh ⟨128 + r.val, by omega⟩ l (Nat.le_add_right _ _)
  have hv := fun hh (r : Fin 1024) l => run_v c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 x2 x3 x4 x6 x7 x8 x9 x10 x12 x13 x14 y15 y16 y17 y18 y19 y22 y23 y24 y25 y26 y27 y28 y29 y30 fh0 fh1 arg1 v0 v2 v30 v32 v33 ok.hv30 hh ⟨128 + r.val, by omega⟩ l (Nat.le_add_right _ _)
  have ho := fun r d => run_out c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 x2 x3 x4 x6 x7 x8 x9 x10 x12 x13 x14 y15 y16 y17 y18 y19 y22 y23 y24 y25 y26 y27 y28 y29 y30 fh0 fh1 arg1 v0 v2 v30 v32 v33 hp ok.hv0 ok.hv2 ok.hv30 ok.hv32 ok.hv33 (by rw [ok.harg1]; exact hhp) HK HV ok.h23 ok.h24 SW SB ok.h29 ok.h30 r d
  have H := (mainRun (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 x2 x3 x4 x6 x7 x8 x9 x10 x12 x13 x14 y15 y16 y17 y18 y19 y22 y23 y24 y25 y26 y27 y28 y29 y30 fh0 fh1 arg1 v0 v2 v30 v32 v33).2.2.2 _ K hA
  generalize (mainRun (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 x2 x3 x4 x6 x7 x8 x9 x10 x12 x13 x14 y15 y16 y17 y18 y19 y22 y23 y24 y25 y26 y27 y28 y29 y30 fh0 fh1 arg1 v0 v2 v30 v32 v33) = R at hk hv ho H
  obtain ⟨z14, z23, z24, hR⟩ := R
  dsimp only at hk hv ho H
  clear hR
  rw [eP] at hk hv ho
  rw [eWo] at ho
  have hz : z14 = O := funext fun y => by
    change S1x1024x1024.Idx at y
    idx_vars y
    obtain rfl : y0 = 0 := Subsingleton.elim _ _
    exact (ho y1 y2).trans (hO y1 y2).symm
  subst hz
  have kept : Kept W b Wo SW SB (tileP x3 x4 W b) y15 y16 y17 z23 z24 y29 y30 :=
    ⟨ok.h15, ok.h16, ok.h17,
      fun hh r l => (hk hh r l).trans (ap2 (tileP x3 x4 W b) (by show 128 + r.val - 128 = r.val; omega) rfl),
      fun hh r l => (hv hh r l).trans (ap2 (tileP x3 x4 W b) (by show 128 + r.val - 128 = r.val; omega) rfl), ok.h29, ok.h30⟩
  clear hk hv ho hO hA
  iintro ⟨HA, Hk⟩
  iapply H
  isplitl [HA]; · iexact HA
  unfold Po
  iintro ⟨H0, H1, H2, H3, H4, H5, H6, H7, H8, H9, H10, HS0, HS1, HS2, HS3, HS4, HS5, HS6, HS7, HS8, HS9, HS10, HS11, HS12, HS13, Hq0, Hq1, Hq2, Hq3, Hq4, Hq5, Hq6, Hq7, Hq8, Hq9, Hq10, Hq11, Hq12, Hq13, Hq14, Hq15, Hh0, Hh1, HW⟩
  iapply Hk
  unfold FoV
  iexists y15, y16, y17, z23, z24, y29, y30
  isplitr; · ipureintro; exact kept
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexists _; iexact HS3
  isplitl [HS4]; · iexists _; iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hh0]; · iexact Hh0
  isplitl [Hh1]; · iexact Hh1
  iexact HW

/-- The whole body at any point: the first grid point, a batch row's first tile, or another. -/
theorem body_anyV (c : Dev nD) (i : grid0.Coords) (arg2 : Memref sig .tc .smem S8 .f32) (harg2 : arg2.IsWhole) (arg3 : Memref sig .tc .vmem S1x1024x1024 .f32) (harg3 : arg3.IsWhole) (arg4 : Memref sig .tc .vmem S1x1024 .f32) (harg4 : arg4.IsWhole) (arg6 : Memref sig .tc .vmem S1x2816 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .f32) (harg9 : arg9.IsWhole) (arg10 : Memref sig .tc .vmem S8x128 .f32) (harg10 : arg10.IsWhole) (arg12 : Memref sig .tc .vmem S1x1024 .f32) (harg12 : arg12.IsWhole) (arg13 : Memref sig .tc .vmem S1x1024 .f32) (harg13 : arg13.IsWhole) (arg14 : Memref sig .tc .vmem S1x1024x1024 .f32) (harg14 : arg14.IsWhole) (arg15 : Memref sig .tc .vmem S1024x2816 .bf16) (harg15 : arg15.IsWhole) (arg16 : Memref sig .tc .vmem S1024x1024 .bf16) (harg16 : arg16.IsWhole) (arg17 : Memref sig .tc .vmem S1x2816 .f32) (harg17 : arg17.IsWhole) (arg18 : Memref sig .tc .vmem S8x64x2816 .f32) (harg18 : arg18.IsWhole) (arg19 : Memref sig .tc .vmem S8x64x1024 .f32) (harg19 : arg19.IsWhole) (arg22 : Memref sig .tc .vmem S1024x512 .bf16) (harg22 : arg22.IsWhole) (arg23 : Memref sig .tc .vmem S2x1152x128 .bf16) (harg23 : arg23.IsWhole) (arg24 : Memref sig .tc .vmem S2x1152x128 .bf16) (harg24 : arg24.IsWhole) (arg25 : Memref sig .tc .vmem S1024x512 .f32) (harg25 : arg25.IsWhole) (arg26 : Memref sig .tc .vmem S1024x512 .bf16) (harg26 : arg26.IsWhole) (arg27 : Memref sig .tc .vmem S1024x512 .f32) (harg27 : arg27.IsWhole) (arg28 : Memref sig .tc .vmem S1024x1024 .bf16) (harg28 : arg28.IsWhole) (arg29 : Memref sig .tc .vmem S4x128x256 .bf16) (harg29 : arg29.IsWhole) (arg30 : Memref sig .tc .vmem S128x512 .f32) (harg30 : arg30.IsWhole) (h01 : cond0_0 i → cond0_1 i) (h12 : cond0_1 i ↔ ¬cond0_2 i) (x2 : Vec Ideal S8 .f32) (x3 : Vec Ideal S1x1024x1024 .f32) (x4 : Vec Ideal S1x1024 .f32) (x6 : Vec Ideal S1x2816 .f32) (x7 : Vec Ideal S1x512 .f32) (x8 : Vec Ideal S1x512 .f32) (x9 : Vec Ideal S8x128x128 .f32) (x10 : Vec Ideal S8x128 .f32) (x12 : Vec Ideal S1x1024 .f32) (x13 : Vec Ideal S1x1024 .f32) (x14 : Vec Ideal S1x1024x1024 .f32) (x15 : Vec Ideal S1024x2816 .bf16) (x16 : Vec Ideal S1024x1024 .bf16) (x17 : Vec Ideal S1x2816 .f32) (x18 : Vec Ideal S8x64x2816 .f32) (x19 : Vec Ideal S8x64x1024 .f32) (x22 : Vec Ideal S1024x512 .bf16) (x23 : Vec Ideal S2x1152x128 .bf16) (x24 : Vec Ideal S2x1152x128 .bf16) (x25 : Vec Ideal S1024x512 .f32) (x26 : Vec Ideal S1024x512 .bf16) (x27 : Vec Ideal S1024x512 .f32) (x28 : Vec Ideal S1024x1024 .bf16) (x29 : Vec Ideal S4x128x256 .bf16) (x30 : Vec Ideal S128x512 .f32) (fh0 : HbBuf0 (F := Ideal) c hbM0_0) (fh1 : HbBuf0 (F := Ideal) c hbM0_1)
    (hp : Bool) (W : Fin 1024 → Fin 2816 → EReal) (b : Fin 2816 → EReal) (Wo : Fin 1024 → Fin 1024 → EReal) (SW : Fin 8 → Fin 128 → Fin 128 → EReal) (SB : Fin 8 → Fin 128 → EReal) (HK HV : Fin 2 → Fin 128 → Fin 64 → EReal) (hin : cond0_0 i ∨ ∃ P', Kept W b Wo SW SB P' x15 x16 x17 x23 x24 x29 x30 ∧ (¬cond0_1 i → ∀ (hh : Fin 2) (r : Fin 128) (l : Fin 64), HK hh r l = P' ⟨896 + r.val, by omega⟩ ⟨512 + 64 * hh.val + l.val, by omega⟩ ∧ HV hh r l = P' ⟨896 + r.val, by omega⟩ ⟨640 + 64 * hh.val + l.val, by omega⟩))
    (hz : cond0_1 i → HK = (fun _ _ _ => 0) ∧ HV = fun _ _ _ => 0)
    (hW : W = fun d e => (hbM0_0.view.read (Elt Ideal) fh0 : Vec Ideal S1024x2816 .f32) (ix2 d e) * cs e) (hb : b = fun e => x6 (ix2 0 e) * cs e)
    (hWo : Wo = fun d e => (hbM0_1.view.read (Elt Ideal) fh1 : Vec Ideal S1024x1024 .f32) (ix2 d e)) (hSW : SW = tril x9) (hSB : SB = fun h i => x10 (ix2 h i))
    (O : Vec Ideal S1x1024x1024 .f32) (hO : ∀ r d, O (ix3 0 r d) = tileOut hp (fun r d => x3 (ix3 0 r d)) (tileP x3 x4 W b) HK HV (fun h => x2 (ix1 h)) (fun c => x7 (ix2 0 c)) (fun c => x8 (ix2 0 c)) SW SB Wo (fun d => x12 (ix2 0 d)) (fun d => x13 (ix2 0 d)) r d)
    (hhp : Scalar.cmpi .sgt (BitVec.ofNat 32 (i 1).val) 0#32 = BitVec.ofBool hp)
    (K : PUnit → sProp 𝕄) :
    iprop(St c arg2 arg3 arg4 arg6 arg7 arg8 arg9 arg10 arg12 arg13 arg14 arg15 arg16 arg17 arg18 arg19 arg22 arg23 arg24 arg25 arg26 arg27 arg28 arg29 arg30 x2 x3 x4 x6 x7 x8 x9 x10 x12 x13 x14 x15 x16 x17 x18 x19 x22 x23 x24 x25 x26 x27 x28 x29 x30 fh0 fh1 ∗ (FoV c arg2 arg3 arg4 arg6 arg7 arg8 arg9 arg10 arg12 arg13 arg14 arg15 arg16 arg17 arg18 arg19 arg22 arg23 arg24 arg25 arg26 arg27 arg28 arg29 arg30 x2 x3 x4 x6 x7 x8 x9 x10 x12 x13 fh0 fh1 O (Kept W b Wo SW SB (tileP x3 x4 W b)) -∗ K ⟨⟩)) ⊢ wp frame (wpE (defs₀ (F := Ideal)) Variants.none c none) Set.univ (cc0_hybrid_layer i arg2 harg2 arg3 harg3 arg4 harg4 (Memref.whole main_v3) (Memref.isWhole_whole _) arg6 harg6 arg7 harg7 arg8 harg8 arg9 harg9 arg10 harg10 (Memref.whole main_v12) (Memref.isWhole_whole _) arg12 harg12 arg13 harg13 arg14 harg14 arg15 harg15 arg16 harg16 arg17 harg17 arg18 harg18 arg19 harg19 cc0_scratch5 cc0_scratch6 arg22 harg22 arg23 harg23 arg24 harg24 arg25 harg25 arg26 harg26 arg27 harg27 arg28 harg28 arg29 harg29 arg30 harg30) K := by
  by_cases hc1 : cond0_1 i
  · obtain ⟨hHK, hHV⟩ := hz hc1
    by_cases hc0 : cond0_0 i
    · exact body_of_preV c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 x2 x3 x4 x6 x7 x8 x9 x10 x12 x13 x14 x15 x16 x17 x18 x19 x22 x23 x24 x25 x26 x27 x28 x29 x30 _ _ _ _ _ _ _ _ _ _ _ _ _ _  fh0 fh1 _ _ _ _ _ _ (preA (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 (h12.mp hc1) x2 x3 x4 x6 x7 x8 x9 x10 x12 x13 x14 x15 x16 x17 x18 x19 x22 x23 x24 x25 x26 x27 x28 x29 x30 fh0 fh1).2.2.2.2.2.2.2.2.2.2.2.2.2.2.2 hp W b Wo SW SB HK HV (by subst hHK hHV hW hb hWo hSW hSB; exact preA_ok c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 (h12.mp hc1) x2 x3 x4 x6 x7 x8 x9 x10 x12 x13 x14 x15 x16 x17 x18 x19 x22 x23 x24 x25 x26 x27 x28 x29 x30 fh0 fh1) O hO hhp K
    · obtain ⟨P', kp, -⟩ := hin.resolve_left hc0
      exact body_of_preV c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 x2 x3 x4 x6 x7 x8 x9 x10 x12 x13 x14 x15 x16 x17 x18 x19 x22 x23 x24 x25 x26 x27 x28 x29 x30 _ _ _ _ _ _ _ _ _ _ _ _ _ _  fh0 fh1 _ _ _ _ _ _ (preB (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 (h12.mp hc1) x2 x3 x4 x6 x7 x8 x9 x10 x12 x13 x14 x15 x16 x17 x18 x19 x22 x23 x24 x25 x26 x27 x28 x29 x30 fh0 fh1).2.2.2.2.2.2.2.2 hp W b Wo SW SB HK HV (by rw [hHK, hHV]; exact preB_ok c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 hc0 hc1 (h12.mp hc1) x2 x3 x4 x6 x7 x8 x9 x10 x12 x13 x14 x15 x16 x17 x18 x19 x22 x23 x24 x25 x26 x27 x28 x29 x30 fh0 fh1 W b Wo SW SB kp.h15 kp.h16 kp.h17 kp.h29 kp.h30) O hO hhp K
  · obtain ⟨P', kp, hkv⟩ := hin.resolve_left fun h => hc1 (h01 h)
    have h23 : ∀ (hh : Fin 2) (r l : Fin 128), x23 (ix3 hh ⟨1024 + r.val, by omega⟩ l) = HK hh r ⟨l.val % 64, by omega⟩ := fun hh r l =>
      (congrArg x23 (congrArg (fun q => ix3 hh q l) (Fin.ext (by show 1024 + r.val = 128 + (896 + r.val); omega)))).trans ((kp.h23 hh ⟨896 + r.val, by omega⟩ l).trans (hkv hc1 hh r ⟨l.val % 64, by omega⟩).1.symm)
    have h24 : ∀ (hh : Fin 2) (r l : Fin 128), x24 (ix3 hh ⟨1024 + r.val, by omega⟩ l) = HV hh r ⟨l.val % 64, by omega⟩ := fun hh r l =>
      (congrArg x24 (congrArg (fun q => ix3 hh q l) (Fin.ext (by show 1024 + r.val = 128 + (896 + r.val); omega)))).trans ((kp.h24 hh ⟨896 + r.val, by omega⟩ l).trans (hkv hc1 hh r ⟨l.val % 64, by omega⟩).2.symm)
    exact body_of_preV c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 x2 x3 x4 x6 x7 x8 x9 x10 x12 x13 x14 x15 x16 x17 x18 x19 x22 x23 x24 x25 x26 x27 x28 x29 x30 _ _ _ _ _ _ _ _ _ _ _ _ _ _  fh0 fh1 _ _ _ _ _ _ (preC (F := Ideal) c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 (fun h => hc1 (h01 h)) hc1 (not_not.mp fun h => hc1 (h12.mpr h)) x2 x3 x4 x6 x7 x8 x9 x10 x12 x13 x14 x15 x16 x17 x18 x19 x22 x23 x24 x25 x26 x27 x28 x29 x30 fh0 fh1).2.2.2.2.2.2.2.2 hp W b Wo SW SB HK HV (preC_ok c i arg2 harg2 arg3 harg3 arg4 harg4 arg6 harg6 arg7 harg7 arg8 harg8 arg9 harg9 arg10 harg10 arg12 harg12 arg13 harg13 arg14 harg14 arg15 harg15 arg16 harg16 arg17 harg17 arg18 harg18 arg19 harg19 arg22 harg22 arg23 harg23 arg24 harg24 arg25 harg25 arg26 harg26 arg27 harg27 arg28 harg28 arg29 harg29 arg30 harg30 (fun h => hc1 (h01 h)) hc1 (not_not.mp fun h => hc1 (h12.mpr h)) x2 x3 x4 x6 x7 x8 x9 x10 x12 x13 x14 x15 x16 x17 x18 x19 x22 x23 x24 x25 x26 x27 x28 x29 x30 fh0 fh1 W b Wo SW SB kp.h15 kp.h16 kp.h17 kp.h29 kp.h30 HK HV h23 h24) O hO hhp K

end Cert.KernelIdeal.Hand

end
-- ==== Proof.IdealFrameV.lean ====
module

public import proofs.«01_k».proof.Proof.IdealBodyV
public import proofs.«01_k».proof.Proof.IdealFrame
public import Idealize.ShloMosaic.Lib.Pipeline.ValueKit

@[expose] public section

set_option maxRecDepth 16384

noncomputable section

namespace Cert.KernelIdeal.Val

open Cert.KernelIdeal.Gen Cert.Spec Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-- The weight's columns, scaled. -/
def scaleW (w : Vec Ideal S1024x2816 .f32) (d : Fin 1024) (e : Fin 2816) : EReal := w (ix2 d e) * cs e
/-- The bias, scaled. -/
def scaleB (b : Vec Ideal S1x2816 .f32) (e : Fin 2816) : EReal := b (ix2 0 e) * cs e
/-- The projection's weight as the kernel keeps it. -/
def wK (c : Dev nD) (d : Fin 1024) (e : Fin 2816) : EReal := scaleW (V m c main_v3) d e
/-- The projection's bias as the kernel keeps it. -/
def bK (c : Dev nD) (e : Fin 2816) : EReal := scaleB (V m c main_v5) e
/-- The output weight. -/
def woK (c : Dev nD) (d e : Fin 1024) : EReal := (V m c main_v12 : Vec Ideal S1024x1024 .f32) (ix2 d e)
/-- The gate weight. -/
def swK (c : Dev nD) : Fin 8 → Fin 128 → Fin 128 → EReal := tril (V m c main_v10 : Vec Ideal S8x128x128 .f32)
/-- The gate bias. -/
def sbK (c : Dev nD) (h : Fin 8) (i : Fin 128) : EReal := (V m c main_v11 : Vec Ideal S8x128 .f32) (ix2 h i)

theorem idx1 : ∀ t : Fin cfg0.N, win0_1.index t = ![t.val / 4, t.val % 4, 0] := (by decide +kernel : ∀ t : Fin grid0.N, _)
theorem idx10 : ∀ t : Fin cfg0.N, win0_10.index t = ![t.val / 4, t.val % 4, 0] := (by decide +kernel : ∀ t : Fin grid0.N, _)
theorem coord1 : ∀ t : Fin cfg0.N, Scalar.cmpi .sgt (BitVec.ofNat 32 (grid0.coords t 1).val) 0#32 = BitVec.ofBool (decide (0 < t.val % 4)) := (by decide +kernel : ∀ t : Fin grid0.N, _)
theorem idx0 : ∀ t : Fin cfg0.N, win0_0.index t = ![0] := (by decide +kernel : ∀ t : Fin grid0.N, _)
theorem iblk0 (c : Dev nD) (t : Fin cfg0.N) : (iblk m c 0 t : Vec Ideal S8 .f32) = (V m c main_v0 : Vec Ideal S8 .f32) := by
  blk_ext! [iblk, idx0 t]
theorem idx2 : ∀ t : Fin cfg0.N, win0_2.index t = ![0, 0] := (by decide +kernel : ∀ t : Fin grid0.N, _)
theorem iblk2 (c : Dev nD) (t : Fin cfg0.N) : (iblk m c 2 t : Vec Ideal S1x1024 .f32) = (V m c main_v2 : Vec Ideal S1x1024 .f32) := by
  blk_ext! [iblk, idx2 t]
theorem idx3 : ∀ t : Fin cfg0.N, win0_3.index t = ![0, 0] := (by decide +kernel : ∀ t : Fin grid0.N, _)
theorem iblk3 (c : Dev nD) (t : Fin cfg0.N) : (iblk m c 3 t : Vec Ideal S1x2816 .f32) = (V m c main_v5 : Vec Ideal S1x2816 .f32) := by
  blk_ext! [iblk, idx3 t]
theorem idx4 : ∀ t : Fin cfg0.N, win0_4.index t = ![0, 0] := (by decide +kernel : ∀ t : Fin grid0.N, _)
theorem iblk4 (c : Dev nD) (t : Fin cfg0.N) : (iblk m c 4 t : Vec Ideal S1x512 .f32) = (V m c main_v7 : Vec Ideal S1x512 .f32) := by
  blk_ext! [iblk, idx4 t]
theorem idx5 : ∀ t : Fin cfg0.N, win0_5.index t = ![0, 0] := (by decide +kernel : ∀ t : Fin grid0.N, _)
theorem iblk5 (c : Dev nD) (t : Fin cfg0.N) : (iblk m c 5 t : Vec Ideal S1x512 .f32) = (V m c main_v9 : Vec Ideal S1x512 .f32) := by
  blk_ext! [iblk, idx5 t]
theorem idx6 : ∀ t : Fin cfg0.N, win0_6.index t = ![0, 0, 0] := (by decide +kernel : ∀ t : Fin grid0.N, _)
theorem iblk6 (c : Dev nD) (t : Fin cfg0.N) : (iblk m c 6 t : Vec Ideal S8x128x128 .f32) = (V m c main_v10 : Vec Ideal S8x128x128 .f32) := by
  blk_ext! [iblk, idx6 t]
theorem idx7 : ∀ t : Fin cfg0.N, win0_7.index t = ![0, 0] := (by decide +kernel : ∀ t : Fin grid0.N, _)
theorem iblk7 (c : Dev nD) (t : Fin cfg0.N) : (iblk m c 7 t : Vec Ideal S8x128 .f32) = (V m c main_v11 : Vec Ideal S8x128 .f32) := by
  blk_ext! [iblk, idx7 t]
theorem idx8 : ∀ t : Fin cfg0.N, win0_8.index t = ![0, 0] := (by decide +kernel : ∀ t : Fin grid0.N, _)
theorem iblk8 (c : Dev nD) (t : Fin cfg0.N) : (iblk m c 8 t : Vec Ideal S1x1024 .f32) = (V m c main_v14 : Vec Ideal S1x1024 .f32) := by
  blk_ext! [iblk, idx8 t]
theorem idx9 : ∀ t : Fin cfg0.N, win0_9.index t = ![0, 0] := (by decide +kernel : ∀ t : Fin grid0.N, _)
theorem iblk9 (c : Dev nD) (t : Fin cfg0.N) : (iblk m c 9 t : Vec Ideal S1x1024 .f32) = (V m c main_v15 : Vec Ideal S1x1024 .f32) := by
  blk_ext! [iblk, idx9 t]

theorem iblk1 (c : Dev nD) (t : Fin cfg0.N) (r d : Fin 1024) : (iblk m c 1 t : Vec Ideal S1x1024x1024 .f32) (ix3 0 r d)
    = (V m c main_arg0 : Vec Ideal S8x4096x1024 .f32) (ix3 ⟨t.val / 4, by have := lt_of_lt_of_eq t.isLt (show cfg0.N = 32 from N_0); omega⟩ ⟨1024 * (t.val % 4) + r.val, by omega⟩ d) := by
  blk_ext [iblk, idx1 t]

/-- A tile's projections. -/
def P (c : Dev nD) (t : Fin cfg0.N) : Fin 1024 → Fin 2816 → EReal := tileP (iblk m c 1 t) (iblk m c 2 t) (wK m c) (bK m c)

/-- The tile before. -/
def prevT (t : Fin cfg0.N) : Fin cfg0.N := ⟨t.val - 1, Nat.lt_of_le_of_lt (Nat.sub_le _ _) t.isLt⟩

/-- The halo of a tile's keys or values: the last rows of the tile before, or nothing at a batch row's start. -/
def haloOf (off : ℕ) (ho : off + 128 ≤ 2816) (c : Dev nD) (t : Fin cfg0.N) (hh : Fin 2) (r : Fin 128) (l : Fin 64) : EReal :=
  if t.val % 4 = 0 then 0 else P m c (prevT t) ⟨896 + r.val, by omega⟩ ⟨off + 64 * hh.val + l.val, by omega⟩

/-- The block the body leaves. -/
def outB (c : Dev nD) (t : Fin cfg0.N) : Vec Ideal S1x1024x1024 .f32 := fun y =>
  tileOut (decide (0 < t.val % 4)) (fun r d => (iblk m c 1 t : Vec Ideal S1x1024x1024 .f32) (ix3 0 r d)) (P m c t) (haloOf m 512 (by omega) c t) (haloOf m 640 (by omega) c t)
    (fun h => (iblk m c 0 t : Vec Ideal S8 .f32) (ix1 h)) (fun k => (iblk m c 4 t : Vec Ideal S1x512 .f32) (ix2 0 k)) (fun k => (iblk m c 5 t : Vec Ideal S1x512 .f32) (ix2 0 k)) (swK m c) (sbK m c) (woK m c)
    (fun d => (iblk m c 8 t : Vec Ideal S1x1024 .f32) (ix2 0 d)) (fun d => (iblk m c 9 t : Vec Ideal S1x1024 .f32) (ix2 0 d)) (y 1) (y 2)

/-- What the scratch holds before grid point `n`. -/
def Inv (c : Dev nD) (n : ℕ) (d15 : Vec Ideal S1024x2816 .bf16) (d16 : Vec Ideal S1024x1024 .bf16) (d17 : Vec Ideal S1x2816 .f32) (d23 : Vec Ideal S2x1152x128 .bf16) (d24 : Vec Ideal S2x1152x128 .bf16) (d29 : Vec Ideal S4x128x256 .bf16) (d30 : Vec Ideal S128x512 .f32) : Prop :=
  n = 0 ∨ ∃ t : Fin cfg0.N, t.val + 1 = n ∧ Kept (wK m c) (bK m c) (woK m c) (swK m c) (sbK m c) (P m c t) d15 d16 d17 d23 d24 d29 d30

/-- The core's resources between grid points. -/
def PhiV (c : Dev nD) (n : ℕ) : sProp 𝕄 :=
  iprop(∃ d15, ∃ d16, ∃ d17, ∃ d23, ∃ d24, ∃ d29, ∃ d30, ⌜Inv m c n d15 d16 d17 d23 d24 d29 d30⌝ ∗ iprop(iprop(owns (c : Thread nD τ) scM0_0 fullShare d15 ∗ owns (c : Thread nD τ) scM0_1 fullShare d16 ∗ owns (c : Thread nD τ) scM0_2 fullShare d17 ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare d23 ∗ owns (c : Thread nD τ) scM0_7 fullShare d24 ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ owns (c : Thread nD τ) scM0_12 fullShare d29 ∗ owns (c : Thread nD τ) scM0_13 fullShare d30) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0) ∗ iprop(hbPt0 c hbM0_0 (V m c main_v3) ∗ hbPt0 c hbM0_1 (V m c main_v12))))

/-- The pipeline's proof data: each input's buffer holds its block at every point, the output's the tile, and
    between points the core holds its scratch as `Inv` says, its counters at zero and the weights in HBM as launched. -/
def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outB m c t
  Φ n := PhiV m c n.val
  q _ := fullShare
  owed _ := 0

/-- The proof data's arrays are those the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outB m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

/-- What the launch hands the first point. -/
theorem hin (c : Dev nD) : (Pipeline.ΦD osem0 spec0 H0 (V m) c : sProp 𝕄) ⊢ PhiV m c 0 := by
  rw [PhiD0_eq]; unfold PhiV
  iintro ⟨⟨⟨%d15, HS0⟩, ⟨%d16, HS1⟩, ⟨%d17, HS2⟩, ⟨%d18, HS3⟩, ⟨%d19, HS4⟩, ⟨%d22, HS5⟩, ⟨%d23, HS6⟩, ⟨%d24, HS7⟩, ⟨%d25, HS8⟩, ⟨%d26, HS9⟩, ⟨%d27, HS10⟩, ⟨%d28, HS11⟩, ⟨%d29, HS12⟩, ⟨%d30, HS13⟩⟩, Hg, ⟨Hq0, Hq1, Hq2, Hq3, Hq4, Hq5, Hq6, Hq7, Hq8, Hq9, Hq10, Hq11, Hq12, Hq13, Hq14, Hq15⟩, ⟨Hh0, Hh1⟩⟩
  iexists d15, d16, d17, d23, d24, d29, d30
  isplitr; · ipureintro; exact Or.inl rfl
  isplitl [HS0 HS1 HS2 HS3 HS4 HS5 HS6 HS7 HS8 HS9 HS10 HS11 HS12 HS13]
  · isplitl [HS0]; · iexact HS0
    isplitl [HS1]; · iexact HS1
    isplitl [HS2]; · iexact HS2
    isplitl [HS3]; · iexists _; iexact HS3
    isplitl [HS4]; · iexists _; iexact HS4
    isplitl [HS5]; · iexists _; iexact HS5
    isplitl [HS6]; · iexact HS6
    isplitl [HS7]; · iexact HS7
    isplitl [HS8]; · iexists _; iexact HS8
    isplitl [HS9]; · iexists _; iexact HS9
    isplitl [HS10]; · iexists _; iexact HS10
    isplitl [HS11]; · iexists _; iexact HS11
    isplitl [HS12]; · iexact HS12
    iexact HS13
  isplitl [Hg]; · iexact Hg
  isplitl [Hq0 Hq1 Hq2 Hq3 Hq4 Hq5 Hq6 Hq7 Hq8 Hq9 Hq10 Hq11 Hq12 Hq13 Hq14 Hq15]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  isplitl [Hh0]; · iexact Hh0
  iexact Hh1

/-- What the last point gives back. -/
theorem hout (c : Dev nD) (n : ℕ) : PhiV m c n ⊢ (Pipeline.ΦD osem0 spec0 H0 (V m) c : sProp 𝕄) := by
  rw [PhiD0_eq]; unfold PhiV
  iintro ⟨%d15, %d16, %d17, %d23, %d24, %d29, %d30, %hI, ⟨HS0, HS1, HS2, ⟨%d18, HS3⟩, ⟨%d19, HS4⟩, ⟨%d22, HS5⟩, HS6, HS7, ⟨%d25, HS8⟩, ⟨%d26, HS9⟩, ⟨%d27, HS10⟩, ⟨%d28, HS11⟩, HS12, HS13⟩, Hg, ⟨Hq0, Hq1, Hq2, Hq3, Hq4, Hq5, Hq6, Hq7, Hq8, Hq9, Hq10, Hq11, Hq12, Hq13, Hq14, Hq15⟩, ⟨Hh0, Hh1⟩⟩
  isplitl [HS0 HS1 HS2 HS3 HS4 HS5 HS6 HS7 HS8 HS9 HS10 HS11 HS12 HS13]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    iexists _; iexact HS13
  isplitl [Hg]; · iexact Hg
  isplitl [Hq0 Hq1 Hq2 Hq3 Hq4 Hq5 Hq6 Hq7 Hq8 Hq9 Hq10 Hq11 Hq12 Hq13 Hq14 Hq15]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  isplitl [Hh0]; · iexact Hh0
  iexact Hh1

/-- What the scratch must hold at a point, off what is known of it. -/
theorem hin_of (c : Dev nD) (t : Fin cfg0.N) (d15 : Vec Ideal S1024x2816 .bf16) (d16 : Vec Ideal S1024x1024 .bf16) (d17 : Vec Ideal S1x2816 .f32) (d23 : Vec Ideal S2x1152x128 .bf16) (d24 : Vec Ideal S2x1152x128 .bf16) (d29 : Vec Ideal S4x128x256 .bf16) (d30 : Vec Ideal S128x512 .f32) (hI : Inv m c t.val d15 d16 d17 d23 d24 d29 d30) :
    cond0_0 (grid0.coords t) ∨ ∃ P', Kept (wK m c) (bK m c) (woK m c) (swK m c) (sbK m c) P' d15 d16 d17 d23 d24 d29 d30 ∧ (¬cond0_1 (grid0.coords t) → ∀ (hh : Fin 2) (r : Fin 128) (l : Fin 64),
      haloOf m 512 (by omega) c t hh r l = P' ⟨896 + r.val, by omega⟩ ⟨512 + 64 * hh.val + l.val, by omega⟩ ∧ haloOf m 640 (by omega) c t hh r l = P' ⟨896 + r.val, by omega⟩ ⟨640 + 64 * hh.val + l.val, by omega⟩) := by
  rcases hI with h0 | ⟨s, hs, kp⟩
  · exact Or.inl ((hcond0_0 t).mpr (by rw [h0]))
  · refine Or.inr ⟨_, kp, fun hc1 hh r l => ?_⟩
    have h4 : ¬t.val % 4 = 0 := fun h => hc1 ((hcond0_1 t).mpr h)
    have hp : prevT t = s := Fin.ext (by show t.val - 1 = s.val; omega)
    unfold haloOf
    rw [if_neg h4, if_neg h4, hp]
    exact ⟨rfl, rfl⟩

theorem hz_of (c : Dev nD) (t : Fin cfg0.N) (h : cond0_1 (grid0.coords t)) : haloOf m 512 (by omega) c t = (fun _ _ _ => 0) ∧ haloOf m 640 (by omega) c t = fun _ _ _ => 0 := by
  have h4 := (hcond0_1 t).mp h
  constructor <;> (funext hh r l; unfold haloOf; rw [if_pos h4])

set_option maxHeartbeats 28800000 in
/-- The body at a generic point, the first of all, the first of a batch row or another. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = PhiV m c (t.val + 1) from rfl, show (dats m 0 c).Φ t.castSucc = PhiV m c t.val from rfl,
    after0_0, after0_1, after0_2, after0_3, after0_4, after0_5, after0_6, after0_7, after0_8, after0_9, after0_10]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  have hz := hz_of m c t
  have hin := hin_of m c t
  unfold PhiV
  iintro ⟨⟨%d15, %d16, %d17, %d23, %d24, %d29, %d30, %hI, ⟨HS0, HS1, HS2, ⟨%d18, HS3⟩, ⟨%d19, HS4⟩, ⟨%d22, HS5⟩, HS6, HS7, ⟨%d25, HS8⟩, ⟨%d26, HS9⟩, ⟨%d27, HS10⟩, ⟨%d28, HS11⟩, HS12, HS13⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%v4, H0⟩, ⟨%v5, H1⟩, ⟨%v6, H2⟩, ⟨%v7, H3⟩, ⟨%v8, H4⟩, ⟨%v9, H5⟩, ⟨%v10, H6⟩, ⟨%v11, H7⟩, ⟨%v12, H8⟩, ⟨%v13, H9⟩, ⟨%v14, H10⟩⟩
  iapply (body_anyV c (grid0.coords t) _ _ _ _ _ _ _ _ _ _ _ _ _ _ _ _ _ _ _ _ _ _ _ _ _ _ _ _ _ _ _ _ _ _ _ _ _ _ _ _ _ _ _ _ _ _ _ _ _ _ (fun h => (hcond0_1 t).mpr (by have := (hcond0_0 t).mp h; omega)) ((hcond0_1 t).trans (Iff.trans (by omega) (not_congr (hcond0_2 t)).symm)) (iblk m c 0 t) (iblk m c 1 t) (iblk m c 2 t) (iblk m c 3 t) (iblk m c 4 t) (iblk m c 5 t) (iblk m c 6 t) (iblk m c 7 t) (iblk m c 8 t) (iblk m c 9 t) _ d15 d16 d17 d18 d19 d22 d23 d24 d25 d26 d27 d28 d29 d30 (V m c main_v3) (V m c main_v12)
      (decide (0 < t.val % 4)) (wK m c) (bK m c) (woK m c) (swK m c) (sbK m c) (haloOf m 512 (by omega) c t) (haloOf m 640 (by omega) c t)
      (hin d15 d16 d17 d23 d24 d29 d30 hI) hz rfl (by rw [iblk3]; rfl) rfl (by rw [iblk6]; rfl) (by rw [iblk7]; rfl) (outB m c t) (fun r d => rfl) (coord1 t) _)
  isplitl [H0 H1 H2 H3 H4 H5 H6 H7 H8 H9 H10 HS0 HS1 HS2 HS3 HS4 HS5 HS6 HS7 HS8 HS9 HS10 HS11 HS12 HS13 Hq0 Hq1 Hq2 Hq3 Hq4 Hq5 Hq6 Hq7 Hq8 Hq9 Hq10 Hq11 Hq12 Hq13 Hq14 Hq15 Hh0 Hh1 HW]
  · unfold St
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW
  unfold FoV
  iintro ⟨%e15, %e16, %e17, %e23, %e24, %e29, %e30, %hk, H0, H1, H2, H3, H4, H5, H6, H7, H8, H9, H10, HS0, HS1, HS2, HS3, HS4, HS5, HS6, HS7, HS8, HS9, HS10, HS11, HS12, HS13, Hq0, Hq1, Hq2, Hq3, Hq4, Hq5, Hq6, Hq7, Hq8, Hq9, Hq10, Hq11, Hq12, Hq13, Hq14, Hq15, Hh0, Hh1, ⟨%W2, HW⟩⟩
  isplitl [HS0 HS1 HS2 HS3 HS4 HS5 HS6 HS7 HS8 HS9 HS10 HS11 HS12 HS13 Hg Hq0 Hq1 Hq2 Hq3 Hq4 Hq5 Hq6 Hq7 Hq8 Hq9 Hq10 Hq11 Hq12 Hq13 Hq14 Hq15 Hh0 Hh1]
  · iexists e15, e16, e17, e23, e24, e29, e30
    isplitr; · ipureintro; exact Or.inr ⟨t, rfl, hk⟩
    isplitl [HS0 HS1 HS2 HS3 HS4 HS5 HS6 HS7 HS8 HS9 HS10 HS11 HS12 HS13]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      iexact HS13
    isplitl [Hg]; · iexact Hg
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hh0]; · iexact Hh0
    iexact Hh1
  isplitl [HW]
  · iexists W2; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := Ideal))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := fun c => hout m c _)

end Cert.KernelIdeal.Val

end
-- ==== Proof.IdealEntry.lean ====
module

public import proofs.«01_k».proof.Proof.IdealFrameV

@[expose] public section

set_option maxRecDepth 16384

noncomputable section

namespace Cert.KernelIdeal.Val

open Cert.KernelIdeal.Gen Cert.Spec Cert.KernelIdeal.Hand
open Idealize.ShloMosaic Idealize.ShloMosaic.TcCoe Idealize.ShloMosaic.Tactic
open Idealize.SL Idealize.SL.Sem

variable (m : (ℓ : Loc nD τ sig) → Buf (Elt Ideal) ℓ)

theorem v0_at (c : Dev nD) (h : Fin 8) : (V m c main_v0 : Vec Ideal S8 .f32) (ix1 h) = (m ((c : Thread nD τ).loc main_arg4) : Vec Ideal S1x8 .f32) (ix2 0 h) := by
  entry_read; pointwise
theorem v2_at (c : Dev nD) (d : Fin 1024) : (V m c main_v2 : Vec Ideal S1x1024 .f32) (ix2 0 d) = (m ((c : Thread nD τ).loc main_arg1) : Vec Ideal S1x1024 .f32) (ix2 0 d) := by
  entry_read; pointwise
theorem v3_at (c : Dev nD) (d : Fin 1024) (e : Fin 2816) : (V m c main_v3 : Vec Ideal S1024x2816 .f32) (ix2 d e) = (m ((c : Thread nD τ).loc main_arg2) : Vec Ideal S1x1024x2816 .f32) (ix3 0 d e) := by
  entry_read; pointwise
theorem v5_at (c : Dev nD) (e : Fin 2816) : (V m c main_v5 : Vec Ideal S1x2816 .f32) (ix2 0 e) = (m ((c : Thread nD τ).loc main_arg3) : Vec Ideal S1x2816 .f32) (ix2 0 e) := by
  entry_read; pointwise
theorem v7_at (c : Dev nD) (d : Fin 512) : (V m c main_v7 : Vec Ideal S1x512 .f32) (ix2 0 d) = (m ((c : Thread nD τ).loc main_arg5) : Vec Ideal S1x512 .f32) (ix2 0 d) := by
  entry_read; pointwise
theorem v9_at (c : Dev nD) (d : Fin 512) : (V m c main_v9 : Vec Ideal S1x512 .f32) (ix2 0 d) = (m ((c : Thread nD τ).loc main_arg6) : Vec Ideal S1x512 .f32) (ix2 0 d) := by
  entry_read; pointwise
theorem v10_at (c : Dev nD) (h : Fin 8) (i t : Fin 128) : (V m c main_v10 : Vec Ideal S8x128x128 .f32) (ix3 h i t) = (m ((c : Thread nD τ).loc main_arg7) : Vec Ideal S1x8x128x128 .f32) (ix4 0 h i t) := by
  entry_read; pointwise
theorem v11_at (c : Dev nD) (h : Fin 8) (i : Fin 128) : (V m c main_v11 : Vec Ideal S8x128 .f32) (ix2 h i) = (m ((c : Thread nD τ).loc main_arg8) : Vec Ideal S1x8x128 .f32) (ix3 0 h i) := by
  entry_read; pointwise
theorem v12_at (c : Dev nD) (d e : Fin 1024) : (V m c main_v12 : Vec Ideal S1024x1024 .f32) (ix2 d e) = (m ((c : Thread nD τ).loc main_arg9) : Vec Ideal S1x1024x1024 .f32) (ix3 0 d e) := by
  entry_read; pointwise
theorem v14_at (c : Dev nD) (d : Fin 1024) : (V m c main_v14 : Vec Ideal S1x1024 .f32) (ix2 0 d) = (m ((c : Thread nD τ).loc main_arg10) : Vec Ideal S1x1024 .f32) (ix2 0 d) := by
  entry_read; pointwise
theorem v15_at (c : Dev nD) (d : Fin 1024) : (V m c main_v15 : Vec Ideal S1x1024 .f32) (ix2 0 d) = (m ((c : Thread nD τ).loc main_arg11) : Vec Ideal S1024 .f32) (ix1 d) := by
  entry_read; pointwise

end Cert.KernelIdeal.Val

end
-- ==== Proof.RefSpec.lean ====
module

public import proofs.«01_k».proof.Proof.IdealRunVal

/-!
The layer as the reference writes it, over one batch row's projections: every position attends to the 256 keys of its
own block of 128 and the block before, the scores outside the window masked to minus infinity.
-/

@[expose] public section

noncomputable section

namespace Cert.Spec

open Idealize.ShloMosaic

def silR (z : EReal) : EReal := z * Ideal.div 1 (1 + Ideal.exp (-z))
def gelR (z : EReal) : EReal := Ideal.ofBits .f32 0x3F000000#32 * z * (1 + Ideal.erf (z * Ideal.ofBits .f32 0x3F3504F3#32))

section Row
variable (P : Fin 4096 → Fin 2816 → EReal) (sink : Fin 8 → EReal)

/-- A block's keys (or values) and those of the block before it, nothing before the first. -/
def bandR (off : ℕ) (ho : off + 128 ≤ 2816) (n : Fin 32) (h : Fin 2) (j : Fin 256) (d : Fin 64) : EReal :=
  if hj : 128 * n.val + j.val < 128 then 0 else P ⟨128 * n.val + j.val - 128, by omega⟩ ⟨off + 64 * h.val + d.val, by omega⟩

/-- The scores, outside the window minus infinity. -/
def scR (n : Fin 32) (h : Fin 2) (g : Fin 4) (i : Fin 128) (j : Fin 256) : EReal :=
  if i.val < j.val ∧ j.val ≤ i.val + 128 ∧ 128 ≤ 128 * n.val + j.val then
    (∑ x : Fin 64, bandR P 512 (by omega) n h j x * P ⟨128 * n.val + i.val, by omega⟩ ⟨256 * h.val + 64 * g.val + x.val, by omega⟩) * Ideal.ofBits .f32 0x3E000000#32
  else ⊥

def mxR (n : Fin 32) (h : Fin 2) (g : Fin 4) (i : Fin 128) : EReal :=
  max (Finset.univ.fold max ⊥ (scR P n h g i)) (sink ⟨4 * h.val + g.val, by omega⟩)

def pR (n : Fin 32) (h : Fin 2) (g : Fin 4) (i : Fin 128) (j : Fin 256) : EReal := Ideal.exp (scR P n h g i j - mxR P sink n h g i)

def attR (n : Fin 32) (h : Fin 2) (g : Fin 4) (i : Fin 128) (d : Fin 64) : EReal :=
  ∑ j : Fin 256, bandR P 640 (by omega) n h j d *
    Ideal.div (pR P sink n h g i j) ((∑ k, pR P sink n h g i k) + Ideal.exp (sink ⟨4 * h.val + g.val, by omega⟩ - mxR P sink n h g i))

/-- The gate's normed rows. -/
def vlR (lg lb : Fin 512 → EReal) (s : Fin 4096) : Fin 512 → EReal := lnorm (fun c => gelR (P s ⟨1792 + c.val, by omega⟩)) lg lb

def mixR (lg lb : Fin 512 → EReal) (SW : Fin 8 → Fin 128 → Fin 128 → EReal) (SB : Fin 8 → Fin 128 → EReal) (s : Fin 4096) (c : Fin 1024) : EReal :=
  if h : c.val < 512 then
    attR P sink ⟨s.val / 128, by omega⟩ ⟨c.val / 256, by omega⟩ ⟨c.val / 64 % 4, by omega⟩ ⟨s.val % 128, by omega⟩ ⟨c.val % 64, by omega⟩ * silR (P s ⟨768 + c.val, by omega⟩)
  else gelR (P s ⟨1280 + (c.val - 512), by omega⟩) *
      ((∑ t : Fin 128, vlR P lg lb ⟨128 * (s.val / 128) + t.val, by omega⟩ ⟨c.val - 512, by omega⟩ * (if t.val ≤ s.val % 128 then SW ⟨(c.val - 512) / 64, by omega⟩ ⟨s.val % 128, by omega⟩ t else 0))
        + SB ⟨(c.val - 512) / 64, by omega⟩ ⟨s.val % 128, by omega⟩) * silR (P s ⟨2304 + (c.val - 512), by omega⟩)

end Row

end Cert.Spec

end
-- ==== Proof.IdealMath.lean ====
module

public import proofs.«01_k».proof.Proof.RefSpec
public import proofs.«01_k».proof.Proof.IdealStage

/-!
The layer as the kernel computes it is the layer as the reference writes it: over real projections and sinks, the
query's factor an eighth and the gates' factor a half folded into the weights, the window's 128 keys the only ones of
the 256 whose weight is not zero, and the weights' sum divided out before or after the values are summed.
-/

@[expose] public section

noncomputable section

namespace Cert.Spec

open Idealize.ShloMosaic

/-! ## Reals and constant factors -/

def IsR (x : EReal) : Prop := ∃ r : ℝ, x = (r : EReal)

theorem IsR.mul {x y : EReal} : IsR x → IsR y → IsR (x * y) := by
  rintro ⟨a, rfl⟩ ⟨b, rfl⟩; exact ⟨a * b, (EReal.coe_mul a b).symm⟩

theorem IsR.add {x y : EReal} : IsR x → IsR y → IsR (x + y) := by
  rintro ⟨a, rfl⟩ ⟨b, rfl⟩; exact ⟨a + b, (EReal.coe_add a b).symm⟩

theorem IsR.sum {ι : Type} (s : Finset ι) (f : ι → EReal) (h : ∀ k, IsR (f k)) : IsR (∑ k ∈ s, f k) := by
  classical
  induction s using Finset.induction_on with
  | empty => exact ⟨0, by simp⟩
  | insert a s ha ih => rw [Finset.sum_insert ha]; exact (h a).add ih

theorem IsR.of_ne {x : EReal} (h : x ≠ ⊤) (h' : x ≠ ⊥) : IsR x := ⟨x.toReal, (EReal.coe_toReal h h').symm⟩

theorem sum_mul_const {ι : Type} (s : Finset ι) (f : ι → EReal) (c : ℝ) (hc : 0 ≤ c) : (∑ k ∈ s, f k) * (c : EReal) = ∑ k ∈ s, f k * c := by
  classical
  induction s using Finset.induction_on with
  | empty => simp
  | insert a s ha ih =>
    rw [Finset.sum_insert ha, Finset.sum_insert ha, EReal.right_distrib_of_nonneg_of_ne_top (EReal.coe_nonneg.2 hc) (EReal.coe_ne_top c), ih]

theorem lit8 : Ideal.ofBits .f32 0x3E000000#32 = ((1 / 8 : ℝ) : EReal) := by
  simp [Ideal.ofBits, Ideal.ieee]; rw [← EReal.coe_mul]; exact congrArg _ (by norm_num)
theorem lit1 : Ideal.ofBits .f32 0x3F800000#32 = ((1 : ℝ) : EReal) := by
  simp [Ideal.ofBits, Ideal.ieee]; rw [← EReal.coe_mul, ← EReal.coe_one]; exact congrArg _ (by norm_num)
theorem lit2 : Ideal.ofBits .f32 0x3F000000#32 = ((1 / 2 : ℝ) : EReal) := by
  simp [Ideal.ofBits, Ideal.ieee]; rw [← EReal.coe_mul]; exact congrArg _ (by norm_num)
theorem lit1024 : Ideal.ofBits .f32 0x44800000#32 = ((1024 : ℝ) : EReal) := by
  simp [Ideal.ofBits, Ideal.ieee]; rw [← EReal.coe_mul]; exact congrArg _ (by norm_num)
theorem litEps : ∃ e : ℝ, 0 < e ∧ Ideal.ofBits .f32 0x3727C5AC#32 = (e : EReal) := by
  refine ⟨10995116 / 2 ^ 40, by norm_num, ?_⟩
  simp [Ideal.ofBits, Ideal.ieee]; rw [← EReal.coe_mul]; exact congrArg _ (by norm_num)
theorem litRoot : Ideal.ofBits .f32 0x3F000000#32 * Ideal.ofBits .f32 0x3FB504F3#32 = Ideal.ofBits .f32 0x3F3504F3#32 := by
  rw [lit2]
  simp [Ideal.ofBits, Ideal.ieee]
  rw [← EReal.coe_mul, ← EReal.coe_mul, ← EReal.coe_mul]; exact congrArg _ (by norm_num)

theorem cs_q (e : Fin 2816) (h : e.val < 512) : cs e = ((1 / 8 : ℝ) : EReal) := by rw [cs, if_pos h, lit8]
theorem cs_kv (e : Fin 2816) (h : 512 ≤ e.val) (h' : e.val < 768) : cs e = 1 := by rw [cs, if_neg (by omega), if_pos h', lit1]; rfl
theorem cs_g (e : Fin 2816) (h : 768 ≤ e.val) : cs e = ((1 / 2 : ℝ) : EReal) := by rw [cs, if_neg (by omega), if_neg (by omega), lit2]

theorem cs_coe (e : Fin 2816) : ∃ c : ℝ, 0 ≤ c ∧ cs e = (c : EReal) := by
  unfold cs
  split
  · exact ⟨_, by norm_num, lit8⟩
  · split
    · exact ⟨_, by norm_num, lit1⟩
    · exact ⟨_, by norm_num, lit2⟩

/-- A projection whose weights and shift carry a column's factor is the projection times the factor. -/
theorem proj_scaled (h : Fin 1024 → EReal) (W : Fin 1024 → Fin 2816 → EReal) (b : Fin 2816 → EReal) (e : Fin 2816) :
    proj h (fun d e => W d e * cs e) (fun e => b e * cs e) e = proj h W b e * cs e := by
  obtain ⟨c, hc, e1⟩ := cs_coe e
  show (∑ d, h d * (W d e * cs e)) + b e * cs e = ((∑ d, h d * W d e) + b e) * cs e
  rw [e1, EReal.right_distrib_of_nonneg_of_ne_top (EReal.coe_nonneg.2 hc) (EReal.coe_ne_top c), sum_mul_const _ _ c hc]
  congr 1
  exact Finset.sum_congr rfl fun k _ => (mul_assoc _ _ _).symm

theorem sq_nonneg (x : EReal) : 0 ≤ x * x := by
  induction x using EReal.rec with
  | bot => simp
  | top => simp
  | coe r => rw [← EReal.coe_mul]; exact EReal.coe_nonneg.2 (mul_self_nonneg r)

/-- A normed row is real, whatever the row: where an entry is infinite the factor is zero. -/
theorem rowH_real (x g : Fin 1024 → EReal) (hg : ∀ d, IsR (g d)) (d : Fin 1024) : IsR (rowH x g d) := by
  unfold rowH
  refine IsR.mul ?_ (hg d)
  obtain ⟨e, he, e1⟩ := litEps
  rw [lit1024, Ideal.div_coe (by norm_num), e1]
  by_cases hx : ∀ k, IsR (x k)
  · refine (hx d).mul ?_
    obtain ⟨s, hs⟩ := IsR.sum Finset.univ (fun k => x k * x k) fun k => (hx k).mul (hx k)
    have h0 : 0 ≤ s := by
      have := Finset.sum_nonneg (s := Finset.univ) fun (k : Fin 1024) _ => sq_nonneg (x k)
      rw [hs] at this
      exact EReal.coe_nonneg.1 this
    rw [hs, ← EReal.coe_mul, ← EReal.coe_add, Ideal.rsqrt_coe, if_neg (not_lt.2 (by positivity)), if_neg (ne_of_gt (by positivity))]
    exact ⟨_, rfl⟩
  · push Not at hx
    obtain ⟨k, hk⟩ := hx
    have ht : x k * x k = ⊤ := by
      rcases eq_or_ne (x k) ⊤ with h | h
      · rw [h]; rfl
      · rcases eq_or_ne (x k) ⊥ with h' | h'
        · rw [h']; rfl
        · exact absurd (IsR.of_ne h h') hk
    have hs : ∑ k, x k * x k = ⊤ := by
      rw [← Finset.add_sum_erase Finset.univ _ (Finset.mem_univ k), ht]
      refine EReal.top_add_of_ne_bot (ne_of_gt (lt_of_lt_of_le EReal.bot_lt_zero ?_))
      exact Finset.sum_nonneg fun k _ => sq_nonneg (x k)
    rw [hs, EReal.top_mul_coe_of_pos (by norm_num), EReal.top_add_coe]
    exact ⟨0, by rw [show Ideal.rsqrt ⊤ = 0 from rfl]; simp⟩

theorem proj_real (h : Fin 1024 → EReal) (W : Fin 1024 → Fin 2816 → EReal) (b : Fin 2816 → EReal) (hh : ∀ d, IsR (h d)) (hW : ∀ d e, IsR (W d e)) (hb : ∀ e, IsR (b e)) (e : Fin 2816) :
    IsR (proj h W b e) := (IsR.sum _ _ fun d => (hh d).mul (hW d e)).add (hb e)

/-! ## The gates -/

theorem silu_eq (z : EReal) (hz : IsR z) : siluH (z * ((1 / 2 : ℝ) : EReal)) = silR z := by
  obtain ⟨r, rfl⟩ := hz
  unfold siluH silR
  have h1 : (1 : EReal) + Ideal.exp (-(r : EReal)) = ((1 + Real.exp (-r) : ℝ) : EReal) := by
    rw [← EReal.coe_neg, Ideal.exp_coe, EReal.coe_add]; rfl
  rw [h1, Ideal.div_coe (by positivity), one_mul, ← EReal.coe_mul, Ideal.tanh_coe, ← EReal.coe_one, ← EReal.coe_add, ← EReal.coe_mul, ← EReal.coe_mul]
  refine congrArg Real.toEReal ?_
  rw [Real.tanh_eq_sinh_div_cosh, Real.sinh_eq, Real.cosh_eq]
  have e1 : Real.exp (-r) = Real.exp (-(r * (1 / 2))) / Real.exp (r * (1 / 2)) := by
    rw [← Real.exp_sub]; congr 1; ring
  rw [e1]
  have p1 := Real.exp_pos (r * (1 / 2))
  have p2 := Real.exp_pos (-(r * (1 / 2)))
  field_simp
  ring

theorem gelu_eq (z : EReal) : geluH (z * ((1 / 2 : ℝ) : EReal)) = gelR z := by
  unfold geluH gelR
  rw [← lit2, mul_assoc z _ (Ideal.ofBits .f32 0x3FB504F3#32), litRoot, mul_comm (Ideal.ofBits .f32 0x3F000000#32) z]

/-! ## The attention -/

theorem fold_sup {n : ℕ} (f : Fin n → EReal) : Finset.univ.fold max ⊥ f = Finset.univ.sup f := rfl

theorem att_core (sc v : Fin 256 → EReal) (sink : ℝ) (k k' : Fin 128 → Fin 256)
    (hs : ∀ F : Fin 256 → EReal, ∑ j, F j = (∑ l, F (k l)) + ∑ l, F (k' l))
    (hcov : ∀ j, sc j ≠ ⊥ → ∃ l, k l = j) (hbot : ∀ l, sc (k' l) = ⊥) (htop : ∀ j, sc j ≠ ⊤) :
    ∑ j, v j * Ideal.div (Ideal.exp (sc j - max (Finset.univ.fold max ⊥ sc) (sink : EReal)))
        ((∑ j, Ideal.exp (sc j - max (Finset.univ.fold max ⊥ sc) (sink : EReal))) + Ideal.exp (sink - max (Finset.univ.fold max ⊥ sc) (sink : EReal)))
      = attK (fun l => sc (k l)) sink (fun l => v (k l)) := by
  have hM : Finset.univ.fold max ⊥ sc = Finset.univ.fold max ⊥ fun l => sc (k l) := by
    rw [fold_sup, fold_sup]
    refine le_antisymm (Finset.sup_le fun j _ => ?_) (Finset.sup_le fun l _ => Finset.le_sup (f := sc) (Finset.mem_univ (k l)))
    by_cases hj : sc j = ⊥
    · rw [hj]; exact bot_le
    · obtain ⟨l, rfl⟩ := hcov j hj
      exact Finset.le_sup (f := fun l => sc (k l)) (Finset.mem_univ l)
  unfold attK
  rw [← hM]
  obtain ⟨μ, hμ⟩ : IsR (max (Finset.univ.fold max ⊥ sc) (sink : EReal)) := by
    refine IsR.of_ne (ne_of_lt (max_lt ?_ (EReal.coe_lt_top sink))) (ne_of_gt (lt_of_lt_of_le (EReal.bot_lt_coe sink) (le_max_right _ _)))
    rw [fold_sup]
    exact (Finset.sup_lt_iff bot_lt_top).2 fun j _ => lt_top_iff_ne_top.2 (htop j)
  rw [hμ]
  have hp : ∀ j, ∃ r : ℝ, 0 ≤ r ∧ Ideal.exp (sc j - (μ : EReal)) = (r : EReal) := fun j => by
    by_cases hj : sc j = ⊥
    · exact ⟨0, le_rfl, by rw [hj, EReal.bot_sub]; rfl⟩
    · obtain ⟨x, hx⟩ := IsR.of_ne (htop j) hj
      exact ⟨_, (Real.exp_pos (x - μ)).le, by rw [hx, ← EReal.coe_sub, Ideal.exp_coe]⟩
  have h0 : ∀ l, Ideal.exp (sc (k' l) - (μ : EReal)) = 0 := fun l => by rw [hbot, EReal.bot_sub]; rfl
  have hsum : ∑ j, Ideal.exp (sc j - (μ : EReal)) = ∑ l, Ideal.exp (sc (k l) - (μ : EReal)) := by
    rw [hs, Finset.sum_eq_zero (fun l _ => h0 l), add_zero]
  obtain ⟨D, hD, eD⟩ : ∃ D : ℝ, 0 < D ∧ (∑ l, Ideal.exp (sc (k l) - (μ : EReal))) + Ideal.exp ((sink : EReal) - μ) = (D : EReal) := by
    obtain ⟨S, hS⟩ := IsR.sum Finset.univ (fun l => Ideal.exp (sc (k l) - (μ : EReal))) fun l => by obtain ⟨r, -, h⟩ := hp (k l); exact ⟨r, h⟩
    have hS0 : 0 ≤ S := by
      have := Finset.sum_nonneg (s := Finset.univ) (f := fun l => Ideal.exp (sc (k l) - (μ : EReal))) fun l _ => by
        obtain ⟨r, h, e⟩ := hp (k l); rw [e]; exact EReal.coe_nonneg.2 h
      rw [hS] at this
      exact EReal.coe_nonneg.1 this
    refine ⟨S + Real.exp (sink - μ), by positivity, ?_⟩
    rw [hS, ← EReal.coe_sub, Ideal.exp_coe, ← EReal.coe_add]
  rw [hsum, eD, hs]
  simp only [h0, Ideal.div_coe hD.ne', zero_mul, mul_zero, Finset.sum_const_zero, add_zero, one_mul]
  rw [sum_mul_const _ _ _ (by positivity)]
  exact Finset.sum_congr rfl fun l _ => by rw [← mul_assoc, mul_comm (v (k l))]

/-- The window's key at a lane, and the lane's other key. -/
def inK (i l : Fin 128) : Fin 256 := ⟨if i.val < l.val then l.val else 128 + l.val, by split <;> omega⟩
def outK (i l : Fin 128) : Fin 256 := ⟨if i.val < l.val then 128 + l.val else l.val, by split <;> omega⟩

theorem sum_keys (i : Fin 128) (F : Fin 256 → EReal) : ∑ j, F j = (∑ l, F (inK i l)) + ∑ l, F (outK i l) := by
  have e : ∑ j, F j = (∑ x : Fin 128, F ⟨x.val, by omega⟩) + ∑ x : Fin 128, F ⟨128 + x.val, by omega⟩ := Fin.sum_univ_add (a := 128) (b := 128) F
  rw [e, ← Finset.sum_add_distrib, ← Finset.sum_add_distrib]
  refine Finset.sum_congr rfl fun l _ => ?_
  unfold inK outK
  by_cases h : i.val < l.val
  · simp only [if_pos h]
  · simp only [if_neg h]; exact add_comm _ _

/-! ## A tile's rows -/

section Tile
variable (P : Fin 4096 → Fin 2816 → EReal) (hP : ∀ s e, IsR (P s e)) (q : Fin 4) (Pk : Fin 1024 → Fin 2816 → EReal)
  (hPk : ∀ r e, Pk r e = P ⟨1024 * q.val + r.val, by omega⟩ e * cs e)

/-- The rows before a tile, where there is one. -/
def IsHalo (off : ℕ) (ho : off + 128 ≤ 2816) (H : Fin 2 → Fin 128 → Fin 64 → EReal) : Prop :=
  ∀ hh r l, H hh r l = if h : q.val = 0 then 0 else P ⟨1024 * q.val - 128 + r.val, by omega⟩ ⟨off + 64 * hh.val + l.val, by omega⟩

include hPk in
theorem buf_band (off : ℕ) (ho : off + 128 ≤ 2816) (h1 : 512 ≤ off) (h2 : off + 128 ≤ 768) (H : Fin 2 → Fin 128 → Fin 64 → EReal) (hH : IsHalo P q off ho H)
    (hh : Fin 2) (r : Fin 1024) (j : Fin 256) (d : Fin 64) (ρ : Fin 1152) (hρ : ρ.val = 128 * (r.val / 128) + j.val) :
    bufOf off ho H Pk hh ρ d = bandR P off ho ⟨8 * q.val + r.val / 128, by omega⟩ hh j d := by
  unfold bufOf bandR
  by_cases c1 : ρ.val < 128
  · rw [dif_pos c1, hH]
    by_cases c2 : q.val = 0
    · rw [dif_pos c2, dif_pos (by simp only []; omega)]
    · rw [dif_neg c2, dif_neg (by simp only []; omega)]
      exact ap2 P (by simp only []; omega) rfl
  · rw [dif_neg c1, dif_neg (by simp only []; omega), hPk, cs_kv _ (by simp only []; omega) (by simp only []; omega), mul_one]
    exact ap2 P (by simp only []; omega) rfl

include hP in
theorem band_real (off : ℕ) (ho : off + 128 ≤ 2816) (n : Fin 32) (h : Fin 2) (j : Fin 256) (d : Fin 64) : IsR (bandR P off ho n h j d) := by
  unfold bandR
  split
  · exact ⟨0, by simp⟩
  · exact hP _ _

include hP in
theorem scR_top (n : Fin 32) (h : Fin 2) (g : Fin 4) (i : Fin 128) (j : Fin 256) : scR P n h g i j ≠ ⊤ := by
  unfold scR
  split
  · rw [lit8]
    obtain ⟨x, hx⟩ := (IsR.sum Finset.univ _ fun x : Fin 64 => (band_real P hP 512 (by omega) n h j x).mul (hP ⟨128 * n.val + i.val, by omega⟩ ⟨256 * h.val + 64 * g.val + x.val, by omega⟩)).mul ⟨1 / 8, rfl⟩
    rw [hx]
    exact EReal.coe_ne_top x
  · exact bot_ne_top

theorem inK_val (i l : Fin 128) : (inK i l).val = if i.val < l.val then l.val else 128 + l.val := rfl
theorem outK_val (i l : Fin 128) : (outK i l).val = if i.val < l.val then 128 + l.val else l.val := rfl

theorem scR_out (n : Fin 32) (h : Fin 2) (g : Fin 4) (i l : Fin 128) : scR P n h g i (outK i l) = ⊥ := by
  unfold scR
  rw [if_neg]
  rw [outK_val]
  split <;> omega

theorem scR_cov (n : Fin 32) (h : Fin 2) (g : Fin 4) (i : Fin 128) (j : Fin 256) (hj : scR P n h g i j ≠ ⊥) : ∃ l, inK i l = j := by
  unfold scR at hj
  by_cases hv : i.val < j.val ∧ j.val ≤ i.val + 128 ∧ 128 ≤ 128 * n.val + j.val
  · refine ⟨⟨j.val % 128, by omega⟩, Fin.ext ?_⟩
    rw [inK_val]
    simp only []
    split <;> omega
  · rw [if_neg hv] at hj
    exact absurd rfl hj

include hPk in
theorem score_eq (KB : Fin 2 → Fin 1152 → Fin 64 → EReal) (H : Fin 2 → Fin 128 → Fin 64 → EReal) (hH : IsHalo P q 512 (by omega) H) (hKB : KB = bufOf 512 (by omega) H Pk)
    (r : Fin 1024) (c : Fin 512) (l : Fin 128) :
    (if r.val % 128 < l.val ∧ r.val / 128 = 0 ∧ decide (0 < q.val) = false then ⊥ else
        ∑ d : Fin 64, Pk r ⟨64 * (c.val / 64) + d.val, by omega⟩ * KB ⟨c.val / 256, by omega⟩ (keyRow r l) d)
      = scR P ⟨8 * q.val + r.val / 128, by omega⟩ ⟨c.val / 256, by omega⟩ ⟨c.val / 64 % 4, by omega⟩ ⟨r.val % 128, by omega⟩ (inK ⟨r.val % 128, by omega⟩ l) := by
  unfold scR
  rw [inK_val]
  simp only []
  by_cases hc : r.val % 128 < l.val ∧ r.val / 128 = 0 ∧ q.val = 0
  · rw [if_pos ⟨hc.1, hc.2.1, by simp [hc.2.2]⟩, if_neg (by rw [if_pos hc.1]; omega)]
  · rw [if_neg (by rintro ⟨h1, h2, h3⟩; rw [decide_eq_false_iff_not] at h3; omega), if_pos (by split <;> omega), lit8, sum_mul_const _ _ _ (by norm_num)]
    refine Finset.sum_congr rfl fun d _ => ?_
    rw [hKB, buf_band P q Pk hPk 512 (by omega) (by omega) (by omega) H hH _ r (inK ⟨r.val % 128, by omega⟩ l) d (keyRow r l) rfl, hPk, cs_q _ (by simp only []; omega), mul_right_comm, mul_comm (P _ _)]
    refine congrArg₂ (· * ·) (congrArg₂ (· * ·) rfl (ap2 P (by simp only []; omega) (by simp only []; omega))) rfl

include hP hPk in
theorem att_eq (HK HV : Fin 2 → Fin 128 → Fin 64 → EReal) (hHK : IsHalo P q 512 (by omega) HK) (hHV : IsHalo P q 640 (by omega) HV)
    (sink : Fin 8 → EReal) (hs : ∀ k, IsR (sink k)) (r : Fin 1024) (c : Fin 512) :
    tileAtt (decide (0 < q.val)) Pk (bufOf 512 (by omega) HK Pk) (bufOf 640 (by omega) HV Pk) sink r c
      = attR P sink ⟨8 * q.val + r.val / 128, by omega⟩ ⟨c.val / 256, by omega⟩ ⟨c.val / 64 % 4, by omega⟩ ⟨r.val % 128, by omega⟩ ⟨c.val % 64, by omega⟩ := by
  have hk : (⟨4 * (c.val / 256) + c.val / 64 % 4, by omega⟩ : Fin 8) = ⟨c.val / 64, by omega⟩ := Fin.ext (by simp only []; omega)
  obtain ⟨σ, hσ⟩ := hs ⟨c.val / 64, by omega⟩
  have h := att_core (scR P ⟨8 * q.val + r.val / 128, by omega⟩ ⟨c.val / 256, by omega⟩ ⟨c.val / 64 % 4, by omega⟩ ⟨r.val % 128, by omega⟩)
    (fun j => bandR P 640 (by omega) ⟨8 * q.val + r.val / 128, by omega⟩ ⟨c.val / 256, by omega⟩ j ⟨c.val % 64, by omega⟩) σ
    (inK ⟨r.val % 128, by omega⟩) (outK ⟨r.val % 128, by omega⟩) (sum_keys _) (scR_cov P _ _ _ _) (scR_out P _ _ _ _) (scR_top P hP _ _ _ _)
  unfold attR pR mxR
  simp only [hk, hσ]
  rw [h]
  unfold tileAtt
  rw [hσ]
  congr 1
  · funext l
    exact score_eq P q Pk hPk _ HK hHK rfl r c l
  · funext l
    exact buf_band P q Pk hPk 640 (by omega) (by omega) (by omega) HV hHV _ r (inK ⟨r.val % 128, by omega⟩ l) _ (keyRow r l) rfl

include hPk in
theorem vl_eq (lg lb : Fin 512 → EReal) (r : Fin 1024) : vlOf Pk lg lb r = vlR P lg lb ⟨1024 * q.val + r.val, by omega⟩ := by
  unfold vlOf vlR
  refine congrArg (fun v => lnorm v lg lb) (funext fun c => ?_)
  rw [hPk, cs_g _ (by simp only []; omega), gelu_eq]

include hP hPk in
/-- A tile's mixed rows are the reference's. -/
theorem mix_eq (HK HV : Fin 2 → Fin 128 → Fin 64 → EReal) (hHK : IsHalo P q 512 (by omega) HK) (hHV : IsHalo P q 640 (by omega) HV)
    (sink : Fin 8 → EReal) (hs : ∀ k, IsR (sink k)) (lg lb : Fin 512 → EReal) (SW : Fin 8 → Fin 128 → Fin 128 → EReal) (SB : Fin 8 → Fin 128 → EReal) (r c : Fin 1024) :
    tileMix (decide (0 < q.val)) Pk (bufOf 512 (by omega) HK Pk) (bufOf 640 (by omega) HV Pk) sink (vlOf Pk lg lb) (fun h i t => if t.val ≤ i.val then SW h i t else 0) SB r c
      = mixR P sink lg lb SW SB ⟨1024 * q.val + r.val, by omega⟩ c := by
  have e1 : (1024 * q.val + r.val) / 128 = 8 * q.val + r.val / 128 := by omega
  have e2 : (1024 * q.val + r.val) % 128 = r.val % 128 := by omega
  unfold tileMix mixR
  simp only [e1, e2]
  by_cases hc : c.val < 512
  · rw [dif_pos hc, dif_pos hc, att_eq P hP q Pk hPk HK HV hHK hHV sink hs, hPk, cs_g _ (by simp only []; omega), silu_eq _ (hP _ _)]
  · rw [dif_neg hc, dif_neg hc, hPk, hPk, cs_g _ (by simp only []; omega), cs_g _ (by simp only []; omega), silu_eq _ (hP _ _), gelu_eq]
    congr 3
    refine Finset.sum_congr rfl fun t _ => ?_
    rw [mul_comm, vl_eq P q Pk hPk]
    refine congrArg (· * _) ?_
    exact ap2 (vlR P lg lb) (by simp only []; omega) rfl

end Tile

/-- `mix_eq` at a position named apart. -/
theorem mix_at (P : Fin 4096 → Fin 2816 → EReal) (hP : ∀ s e, IsR (P s e)) (q : Fin 4) (Pk : Fin 1024 → Fin 2816 → EReal)
    (hPk : ∀ r e (s : Fin 4096), s.val = 1024 * q.val + r.val → Pk r e = P s e * cs e)
    (HK HV : Fin 2 → Fin 128 → Fin 64 → EReal) (hHK : IsHalo P q 512 (by omega) HK) (hHV : IsHalo P q 640 (by omega) HV)
    (sink : Fin 8 → EReal) (hs : ∀ k, IsR (sink k)) (lg lb : Fin 512 → EReal) (SW : Fin 8 → Fin 128 → Fin 128 → EReal) (SB : Fin 8 → Fin 128 → EReal) (r c : Fin 1024) (s : Fin 4096) (e : s.val = 1024 * q.val + r.val) :
    tileMix (decide (0 < q.val)) Pk (bufOf 512 (by omega) HK Pk) (bufOf 640 (by omega) HV Pk) sink (vlOf Pk lg lb) (fun h i t => if t.val ≤ i.val then SW h i t else 0) SB r c
      = mixR P sink lg lb SW SB s c :=
  (mix_eq P hP q Pk (fun r e => hPk r e _ rfl) HK HV hHK hHV sink hs lg lb SW SB r c).trans (congrArg (fun s => mixR P sink lg lb SW SB s c) (Fin.ext e.symm))

end Cert.Spec

end
-- ==== Proof.RefRead.lean ====
module

public import proofs.«01_k».proof.Proof.Gen.ReferenceIdeal.Run
public import proofs.«01_k».proof.Proof.RefSpec
public import Idealize.ShloMosaic.Lib.Pointwise

@[expose] public section

set_option maxRecDepth 16384

/-! The reference's result, read index by index as the layer of `RefSpec`. -/

noncomputable section

namespace Cert.ReferenceIdeal.Hand

open Cert.ReferenceIdeal Cert.ReferenceIdeal.Gen Cert.ReferenceIdeal.Value Cert.Spec
open Idealize.ShloMosaic Idealize.ShloMosaic.TcCoe Idealize.ShloMosaic.StableHlo

variable (V0 : Valuation τ sig (Elt Ideal))

abbrev a0 : FVec Ideal S8x4096x1024 .f32 := V0 (Proc.devRef .tc main_arg0)
abbrev a1 : FVec Ideal S1x1024 .f32 := V0 (Proc.devRef .tc main_arg1)
abbrev a2 : FVec Ideal S1x1024x2816 .f32 := V0 (Proc.devRef .tc main_arg2)
abbrev a3 : FVec Ideal S1x2816 .f32 := V0 (Proc.devRef .tc main_arg3)
abbrev a4 : FVec Ideal S1x8 .f32 := V0 (Proc.devRef .tc main_arg4)
abbrev a5 : FVec Ideal S1x512 .f32 := V0 (Proc.devRef .tc main_arg5)
abbrev a6 : FVec Ideal S1x512 .f32 := V0 (Proc.devRef .tc main_arg6)
abbrev a7 : FVec Ideal S1x8x128x128 .f32 := V0 (Proc.devRef .tc main_arg7)
abbrev a8 : FVec Ideal S1x8x128 .f32 := V0 (Proc.devRef .tc main_arg8)
abbrev a9 : FVec Ideal S1x1024x1024 .f32 := V0 (Proc.devRef .tc main_arg9)
abbrev a10 : FVec Ideal S1x1024 .f32 := V0 (Proc.devRef .tc main_arg10)
abbrev a11 : FVec Ideal S1024 .f32 := V0 (Proc.devRef .tc main_arg11)
abbrev r76 : FVec Ideal S8x32x2x4x128x256 .f32 := res_main_v76 V0
abbrev r82 : FVec Ideal S8x32x2x4x128x1 .f32 := res_main_v82 V0
abbrev r85 : FVec Ideal S8x32x2x4x128x256 .f32 := res_main_v85 V0
abbrev r23 : FVec Ideal S8x4096x512 .f32 := res_main_v23 V0
abbrev r24 : FVec Ideal S8x4096x512 .f32 := res_main_v24 V0
abbrev r25 : FVec Ideal S8x4096x512 .f32 := res_main_v25 V0
abbrev r26 : FVec Ideal S8x4096x512 .f32 := res_main_v26 V0
abbrev r130 : FVec Ideal S8x4096x512 .f32 := res_main_v130 V0
abbrev r169 : FVec Ideal S8x4096x1024 .f32 := res_main_v169 V0
abbrev r176 : FVec Ideal S8x4096x1024 .f32 := res_main_v176 V0

/-- The projections of a batch row's position. -/
def PR (b : Fin 8) (s : Fin 4096) (e : Fin 2816) : EReal :=
  proj (rowH (fun d => a0 V0 (ix3 b s d)) (fun d => a1 V0 (ix2 0 d))) (fun d e => a2 V0 (ix3 0 d e)) (fun e => a3 V0 (ix2 0 e)) e

theorem ofFin {n k : ℕ} (P : Fin n → Fin k → EReal) {a a' : ℕ} {b b' : ℕ} (h : a < n) (h' : b < k) (ha : a = a') (hb : b = b') : P ⟨a, h⟩ ⟨b, h'⟩ = P ⟨a', ha ▸ h⟩ ⟨b', hb ▸ h'⟩ := by
  subst ha hb; rfl

theorem v19_at (b : Fin 8) (s : Fin 4096) (e : Fin 2816) : res_main_v19 V0 (ix3 b s e) = PR V0 b s e := by
  pointwise [res_main_v19]
  rfl

theorem v29_at (b : Fin 8) (n : Fin 32) (i : Fin 128) (h : Fin 2) (d : Fin 64) : res_main_v29 V0 (ix5 b n i h d) = PR V0 b ⟨128 * n.val + i.val, by omega⟩ ⟨512 + 64 * h.val + d.val, by omega⟩ := by
  pointwise [res_main_v29]
  rw [v19_at]
  exact ap2 (PR V0 b) (by simp only []; omega) (by simp only []; omega)

theorem v35_at (b : Fin 8) (n : Fin 32) (i : Fin 128) (h : Fin 2) (d : Fin 64) : res_main_v35 V0 (ix5 b n i h d) = PR V0 b ⟨128 * n.val + i.val, by omega⟩ ⟨640 + 64 * h.val + d.val, by omega⟩ := by
  pointwise [res_main_v35]
  rw [v19_at]
  exact ap2 (PR V0 b) (by simp only []; omega) (by simp only []; omega)

theorem v78_at (h : Fin 2) (g : Fin 4) : res_main_v78 V0 (ix6 0 0 h g 0 0) = a4 V0 (ix2 0 ⟨4 * h.val + g.val, by omega⟩) := by
  pointwise [res_main_v78]
  exact ap2 (fun a b => a4 V0 (ix2 a b)) rfl (by simp only []; omega)

theorem bot_lit : Ideal.ofBits .f32 0xFF800000#32 = ⊥ := by simp [Ideal.ofBits, Ideal.ieee]

theorem sel_ofBool (p : Prop) [Decidable p] (x y : EReal) : Scalar.select (BitVec.ofBool (decide p)) x y = if p then x else y := by
  by_cases h : p <;> simp [h, Scalar.select]

theorem mask_word (n : Fin 32) (i : Fin 128) (j : Fin 256) :
    IntOp.andi (IntOp.andi (IntOp.cmpi CmpIPredicate.sge (IntOp.subi (IntOp.addi (BitVec.ofNat 32 i.val) 128#32) (BitVec.ofNat 32 j.val)) 0#32)
          (IntOp.cmpi CmpIPredicate.slt (IntOp.subi (IntOp.addi (BitVec.ofNat 32 i.val) 128#32) (BitVec.ofNat 32 j.val)) 128#32))
        (IntOp.cmpi CmpIPredicate.sge (IntOp.addi (IntOp.subi (IntOp.muli (BitVec.ofNat 32 n.val) 128#32) 128#32) (BitVec.ofNat 32 j.val)) 0#32)
      = BitVec.ofBool (decide (i.val < j.val ∧ j.val ≤ i.val + 128 ∧ 128 ≤ 128 * n.val + j.val)) := by
  have e1 : IntOp.subi (IntOp.addi (BitVec.ofNat 32 i.val) 128#32) (BitVec.ofNat 32 j.val) = BitVec.ofInt 32 ((i.val : ℤ) + 128 - j.val) := by
    show BitVec.ofNat 32 i.val + 128#32 - BitVec.ofNat 32 j.val = _
    apply BitVec.eq_of_toNat_eq
    simp only [BitVec.toNat_sub, BitVec.toNat_add, BitVec.toNat_ofNat, BitVec.toNat_ofInt]
    omega
  have e2 : IntOp.addi (IntOp.subi (IntOp.muli (BitVec.ofNat 32 n.val) 128#32) 128#32) (BitVec.ofNat 32 j.val) = BitVec.ofInt 32 ((n.val : ℤ) * 128 - 128 + j.val) := by
    show BitVec.ofNat 32 n.val * 128#32 - 128#32 + BitVec.ofNat 32 j.val = _
    apply BitVec.eq_of_toNat_eq
    simp only [BitVec.toNat_sub, BitVec.toNat_add, BitVec.toNat_mul, BitVec.toNat_ofNat, BitVec.toNat_ofInt]
    omega
  have t : ∀ z : ℤ, -1000000 ≤ z → z ≤ 1000000 → (BitVec.ofInt 32 z).toInt = z := fun z h h' => by
    rw [BitVec.toInt_ofInt]; exact Int.bmod_eq_of_le (by omega) (by omega)
  rw [e1, e2]
  simp only [IntOp.cmpi, BitVec.sle, BitVec.slt]
  rw [t _ (by omega) (by omega), t _ (by omega) (by omega)]
  have t0 : (0#32 : BitVec 32).toInt = 0 := by decide
  have t1 : (128#32 : BitVec 32).toInt = 128 := by decide
  rw [t0, t1]
  have b1 : decide ((0 : ℤ) ≤ (i.val : ℤ) + 128 - j.val) = decide (j.val ≤ i.val + 128) := decide_eq_decide.2 (by omega)
  have b2 : decide ((i.val : ℤ) + 128 - j.val < 128) = decide (i.val < j.val) := decide_eq_decide.2 (by omega)
  have b3 : decide ((0 : ℤ) ≤ (n.val : ℤ) * 128 - 128 + j.val) = decide (128 ≤ 128 * n.val + j.val) := decide_eq_decide.2 (by omega)
  rw [b1, b2, b3]
  by_cases h1 : i.val < j.val <;> by_cases h2 : j.val ≤ i.val + 128 <;> by_cases h3 : 128 ≤ 128 * n.val + j.val <;>
    simp only [h1, h2, h3, IntOp.andi, and_true, true_and, and_false, false_and, decide_true, decide_false] <;> rfl

theorem r76_at (b : Fin 8) (n : Fin 32) (h : Fin 2) (g : Fin 4) (i : Fin 128) (j : Fin 256) : r76 V0 (ix6 b n h g i j) = scR (PR V0 b) n h g i j := by
  pointwise [r76, res_main_v76, res_main_v53, res_main_v50]
  rw [mask_word, sel_ofBool]
  unfold scR
  refine if_congr Iff.rfl (Ideal.mul_congr (Finset.sum_congr rfl fun x _ => Ideal.mul_congr ?_ ?_) rfl) bot_lit
  · unfold bandR
    by_cases h1 : j.val < 128
    · rw [dif_pos h1]
      by_cases h2 : n.val < 1
      · rw [dif_pos h2, dif_pos (by omega)]
      · rw [dif_neg h2, dif_neg (by omega), v29_at]
        exact ap2 (PR V0 b) (by simp only []; omega) rfl
    · rw [dif_neg h1, dif_neg (by omega), v29_at]
      exact ap2 (PR V0 b) (by simp only []; omega) rfl
  · rw [v19_at]
    exact ap2 (PR V0 b) (by simp only []; omega) (by simp only []; omega)

theorem sum6 (x : FVec Ideal S8x32x2x4x128x256 .f32) (z : EReal) (b : Fin 8) (n : Fin 32) (h : Fin 2) (g : Fin 4) (i : Fin 128) :
    Ideal.hostReduceAdd reducesTo_S8x32x2x4x128x256_S8x32x2x4x128_d5 x z (ix5 b n h g i) = z + ∑ j : Fin 256, x (ix6 b n h g i j) := by
  rw [Ideal.hostReduceAdd_single reducesTo_S8x32x2x4x128x256_S8x32x2x4x128_d5 (by decide)]
  refine congrArg (_ + ·) (Finset.sum_congr rfl fun k _ => ?_)
  exact congrArg x (funext fun a => Fin.ext (by fin_cases a <;> rfl))

theorem max6 (x : FVec Ideal S8x32x2x4x128x256 .f32) (z : FVec Ideal S_ .f32) (b : Fin 8) (n : Fin 32) (h : Fin 2) (g : Fin 4) (i : Fin 128) :
    Host.reduce (FloatOps.maximumf (F := Ideal) (φ := .f32)) x z reducesTo_S8x32x2x4x128x256_S8x32x2x4x128_d5 h_S_ (ix5 b n h g i) = (Finset.univ : Finset (Fin 256)).fold max (z (Shape.Idx.first h_S_)) (fun j => x (ix6 b n h g i j)) := by
  rw [Host.reduce_eq_fold_single (FloatOps.maximumf (F := Ideal) (φ := .f32)) x z reducesTo_S8x32x2x4x128x256_S8x32x2x4x128_d5 (by decide)]
  exact Finset.fold_congr (fun k _ => congrArg x (funext fun a => Fin.ext (by fin_cases a <;> rfl)))

theorem e82 (b : Fin 8) (n : Fin 32) (h : Fin 2) (g : Fin 4) (i : Fin 128) : Host.reduce (FloatOps.maximumf (F := Ideal) (φ := .f32)) (r76 V0) (constant S_ .f32 0xFF800000#32) reducesTo_S8x32x2x4x128x256_S8x32x2x4x128_d5 h_S_ (ix5 b n h g i)
      = Finset.univ.fold max ⊥ (scR (PR V0 b) n h g i) := by
  refine (max6 _ _ _ _ _ _ _).trans ?_
  have hz : (constant (F := Ideal) S_ .f32 0xFF800000#32) (Shape.Idx.first h_S_) = Ideal.ofBits .f32 0xFF800000#32 := rfl
  rw [hz, bot_lit]
  exact Finset.fold_congr fun j _ => r76_at V0 b n h g i j

theorem mr (R : FVec Ideal S8x32x2x4x128 .f32) (T : FVec Ideal S1x1x2x4x1x1 .f32) (b : Fin 8) (n : Fin 32) (h : Fin 2) (g : Fin 4) (i : Fin 128) :
    maximumf (broadcastInDim S8x32x2x4x128x1 ![0, 1, 2, 3, 4] bcast_S8x32x2x4x128_S8x32x2x4x128x1_0_1_2_3_4 R) (broadcastInDim S8x32x2x4x128x1 ![0, 1, 2, 3, 4, 5] bcast_S1x1x2x4x1x1_S8x32x2x4x128x1_0_1_2_3_4_5 T) (ix6 b n h g i 0) = max (R (ix5 b n h g i)) (T (ix6 0 0 h g 0 0)) := by
  pointwise []

theorem r82_at (b : Fin 8) (n : Fin 32) (h : Fin 2) (g : Fin 4) (i : Fin 128) : r82 V0 (ix6 b n h g i 0) = mxR (PR V0 b) (fun k => a4 V0 (ix2 0 k)) n h g i :=
  (mr (Host.reduce (FloatOps.maximumf (F := Ideal) (φ := .f32)) (res_main_v76 V0) (constant S_ .f32 0xFF800000#32) reducesTo_S8x32x2x4x128x256_S8x32x2x4x128_d5 h_S_) (res_main_v78 V0) b n h g i).trans
    (congrArg₂ max (e82 V0 b n h g i) (v78_at V0 h g))

theorem r85_at (b : Fin 8) (n : Fin 32) (h : Fin 2) (g : Fin 4) (i : Fin 128) (j : Fin 256) : r85 V0 (ix6 b n h g i j) = pR (PR V0 b) (fun k => a4 V0 (ix2 0 k)) n h g i j := by
  have e : r85 V0 (ix6 b n h g i j) = Ideal.exp (r76 V0 (ix6 b n h g i j) - r82 V0 (ix6 b n h g i 0)) := by
    pointwise [r85, r76, r82, res_main_v85]
  rw [e, r76_at, r82_at]
  rfl

end Cert.ReferenceIdeal.Hand

end
-- ==== Proof.RefMid.lean ====
module

public import proofs.«01_k».proof.Proof.Gen.ReferenceIdeal.Run
public import proofs.«01_k».proof.Proof.RefRead
public import Idealize.ShloMosaic.Lib.Pointwise

@[expose] public section

set_option maxRecDepth 16384

/-! The reference's result, read index by index as the layer of `RefSpec`. -/

noncomputable section

namespace Cert.ReferenceIdeal.Hand

open Cert.ReferenceIdeal Cert.ReferenceIdeal.Gen Cert.ReferenceIdeal.Value Cert.Spec
open Idealize.ShloMosaic Idealize.ShloMosaic.TcCoe Idealize.ShloMosaic.StableHlo

variable (V0 : Valuation τ sig (Elt Ideal))

theorem v23_at (b : Fin 8) (s : Fin 4096) (c : Fin 512) : res_main_v23 V0 (ix3 b s c) = PR V0 b s ⟨768 + c.val, by omega⟩ := by
  pointwise [res_main_v23]
  rw [v19_at]

theorem v24_at (b : Fin 8) (s : Fin 4096) (c : Fin 512) : res_main_v24 V0 (ix3 b s c) = PR V0 b s ⟨1280 + c.val, by omega⟩ := by
  pointwise [res_main_v24]
  rw [v19_at]

theorem v25_at (b : Fin 8) (s : Fin 4096) (c : Fin 512) : res_main_v25 V0 (ix3 b s c) = PR V0 b s ⟨1792 + c.val, by omega⟩ := by
  pointwise [res_main_v25]
  rw [v19_at]

theorem v26_at (b : Fin 8) (s : Fin 4096) (c : Fin 512) : res_main_v26 V0 (ix3 b s c) = PR V0 b s ⟨2304 + c.val, by omega⟩ := by
  pointwise [res_main_v26]
  rw [v19_at]

/-- The gate's rows before their norm. -/
def vg (b : Fin 8) (s : Fin 4096) (c : Fin 512) : EReal := gelR (PR V0 b s ⟨1792 + c.val, by omega⟩)

theorem v120_at (b : Fin 8) (s : Fin 4096) (k : Fin 512) : res_main_v120 V0 (ix3 b s k) = vg V0 b s k := by
  have G : gelR (r25 V0 (ix3 b s k)) = vg V0 b s k := congrArg gelR (v25_at V0 b s k)
  pointwise [res_main_v120]
  exact G

theorem r130_at (b : Fin 8) (s : Fin 4096) (c : Fin 512) : r130 V0 (ix3 b s c) = vg V0 b s c - Ideal.div (∑ k, vg V0 b s k) (Ideal.ofBits .f32 0x44000000#32) := by
  have G : ∀ k, res_main_v120 V0 (ix3 b s k) = vg V0 b s k := v120_at V0 b s
  pointwise [r130, res_main_v130]
  exact congrArg₂ (· - ·) (G c) (congrArg (Ideal.div · _) (Finset.sum_congr rfl fun x _ => G x))

theorem ln_at (b : Fin 8) (s : Fin 4096) (c : Fin 512) :
    r130 V0 (ix3 b s c) * Ideal.rsqrt (Ideal.div (∑ k, r130 V0 (ix3 b s k) * r130 V0 (ix3 b s k)) (Ideal.ofBits .f32 0x44000000#32) + Ideal.ofBits .f32 0x3727C5AC#32) * a5 V0 (ix2 0 c) + a6 V0 (ix2 0 c)
      = vlR (PR V0 b) (fun k => a5 V0 (ix2 0 k)) (fun k => a6 V0 (ix2 0 k)) s c := by
  have G := r130_at V0 b s
  rw [Finset.sum_congr rfl fun k _ => congrArg₂ (· * ·) (G k) (G k), G c]
  rfl

theorem den_at (b : Fin 8) (n : Fin 32) (h : Fin 2) (g : Fin 4) (i : Fin 128) :
    Ideal.hostReduceAdd reducesTo_S8x32x2x4x128x256_S8x32x2x4x128_d5 (r85 V0) 0 (ix5 b n h g i) = ∑ k, pR (PR V0 b) (fun k => a4 V0 (ix2 0 k)) n h g i k := by
  rw [sum6, zero_add]
  exact Finset.sum_congr rfl fun k _ => r85_at V0 b n h g i k

theorem sum256 (f : Fin 256 → EReal) : ∑ j, f j = (∑ x : Fin 128, f ⟨x.val, by omega⟩) + ∑ x : Fin 128, f ⟨128 + x.val, by omega⟩ :=
  Fin.sum_univ_add (a := 128) (b := 128) f

theorem sel_tril (i x : Fin 128) (a : EReal) :
    Scalar.select (Scalar.select (IntOp.cmpi .sge (IntOp.addi (BitVec.ofNat 32 i.val) 0#32) (BitVec.ofNat 32 x.val)) 1#1 0#1) a 0 = if x.val ≤ i.val then a else 0 := by
  have e : ∀ i x : Fin 128, IntOp.cmpi .sge (IntOp.addi (BitVec.ofNat 32 i.val) 0#32) (BitVec.ofNat 32 x.val) = BitVec.ofBool (decide (x.val ≤ i.val)) := by decide +kernel
  rw [e]
  by_cases h : x.val ≤ i.val <;> simp [h, Scalar.select]

end Cert.ReferenceIdeal.Hand

end
-- ==== Proof.RefTerm.lean ====
module

public import proofs.«01_k».proof.Proof.Gen.ReferenceIdeal.Run
public import proofs.«01_k».proof.Proof.RefMid
public import Idealize.ShloMosaic.Lib.Pointwise

@[expose] public section

set_option maxRecDepth 16384

/-! The reference's result, read index by index as the layer of `RefSpec`. -/

noncomputable section

namespace Cert.ReferenceIdeal.Hand

open Cert.ReferenceIdeal Cert.ReferenceIdeal.Gen Cert.ReferenceIdeal.Value Cert.Spec
open Idealize.ShloMosaic Idealize.ShloMosaic.TcCoe Idealize.ShloMosaic.StableHlo

/-- The weights' composed term, over its operands. -/
def wT (X85 : FVec Ideal S8x32x2x4x128x256 .f32) (D : FVec Ideal S8x32x2x4x128 .f32) (X78 : FVec Ideal S1x1x2x4x1x1 .f32) (X82 : FVec Ideal S8x32x2x4x128x1 .f32) : FVec Ideal S8x32x2x4x128x256 .f32 :=
  Host.divf X85 (broadcastInDim S8x32x2x4x128x256 ![0, 1, 2, 3, 4, 5] bcast_S8x32x2x4x128x1_S8x32x2x4x128x256_0_1_2_3_4_5 (addf (broadcastInDim S8x32x2x4x128x1 ![0, 1, 2, 3, 4] bcast_S8x32x2x4x128_S8x32x2x4x128x1_0_1_2_3_4 D) (Host.exp (subf (broadcastInDim S8x32x2x4x128x1 ![0, 1, 2, 3, 4, 5] bcast_S1x1x2x4x1x1_S8x32x2x4x128x1_0_1_2_3_4_5 X78) X82))))

/-- The gated unit's composed term, over its operands. -/
def sguT (X24 X130 X26 : FVec Ideal S8x4096x512 .f32) (Y5 Y6 : FVec Ideal S1x512 .f32) (Y7 : FVec Ideal S1x8x128x128 .f32) (Y8 : FVec Ideal S1x8x128 .f32) : FVec Ideal S8x4096x512 .f32 :=
  mulf (mulf (mulf (mulf (broadcastInDim S8x4096x512 ![] bcast_S_S8x4096x512 (constant S_ .f32 0x3F000000#32)) X24) (addf (broadcastInDim S8x4096x512 ![] bcast_S_S8x4096x512 (constant S_ .f32 0x3F800000#32)) (Host.erf (mulf X24 (broadcastInDim S8x4096x512 ![] bcast_S_S8x4096x512 (constant S_ .f32 0x3F3504F3#32)))))) (shapeCast _ (addf (transpose S8x32x128x8x64 [1, 2, 4, 0, 3] (Host.dotGeneral dot_S8x32x128x8x64_S8x128x128_S8x8x32x64x128_2_2_014_1_3_0 none (shapeCast _ (addf (mulf (mulf X130 (broadcastInDim S8x4096x512 ![0, 1, 2] bcast_S8x4096x1_S8x4096x512_0_1_2 (Host.rsqrt (addf (Host.divf (broadcastInDim S8x4096x1 ![0, 1] bcast_S8x4096_S8x4096x1_0_1 (Host.reduceAdd (mulf X130 X130) (constant S_ .f32 0x00000000#32) reducesTo_S8x4096x512_S8x4096_d2 h_S_)) (broadcastInDim S8x4096x1 ![] bcast_S_S8x4096x1 (constant S_ .f32 0x44000000#32))) (broadcastInDim S8x4096x1 ![] bcast_S_S8x4096x1 (constant S_ .f32 0x3727C5AC#32)))))) (broadcastInDim S8x4096x512 ![0, 1, 2] bcast_S1x1x512_S8x4096x512_0_1_2 (broadcastInDim S1x1x512 ![2] bcast_S512_S1x1x512_2 (shapeCast _ Y5 shapeCasts_S1x512_S512)))) (broadcastInDim S8x4096x512 ![0, 1, 2] bcast_S1x1x512_S8x4096x512_0_1_2 (broadcastInDim S1x1x512 ![2] bcast_S512_S1x1x512_2 (shapeCast _ Y6 shapeCasts_S1x512_S512)))) shapeCasts_S8x4096x512_S8x32x128x8x64) (select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (shapeCast _ Y7 shapeCasts_S1x8x128x128_S8x128x128) (broadcastInDim S8x128x128 ![] bcast_S_S8x128x128 (constant S_ .f32 0x00000000#32)))) transposes_S8x8x32x64x128_S8x32x128x8x64_1_2_4_0_3) (broadcastInDim S8x32x128x8x64 ![0, 1, 2, 3, 4] bcast_S1x1x128x8x1_S8x32x128x8x64_0_1_2_3_4 (broadcastInDim S1x1x128x8x1 ![2, 3] bcast_S128x8_S1x1x128x8x1_2_3 (transpose S128x8 [1, 0] (shapeCast _ Y8 shapeCasts_S1x8x128_S8x128) transposes_S8x128_S128x8_1_0)))) shapeCasts_S8x32x128x8x64_S8x4096x512)) (mulf X26 (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf X26)))))

/-- The values' blocks. -/
def vbT (X35 : FVec Ideal S8x32x128x2x64 .f32) : FVec Ideal S8x32x256x2x64 .f32 :=
  concatenate S8x32x256x2x64 2 [⟨S8x32x128x2x64, (concatenate S8x32x128x2x64 1 [⟨S8x1x128x2x64, (broadcastInDim S8x1x128x2x64 ![] bcast_S_S8x1x128x2x64 (constant S_ .f32 0x00000000#32))⟩, ⟨S8x31x128x2x64, (extractStridedSlice S8x31x128x2x64 ![0, 0, 0, 0, 0] X35 slices_S8x32x128x2x64_S8x31x128x2x64_0_0_0_0_0)⟩] concatenates_S8x1x128x2x64_S8x31x128x2x64_S8x32x128x2x64_d1)⟩, ⟨S8x32x128x2x64, X35⟩] concatenates_S8x32x128x2x64_S8x32x128x2x64_S8x32x256x2x64_d2

/-- The values weighed. -/
def dotT (VB : FVec Ideal S8x32x256x2x64 .f32) (W : FVec Ideal S8x32x2x4x128x256 .f32) : FVec Ideal S8x32x2x64x4x128 .f32 :=
  Host.dotGeneral dot_S8x32x256x2x64_S8x32x2x4x128x256_S8x32x2x64x4x128_2_5_4_34_013_012 none VB W

/-- The heads side by side. -/
def mvT (Y : FVec Ideal S8x32x2x64x4x128 .f32) : FVec Ideal S8x4096x512 .f32 :=
  shapeCast _ (transpose S8x32x128x2x4x64 [0, 1, 5, 2, 4, 3] Y transposes_S8x32x2x64x4x128_S8x32x128x2x4x64_0_1_5_2_4_3) shapeCasts_S8x32x128x2x4x64_S8x4096x512

/-- The gate over a row. -/
def gateT (X23 : FVec Ideal S8x4096x512 .f32) : FVec Ideal S8x4096x512 .f32 :=
  mulf X23 (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf X23))))

theorem wT_at (X85 : FVec Ideal S8x32x2x4x128x256 .f32) (D : FVec Ideal S8x32x2x4x128 .f32) (X78 : FVec Ideal S1x1x2x4x1x1 .f32) (X82 : FVec Ideal S8x32x2x4x128x1 .f32) (b : Fin 8) (n : Fin 32) (h : Fin 2) (g : Fin 4) (i : Fin 128) (j : Fin 256) :
    wT X85 D X78 X82 (ix6 b n h g i j) = Ideal.div (X85 (ix6 b n h g i j)) (D (ix5 b n h g i) + Ideal.exp (X78 (ix6 0 0 h g 0 0) - X82 (ix6 b n h g i 0))) := by
  pointwise [wT]

theorem red_at (x : FVec Ideal S8x32x2x4x128x256 .f32) (b : Fin 8) (n : Fin 32) (h : Fin 2) (g : Fin 4) (i : Fin 128) :
    Host.reduceAdd x (constant S_ .f32 0x00000000#32) reducesTo_S8x32x2x4x128x256_S8x32x2x4x128_d5 h_S_ (ix5 b n h g i) = ∑ j : Fin 256, x (ix6 b n h g i j) := by
  simp only [Host.reduceAdd, Ideal.hostReduceAdd_def]
  rw [sum6]
  have hz : (constant (F := Ideal) S_ .f32 0x00000000#32) (Shape.Idx.first h_S_) = Ideal.ofBits .f32 0x00000000#32 := rfl
  rw [hz, show Ideal.ofBits .f32 0x00000000#32 = 0 from by simp [Ideal.ofBits, Ideal.ieee], zero_add]

theorem cat_at (A B : FVec Ideal S8x4096x512 .f32) (b : Fin 8) (s : Fin 4096) (c : Fin 1024) :
    concatenate S8x4096x1024 2 [⟨S8x4096x512, A⟩, ⟨S8x4096x512, B⟩] concatenates_S8x4096x512_S8x4096x512_S8x4096x1024_d2 (ix3 b s c)
      = if h : c.val < 512 then A (ix3 b s ⟨c.val, h⟩) else B (ix3 b s ⟨c.val - 512, by omega⟩) := by
  pointwise []

theorem vbT_at (X35 : FVec Ideal S8x32x128x2x64 .f32) (b : Fin 8) (n : Fin 32) (j : Fin 256) (h : Fin 2) (d : Fin 64) :
    vbT X35 (ix5 b n j h d) = if h1 : j.val < 128 then if h2 : n.val < 1 then 0 else X35 (ix5 b ⟨n.val - 1, by omega⟩ ⟨j.val, h1⟩ h d) else X35 (ix5 b n ⟨j.val - 128, by omega⟩ h d) := by
  pointwise [vbT]

theorem dotT_at (VB : FVec Ideal S8x32x256x2x64 .f32) (W : FVec Ideal S8x32x2x4x128x256 .f32) (b : Fin 8) (n : Fin 32) (h : Fin 2) (d : Fin 64) (g : Fin 4) (i : Fin 128) :
    dotT VB W (ix6 b n h d g i) = ∑ j : Fin 256, VB (ix5 b n j h d) * W (ix6 b n h g i j) := by
  pointwise [dotT]

theorem mvT_at (Y : FVec Ideal S8x32x2x64x4x128 .f32) (b : Fin 8) (s : Fin 4096) (c : Fin 512) :
    mvT Y (ix3 b s c) = Y (ix6 b ⟨s.val / 128, by omega⟩ ⟨c.val / 256, by omega⟩ ⟨c.val % 64, by omega⟩ ⟨c.val / 64 % 4, by omega⟩ ⟨s.val % 128, by omega⟩) := by
  pointwise [mvT]

theorem gateT_at (X23 : FVec Ideal S8x4096x512 .f32) (b : Fin 8) (s : Fin 4096) (c : Fin 512) : gateT X23 (ix3 b s c) = silR (X23 (ix3 b s c)) := by
  pointwise [gateT, silR]

end Cert.ReferenceIdeal.Hand

end
-- ==== Proof.RefSgu.lean ====
module

public import proofs.«01_k».proof.Proof.Gen.ReferenceIdeal.Run
public import proofs.«01_k».proof.Proof.RefTerm
public import Idealize.ShloMosaic.Lib.Pointwise

@[expose] public section

set_option maxRecDepth 16384

/-! The reference's result, read index by index as the layer of `RefSpec`. -/

noncomputable section

namespace Cert.ReferenceIdeal.Hand

open Cert.ReferenceIdeal Cert.ReferenceIdeal.Gen Cert.ReferenceIdeal.Value Cert.Spec
open Idealize.ShloMosaic Idealize.ShloMosaic.TcCoe Idealize.ShloMosaic.StableHlo

theorem sguT_at (X24 X130 X26 : FVec Ideal S8x4096x512 .f32) (Y5 Y6 : FVec Ideal S1x512 .f32) (Y7 : FVec Ideal S1x8x128x128 .f32) (Y8 : FVec Ideal S1x8x128 .f32) (b : Fin 8) (s : Fin 4096) (c : Fin 512) :
    sguT X24 X130 X26 Y5 Y6 Y7 Y8 (ix3 b s c) = gelR (X24 (ix3 b s c)) *
      ((∑ x : Fin 128, (if x.val ≤ s.val % 128 then
          (X130 (ix3 b ⟨s.val / 128 * 128 + x.val, by omega⟩ c) * Ideal.rsqrt (Ideal.div (∑ k, X130 (ix3 b ⟨s.val / 128 * 128 + x.val, by omega⟩ k) * X130 (ix3 b ⟨s.val / 128 * 128 + x.val, by omega⟩ k)) (Ideal.ofBits .f32 0x44000000#32) + Ideal.ofBits .f32 0x3727C5AC#32)
            * Y5 (ix2 0 c) + Y6 (ix2 0 c)) * Y7 (ix4 0 ⟨c.val / 64, by omega⟩ ⟨s.val % 128, by omega⟩ x) else 0))
        + Y8 (ix3 0 ⟨c.val / 64, by omega⟩ ⟨s.val % 128, by omega⟩)) * silR (X26 (ix3 b s c)) := by
  have h : ∀ R, gelR (X24 (ix3 b s c)) * ((∑ x : Fin 128, Scalar.select (Scalar.select (IntOp.cmpi .sge (IntOp.addi (BitVec.ofNat 32 (s.val % 128)) 0#32) (BitVec.ofNat 32 x.val)) 1#1 0#1)
          ((X130 (ix3 b ⟨s.val / 128 * 128 + x.val, by omega⟩ c) * Ideal.rsqrt (Ideal.div (∑ k, X130 (ix3 b ⟨s.val / 128 * 128 + x.val, by omega⟩ k) * X130 (ix3 b ⟨s.val / 128 * 128 + x.val, by omega⟩ k)) (Ideal.ofBits .f32 0x44000000#32) + Ideal.ofBits .f32 0x3727C5AC#32)
            * Y5 (ix2 0 c) + Y6 (ix2 0 c)) * Y7 (ix4 0 ⟨c.val / 64, by omega⟩ ⟨s.val % 128, by omega⟩ x)) 0)
        + Y8 (ix3 0 ⟨c.val / 64, by omega⟩ ⟨s.val % 128, by omega⟩)) * silR (X26 (ix3 b s c)) = R → sguT X24 X130 X26 Y5 Y6 Y7 Y8 (ix3 b s c) = R := fun R hR => by
    pointwise [sguT]
    exact hR
  refine h _ (congrArg₂ (· * ·) (congrArg₂ (· * ·) rfl (congrArg₂ (· + ·) (Finset.sum_congr rfl fun x _ => ?_) rfl)) rfl)
  exact sel_tril ⟨s.val % 128, by omega⟩ x _

end Cert.ReferenceIdeal.Hand

end
-- ==== Proof.RefLeft.lean ====
module

public import proofs.«01_k».proof.Proof.Gen.ReferenceIdeal.Run
public import proofs.«01_k».proof.Proof.RefTerm
public import proofs.«01_k».proof.Proof.RefSgu
public import Idealize.ShloMosaic.Lib.Pointwise

@[expose] public section

set_option maxRecDepth 16384

/-! The reference's result, read index by index as the layer of `RefSpec`. -/

noncomputable section

namespace Cert.ReferenceIdeal.Hand

open Cert.ReferenceIdeal Cert.ReferenceIdeal.Gen Cert.ReferenceIdeal.Value Cert.Spec
open Idealize.ShloMosaic Idealize.ShloMosaic.TcCoe Idealize.ShloMosaic.StableHlo

variable (V0 : Valuation τ sig (Elt Ideal))

/-- The reference's mixed rows over its named terms. -/
theorem r169_eq : r169 V0 = concatenate S8x4096x1024 2 [⟨S8x4096x512, (mulf (mvT (dotT (vbT (res_main_v35 V0)) (wT (r85 V0) (Host.reduceAdd (r85 V0) (constant S_ .f32 0x00000000#32) reducesTo_S8x32x2x4x128x256_S8x32x2x4x128_d5 h_S_) (res_main_v78 V0) (r82 V0)))) (gateT (r23 V0)) : FVec Ideal S8x4096x512 .f32)⟩,
    ⟨S8x4096x512, sguT (r24 V0) (r130 V0) (r26 V0) (a5 V0) (a6 V0) (a7 V0) (a8 V0)⟩] concatenates_S8x4096x512_S8x4096x512_S8x4096x1024_d2 := rfl

theorem w_at (b : Fin 8) (n : Fin 32) (h : Fin 2) (g : Fin 4) (i : Fin 128) (j : Fin 256) :
    wT (r85 V0) (Host.reduceAdd (r85 V0) (constant S_ .f32 0x00000000#32) reducesTo_S8x32x2x4x128x256_S8x32x2x4x128_d5 h_S_) (res_main_v78 V0) (r82 V0) (ix6 b n h g i j)
      = Ideal.div (pR (PR V0 b) (fun k => a4 V0 (ix2 0 k)) n h g i j) ((∑ k, pR (PR V0 b) (fun k => a4 V0 (ix2 0 k)) n h g i k) + Ideal.exp (a4 V0 (ix2 0 ⟨4 * h.val + g.val, by omega⟩) - mxR (PR V0 b) (fun k => a4 V0 (ix2 0 k)) n h g i)) := by
  refine (wT_at _ _ _ _ b n h g i j).trans ?_
  refine congrArg₂ Ideal.div (r85_at V0 b n h g i j) (congrArg₂ (· + ·) ((red_at _ b n h g i).trans (Finset.sum_congr rfl fun k _ => r85_at V0 b n h g i k)) (congrArg Ideal.exp (congrArg₂ (· - ·) (v78_at V0 h g) (r82_at V0 b n h g i))))

theorem vb_at (b : Fin 8) (n : Fin 32) (j : Fin 256) (h : Fin 2) (d : Fin 64) :
    vbT (res_main_v35 V0) (ix5 b n j h d) = bandR (PR V0 b) 640 (by omega) n h j d := by
  refine (vbT_at _ b n j h d).trans ?_
  unfold bandR
  by_cases h1 : j.val < 128
  · rw [dif_pos h1]
    by_cases h2 : n.val < 1
    · rw [dif_pos h2, dif_pos (by omega)]
    · rw [dif_neg h2, dif_neg (by omega)]
      exact (v35_at V0 b _ _ _ _).trans (ap2 (PR V0 b) (by simp only []; omega) rfl)
  · rw [dif_neg h1, dif_neg (by omega)]
    exact (v35_at V0 b _ _ _ _).trans (ap2 (PR V0 b) (by simp only []; omega) rfl)

theorem mul3 (A B : FVec Ideal S8x4096x512 .f32) (i : S8x4096x512.Idx) : (mulf A B : FVec Ideal S8x4096x512 .f32) i = A i * B i := rfl

theorem left_at (b : Fin 8) (s : Fin 4096) (c : Fin 512) :
    mvT (dotT (vbT (res_main_v35 V0)) (wT (r85 V0) (Host.reduceAdd (r85 V0) (constant S_ .f32 0x00000000#32) reducesTo_S8x32x2x4x128x256_S8x32x2x4x128_d5 h_S_) (res_main_v78 V0) (r82 V0))) (ix3 b s c)
      = attR (PR V0 b) (fun k => a4 V0 (ix2 0 k)) ⟨s.val / 128, by omega⟩ ⟨c.val / 256, by omega⟩ ⟨c.val / 64 % 4, by omega⟩ ⟨s.val % 128, by omega⟩ ⟨c.val % 64, by omega⟩ := by
  rw [mvT_at, dotT_at]
  unfold attR
  refine Finset.sum_congr rfl fun j _ => ?_
  rw [vb_at, w_at]

theorem gate_at (b : Fin 8) (s : Fin 4096) (c : Fin 512) : gateT (r23 V0) (ix3 b s c) = silR (PR V0 b s ⟨768 + c.val, by omega⟩) :=
  (gateT_at _ b s c).trans (congrArg silR (v23_at V0 b s c))

end Cert.ReferenceIdeal.Hand

end
-- ==== Proof.RefRight.lean ====
module

public import proofs.«01_k».proof.Proof.Gen.ReferenceIdeal.Run
public import proofs.«01_k».proof.Proof.RefTerm
public import proofs.«01_k».proof.Proof.RefSgu
public import Idealize.ShloMosaic.Lib.Pointwise

@[expose] public section

set_option maxRecDepth 16384

/-! The reference's result, read index by index as the layer of `RefSpec`. -/

noncomputable section

namespace Cert.ReferenceIdeal.Hand

open Cert.ReferenceIdeal Cert.ReferenceIdeal.Gen Cert.ReferenceIdeal.Value Cert.Spec
open Idealize.ShloMosaic Idealize.ShloMosaic.TcCoe Idealize.ShloMosaic.StableHlo

variable (V0 : Valuation τ sig (Elt Ideal))

theorem right_at (b : Fin 8) (s : Fin 4096) (c : Fin 512) :
    sguT (r24 V0) (r130 V0) (r26 V0) (a5 V0) (a6 V0) (a7 V0) (a8 V0) (ix3 b s c)
      = gelR (PR V0 b s ⟨1280 + c.val, by omega⟩) *
      ((∑ t : Fin 128, vlR (PR V0 b) (fun k => a5 V0 (ix2 0 k)) (fun k => a6 V0 (ix2 0 k)) ⟨128 * (s.val / 128) + t.val, by omega⟩ c * (if t.val ≤ s.val % 128 then a7 V0 (ix4 0 ⟨c.val / 64, by omega⟩ ⟨s.val % 128, by omega⟩ t) else 0))
        + a8 V0 (ix3 0 ⟨c.val / 64, by omega⟩ ⟨s.val % 128, by omega⟩)) * silR (PR V0 b s ⟨2304 + c.val, by omega⟩) := by
  rw [sguT_at, show r24 V0 (ix3 b s c) = _ from v24_at V0 b s c, show r26 V0 (ix3 b s c) = _ from v26_at V0 b s c]
  have h : ∀ x : Fin 128, (if x.val ≤ s.val % 128 then
          (r130 V0 (ix3 b ⟨s.val / 128 * 128 + x.val, by omega⟩ c) * Ideal.rsqrt (Ideal.div (∑ k, r130 V0 (ix3 b ⟨s.val / 128 * 128 + x.val, by omega⟩ k) * r130 V0 (ix3 b ⟨s.val / 128 * 128 + x.val, by omega⟩ k)) (Ideal.ofBits .f32 0x44000000#32) + Ideal.ofBits .f32 0x3727C5AC#32)
            * a5 V0 (ix2 0 c) + a6 V0 (ix2 0 c)) * a7 V0 (ix4 0 ⟨c.val / 64, by omega⟩ ⟨s.val % 128, by omega⟩ x) else 0)
      = vlR (PR V0 b) (fun k => a5 V0 (ix2 0 k)) (fun k => a6 V0 (ix2 0 k)) ⟨128 * (s.val / 128) + x.val, by omega⟩ c * (if x.val ≤ s.val % 128 then a7 V0 (ix4 0 ⟨c.val / 64, by omega⟩ ⟨s.val % 128, by omega⟩ x) else 0) := fun x => by
    by_cases ht : x.val ≤ s.val % 128
    · rw [if_pos ht, if_pos ht, ln_at, ap2 (vlR (PR V0 b) (fun k => a5 V0 (ix2 0 k)) (fun k => a6 V0 (ix2 0 k))) (a := ⟨s.val / 128 * 128 + x.val, by omega⟩) (a' := ⟨128 * (s.val / 128) + x.val, by omega⟩) (by simp only []; omega) rfl]
    · rw [if_neg ht, if_neg ht, mul_zero]
  rw [Finset.sum_congr rfl fun x _ => h x]

end Cert.ReferenceIdeal.Hand

end
-- ==== Proof.RefMix.lean ====
module

public import proofs.«01_k».proof.Proof.Gen.ReferenceIdeal.Run
public import proofs.«01_k».proof.Proof.RefLeft
public import proofs.«01_k».proof.Proof.RefRight
public import Idealize.ShloMosaic.Lib.Pointwise

@[expose] public section

set_option maxRecDepth 16384

/-! The reference's result, read index by index as the layer of `RefSpec`. -/

noncomputable section

namespace Cert.ReferenceIdeal.Hand

open Cert.ReferenceIdeal Cert.ReferenceIdeal.Gen Cert.ReferenceIdeal.Value Cert.Spec
open Idealize.ShloMosaic Idealize.ShloMosaic.TcCoe Idealize.ShloMosaic.StableHlo

variable (V0 : Valuation τ sig (Elt Ideal))

theorem r169_at (b : Fin 8) (s : Fin 4096) (c : Fin 1024) :
    r169 V0 (ix3 b s c) = mixR (PR V0 b) (fun k => a4 V0 (ix2 0 k)) (fun k => a5 V0 (ix2 0 k)) (fun k => a6 V0 (ix2 0 k)) (fun h i t => a7 V0 (ix4 0 h i t)) (fun h i => a8 V0 (ix3 0 h i)) s c := by
  rw [r169_eq, cat_at]
  unfold mixR
  by_cases hc : c.val < 512
  · rw [dif_pos hc, dif_pos hc, mul3, left_at, gate_at]
  · rw [dif_neg hc, dif_neg hc, right_at]

end Cert.ReferenceIdeal.Hand

end
-- ==== Proof.RefOut.lean ====
module

public import proofs.«01_k».proof.Proof.Gen.ReferenceIdeal.Run
public import proofs.«01_k».proof.Proof.RefMix
public import Idealize.ShloMosaic.Lib.Pointwise

@[expose] public section

set_option maxRecDepth 16384

/-! The reference's result, read index by index as the layer of `RefSpec`. -/

noncomputable section

namespace Cert.ReferenceIdeal.Hand

open Cert.ReferenceIdeal Cert.ReferenceIdeal.Gen Cert.ReferenceIdeal.Value Cert.Spec
open Idealize.ShloMosaic Idealize.ShloMosaic.TcCoe Idealize.ShloMosaic.StableHlo

variable (V0 : Valuation τ sig (Elt Ideal))

theorem r176_at (b : Fin 8) (s : Fin 4096) (d : Fin 1024) :
    r176 V0 (ix3 b s d) = a0 V0 (ix3 b s d) + (∑ k, r169 V0 (ix3 b s k) * a9 V0 (ix3 0 k d)) + a10 V0 (ix2 0 d) := by
  pointwise [r176, res_main_v176]

/-- The last norm's composed term, over the row and the gain. -/
def outT (X : FVec Ideal S8x4096x1024 .f32) (Y : FVec Ideal S1024 .f32) : FVec Ideal S8x4096x1024 .f32 :=
  mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x3727C5AC#32)))))) (broadcastInDim S8x4096x1024 ![0, 1, 2] bcast_S1x1x1024_S8x4096x1024_0_1_2 (broadcastInDim S1x1x1024 ![2] bcast_S1024_S1x1x1024_2 Y))

theorem outT_at (X : FVec Ideal S8x4096x1024 .f32) (Y : FVec Ideal S1024 .f32) (b : Fin 8) (s : Fin 4096) (d : Fin 1024) :
    outT X Y (ix3 b s d) = rowH (fun d => X (ix3 b s d)) (fun d => Y (ix1 d)) d := by
  pointwise [outT, rowH]

/-- The reference's result. -/
def outR : FVec Ideal S8x4096x1024 .f32 :=
  outT (res_main_v176 V0) (a11 V0)

theorem outR_at (b : Fin 8) (s : Fin 4096) (d : Fin 1024) :
    outR V0 (ix3 b s d) = rowH (fun d => r176 V0 (ix3 b s d)) (fun d => a11 V0 (ix1 d)) d :=
  outT_at _ _ b s d

/-- The reference's result, index by index. -/
theorem result_at (b : Fin 8) (s : Fin 4096) (d : Fin 1024) :
    outR V0 (ix3 b s d) = lastRow (fun d => a0 V0 (ix3 b s d)) (mixR (PR V0 b) (fun k => a4 V0 (ix2 0 k)) (fun k => a5 V0 (ix2 0 k)) (fun k => a6 V0 (ix2 0 k)) (fun h i t => a7 V0 (ix4 0 h i t)) (fun h i => a8 V0 (ix3 0 h i)) s)
      (fun k d => a9 V0 (ix3 0 k d)) (fun d => a10 V0 (ix2 0 d)) (fun d => a11 V0 (ix1 d)) d := by
  rw [outR_at]
  unfold lastRow
  refine congrArg (fun f => rowH f _ d) (funext fun d => (r176_at V0 b s d).trans ?_)
  exact congrArg₂ (· + ·) (congrArg₂ (· + ·) rfl (Finset.sum_congr rfl fun k _ => congrArg₂ (· * ·) (r169_at V0 b s k) rfl)) rfl

end Cert.ReferenceIdeal.Hand

end
-- ==== Proof.IdealFinal.lean ====
module

public import proofs.«01_k».proof.Proof.IdealEntry
public import proofs.«01_k».proof.Proof.IdealMath
public import proofs.«01_k».proof.Proof.RefOut

@[expose] public section

set_option maxRecDepth 16384

/-! The kernel's result is the reference's, where the projections and the sinks are real. -/

noncomputable section

namespace Cert.KernelIdeal.Val

open Cert.KernelIdeal.Gen Cert.Spec Cert.KernelIdeal.Hand
open Idealize.ShloMosaic Idealize.ShloMosaic.TcCoe Idealize.ShloMosaic.Tactic
open Idealize.SL Idealize.SL.Sem

/-- The layer's arguments on a core, read index by index, in two programs at once. -/
structure Same (m : (ℓ : Loc nD τ sig) → Buf (Elt Ideal) ℓ) (c : Dev nD) (V0 : Valuation Cert.ReferenceIdeal.τ Cert.ReferenceIdeal.sig (Elt Ideal)) : Prop where
  e0 : Cert.ReferenceIdeal.Hand.a0 V0 = (m ((c : Thread nD τ).loc main_arg0) : Vec Ideal S8x4096x1024 .f32)
  e1 : Cert.ReferenceIdeal.Hand.a1 V0 = (m ((c : Thread nD τ).loc main_arg1) : Vec Ideal S1x1024 .f32)
  e2 : Cert.ReferenceIdeal.Hand.a2 V0 = (m ((c : Thread nD τ).loc main_arg2) : Vec Ideal S1x1024x2816 .f32)
  e3 : Cert.ReferenceIdeal.Hand.a3 V0 = (m ((c : Thread nD τ).loc main_arg3) : Vec Ideal S1x2816 .f32)
  e4 : Cert.ReferenceIdeal.Hand.a4 V0 = (m ((c : Thread nD τ).loc main_arg4) : Vec Ideal S1x8 .f32)
  e5 : Cert.ReferenceIdeal.Hand.a5 V0 = (m ((c : Thread nD τ).loc main_arg5) : Vec Ideal S1x512 .f32)
  e6 : Cert.ReferenceIdeal.Hand.a6 V0 = (m ((c : Thread nD τ).loc main_arg6) : Vec Ideal S1x512 .f32)
  e7 : Cert.ReferenceIdeal.Hand.a7 V0 = (m ((c : Thread nD τ).loc main_arg7) : Vec Ideal S1x8x128x128 .f32)
  e8 : Cert.ReferenceIdeal.Hand.a8 V0 = (m ((c : Thread nD τ).loc main_arg8) : Vec Ideal S1x8x128 .f32)
  e9 : Cert.ReferenceIdeal.Hand.a9 V0 = (m ((c : Thread nD τ).loc main_arg9) : Vec Ideal S1x1024x1024 .f32)
  e10 : Cert.ReferenceIdeal.Hand.a10 V0 = (m ((c : Thread nD τ).loc main_arg10) : Vec Ideal S1x1024 .f32)
  e11 : Cert.ReferenceIdeal.Hand.a11 V0 = (m ((c : Thread nD τ).loc main_arg11) : Vec Ideal S1024 .f32)
  r1 : ∀ i, IsR (Cert.ReferenceIdeal.Hand.a1 V0 i)
  r2 : ∀ i, IsR (Cert.ReferenceIdeal.Hand.a2 V0 i)
  r3 : ∀ i, IsR (Cert.ReferenceIdeal.Hand.a3 V0 i)
  r4 : ∀ i, IsR (Cert.ReferenceIdeal.Hand.a4 V0 i)

variable (m : (ℓ : Loc nD τ sig) → Buf (Elt Ideal) ℓ) (c : Dev nD) (V0 : Valuation Cert.ReferenceIdeal.τ Cert.ReferenceIdeal.sig (Elt Ideal)) (S : Same m c V0)

open Cert.ReferenceIdeal.Hand (PR outR result_at)

theorem lt32 (t : Fin cfg0.N) : t.val < 32 := lt_of_lt_of_eq t.isLt (show cfg0.N = 32 from N_0)

include S

theorem PR_real (b : Fin 8) (s : Fin 4096) (e : Fin 2816) : IsR (PR V0 b s e) :=
  proj_real _ _ _ (rowH_real _ _ fun _ => S.r1 _) (fun _ _ => S.r2 _) (fun _ => S.r3 _) e

theorem P_at (t : Fin cfg0.N) (r : Fin 1024) (e : Fin 2816) :
    P m c t r e = PR V0 ⟨t.val / 4, by have := lt32 t; omega⟩ ⟨1024 * (t.val % 4) + r.val, by omega⟩ e * cs e := by
  have hw : wK m c = fun d e => Cert.ReferenceIdeal.Hand.a2 V0 (ix3 0 d e) * cs e := by
    funext d e
    unfold wK scaleW
    rw [v3_at, S.e2]
  have hb : bK m c = fun e => Cert.ReferenceIdeal.Hand.a3 V0 (ix2 0 e) * cs e := by
    funext e
    unfold bK scaleB
    rw [v5_at, S.e3]
  have hx : (fun d => (iblk m c 1 t : Vec Ideal S1x1024x1024 .f32) (ix3 0 r d)) = fun d => Cert.ReferenceIdeal.Hand.a0 V0 (ix3 ⟨t.val / 4, by have := lt32 t; omega⟩ ⟨1024 * (t.val % 4) + r.val, by omega⟩ d) := by
    funext d
    rw [iblk1, V_main_arg0, S.e0]
  have hg : (fun d => (iblk m c 2 t : Vec Ideal S1x1024 .f32) (ix2 0 d)) = fun d => Cert.ReferenceIdeal.Hand.a1 V0 (ix2 0 d) := by
    funext d
    rw [iblk2, v2_at, S.e1]
  unfold P tileP
  rw [hw, hb, hx, hg, proj_scaled]
  rfl

theorem halo_is (off : ℕ) (ho : off + 128 ≤ 2816) (h1 : 512 ≤ off) (h2 : off + 128 ≤ 768) (t : Fin cfg0.N) :
    IsHalo (PR V0 ⟨t.val / 4, by have := lt32 t; omega⟩) ⟨t.val % 4, by omega⟩ off ho (haloOf m off ho c t) := by
  intro hh r l
  unfold haloOf
  by_cases h : t.val % 4 = 0
  · rw [if_pos h, dif_pos h]
  · rw [if_neg h, dif_neg h, P_at m c V0 S, cs_kv _ (by simp only []; omega) (by simp only []; omega), mul_one]
    have hp : (prevT t).val = t.val - 1 := rfl
    have hb : (⟨(prevT t).val / 4, by have := lt32 t; omega⟩ : Fin 8) = ⟨t.val / 4, by have := lt32 t; omega⟩ := Fin.ext (by simp only [hp]; omega)
    rw [hb]
    exact ap2 _ (by simp only [hp]; omega) rfl

theorem out_at (t : Fin cfg0.N) (r d : Fin 1024) :
    outB m c t (ix3 0 r d) = outR V0 (ix3 ⟨t.val / 4, by have := lt32 t; omega⟩ ⟨1024 * (t.val % 4) + r.val, by omega⟩ d) := by
  rw [result_at]
  show tileOut (decide (0 < t.val % 4)) (fun r d => (iblk m c 1 t : Vec Ideal S1x1024x1024 .f32) (ix3 0 r d)) (P m c t) (haloOf m 512 (by omega) c t) (haloOf m 640 (by omega) c t)
    (fun h => (iblk m c 0 t : Vec Ideal S8 .f32) (ix1 h)) (fun k => (iblk m c 4 t : Vec Ideal S1x512 .f32) (ix2 0 k)) (fun k => (iblk m c 5 t : Vec Ideal S1x512 .f32) (ix2 0 k)) (swK m c) (sbK m c) (woK m c)
    (fun d => (iblk m c 8 t : Vec Ideal S1x1024 .f32) (ix2 0 d)) (fun d => (iblk m c 9 t : Vec Ideal S1x1024 .f32) (ix2 0 d)) r d = _
  unfold tileOut
  have hm := fun k => mix_at (PR V0 ⟨t.val / 4, by have := lt32 t; omega⟩) (PR_real m c V0 S _) ⟨t.val % 4, by omega⟩ (P m c t) (fun r e s h => (P_at m c V0 S t r e).trans (congrArg (fun s => PR V0 _ s e * cs e) (Fin.ext h.symm))) (haloOf m 512 (by omega) c t) (haloOf m 640 (by omega) c t)
    (halo_is m c V0 S 512 (by omega) (by omega) (by omega) t) (halo_is m c V0 S 640 (by omega) (by omega) (by omega) t)
    (fun k => Cert.ReferenceIdeal.Hand.a4 V0 (ix2 0 k)) (fun k => S.r4 _) (fun k => Cert.ReferenceIdeal.Hand.a5 V0 (ix2 0 k)) (fun k => Cert.ReferenceIdeal.Hand.a6 V0 (ix2 0 k))
    (fun h i t => Cert.ReferenceIdeal.Hand.a7 V0 (ix4 0 h i t)) (fun h i => Cert.ReferenceIdeal.Hand.a8 V0 (ix3 0 h i)) r k ⟨1024 * (t.val % 4) + r.val, by omega⟩ rfl
  have f0 : (fun h => (iblk m c 0 t : Vec Ideal S8 .f32) (ix1 h)) = fun k => Cert.ReferenceIdeal.Hand.a4 V0 (ix2 0 k) := by
    funext k; rw [iblk0, v0_at, S.e4]
  have f4 : (fun k => (iblk m c 4 t : Vec Ideal S1x512 .f32) (ix2 0 k)) = fun k => Cert.ReferenceIdeal.Hand.a5 V0 (ix2 0 k) := by
    funext k; rw [iblk4, v7_at, S.e5]
  have f5 : (fun k => (iblk m c 5 t : Vec Ideal S1x512 .f32) (ix2 0 k)) = fun k => Cert.ReferenceIdeal.Hand.a6 V0 (ix2 0 k) := by
    funext k; rw [iblk5, v9_at, S.e6]
  have f6 : swK m c = fun h i t => if t.val ≤ i.val then Cert.ReferenceIdeal.Hand.a7 V0 (ix4 0 h i t) else 0 := by
    funext h i t; unfold swK tril; rw [v10_at, S.e7]
  have f7 : sbK m c = fun h i => Cert.ReferenceIdeal.Hand.a8 V0 (ix3 0 h i) := by
    funext h i; unfold sbK; rw [v11_at, S.e8]
  have f8 : woK m c = fun k d => Cert.ReferenceIdeal.Hand.a9 V0 (ix3 0 k d) := by
    funext k d; unfold woK; rw [v12_at, S.e9]
  have f9 : (fun d => (iblk m c 8 t : Vec Ideal S1x1024 .f32) (ix2 0 d)) = fun d => Cert.ReferenceIdeal.Hand.a10 V0 (ix2 0 d) := by
    funext d; rw [iblk8, v14_at, S.e10]
  have f10 : (fun d => (iblk m c 9 t : Vec Ideal S1x1024 .f32) (ix2 0 d)) = fun d => Cert.ReferenceIdeal.Hand.a11 V0 (ix1 d) := by
    funext d; rw [iblk9, v15_at, S.e11]
  have fx : (fun d => (iblk m c 1 t : Vec Ideal S1x1024x1024 .f32) (ix3 0 r d)) = fun d => Cert.ReferenceIdeal.Hand.a0 V0 (ix3 ⟨t.val / 4, by have := lt32 t; omega⟩ ⟨1024 * (t.val % 4) + r.val, by omega⟩ d) := by
    funext d
    rw [iblk1, V_main_arg0, S.e0]
  rw [f0, f4, f5, f6, f7, f8, f9, f10]
  exact congrArg₂ (fun X M => lastRow X M _ _ _ d) fx (funext hm)

/-- The kernel's result after the last point is the reference's. -/
theorem arr_eq : (dats m 0 c).arrAt 10 cfg0.N = (outR V0 : Vec Ideal S8x4096x1024 .f32) := by
  refine (dats m 0 c).arrAt_eq_of_covers 10 _ (by decide +kernel) fun t _ y => ?_
  blk_simp
  rw [after0_10, show outB m c t y = _ from out_at m c V0 S t (y 1) (y 2)]
  blk_ext [idx10 t]

omit S in
/-- What the run leaves in the result. -/
theorem result_run (ρ : Dev nD → PrngReg) : θ_run defs (onTc (τ := τ) (main (F := Ideal))) ⟨m, fun _ => 0, ρ⟩ (fun r => ∀ c : Dev nD,
      r.2.mem ((c.tc : Thread nD τ).loc main_v16) = (dats m 0 c).arrAt 10 cfg0.N) :=
  (θ_run defs _ _).mono (fun _ h c => (h.1 c).1 10) (run_main_quiescent m ρ)

end Cert.KernelIdeal.Val

end
-- ==== Proof.PreFin.lean ====
module

public import proofs.«01_k».proof.Pre_finite
public import proofs.«01_k».proof.Proof.IdealMath
public import Idealize.ShloMosaic.Lib.ReduceAll
public import Idealize.ShloMosaic.Lib.Pointwise

@[expose] public section

set_option maxRecDepth 16384

/-! The precondition, opened: the norm's gain, the projection's weight and shift and the sinks are real. -/

noncomputable section

namespace Cert.Pre_finite.Hand

open Cert.Pre_finite Cert.Spec
open Idealize.ShloMosaic

theorem bcast_S_S1x1024 : S_.BroadcastsInDim S1x1024 (![] : Fin 0 → Fin S1x1024.rank) := by decide
theorem reducesTo_S1x1024_S_d0_1 : S1x1024.ReducesTo [0, 1] S_ := by decide
theorem h_S_ : 0 < S_.numel := by decide
theorem bcast_S_S1x1024x2816 : S_.BroadcastsInDim S1x1024x2816 (![] : Fin 0 → Fin S1x1024x2816.rank) := by decide
theorem reducesTo_S1x1024x2816_S_d0_1_2 : S1x1024x2816.ReducesTo [0, 1, 2] S_ := by decide
theorem bcast_S_S1x2816 : S_.BroadcastsInDim S1x2816 (![] : Fin 0 → Fin S1x2816.rank) := by decide
theorem reducesTo_S1x2816_S_d0_1 : S1x2816.ReducesTo [0, 1] S_ := by decide
theorem bcast_S_S1x8 : S_.BroadcastsInDim S1x8 (![] : Fin 0 → Fin S1x8.rank) := by decide
theorem reducesTo_S1x8_S_d0_1 : S1x8.ReducesTo [0, 1] S_ := by decide

theorem facts : Facts where
  bcast_S_S1x1024 := bcast_S_S1x1024
  reducesTo_S1x1024_S_d0_1 := reducesTo_S1x1024_S_d0_1
  h_S_ := h_S_
  bcast_S_S1x1024x2816 := bcast_S_S1x1024x2816
  reducesTo_S1x1024x2816_S_d0_1_2 := reducesTo_S1x1024x2816_S_d0_1_2
  bcast_S_S1x2816 := bcast_S_S1x2816
  reducesTo_S1x2816_S_d0_1 := reducesTo_S1x2816_S_d0_1
  bcast_S_S1x8 := bcast_S_S1x8
  reducesTo_S1x8_S_d0_1 := reducesTo_S1x8_S_d0_1

/-- A value whose magnitude is below the infinite word is real. -/
theorem isR_of_lt (x : EReal) (h : Ideal.cmp .olt (max x (-x)) (Ideal.ofBits .f32 0x7F800000#32) = 1#1) : IsR x := by
  have e : Ideal.ofBits .f32 0x7F800000#32 = ⊤ := by simp [Ideal.ofBits, Ideal.ieee]
  rw [e] at h
  refine IsR.of_ne (fun hx => ?_) (fun hx => ?_)
  · subst hx; simp [Ideal.cmp] at h
  · subst hx; simp [Ideal.cmp] at h

/-- An array all of whose magnitudes compare below the infinite word is real, entry by entry. -/
theorem isR_of_all {s : Shape} {axes : List (Fin s.rank)} (x : FVec Ideal s .f32) (hb : S_.BroadcastsInDim s (![] : Fin 0 → Fin s.rank)) (hr : s.ReducesTo axes S_) (j : S_.Idx)
    (e : Host.reduce IntOp.andi (cmpf .olt (Host.absf x) (broadcastInDim s ![] hb (constant (F := Ideal) S_ .f32 0x7F800000#32))) (constantI S_ 1 1#1) hr h_S_ j = 1#1) (i : s.Idx) : IsR (x i) :=
  isR_of_lt (x i) (Host.reduce_andi_all _ _ _ _ j e i)

theorem reals (x0 : FVec Ideal S8x4096x1024 .f32) (x1 : FVec Ideal S1x1024 .f32) (x2 : FVec Ideal S1x1024x2816 .f32) (x3 : FVec Ideal S1x2816 .f32) (x4 : FVec Ideal S1x8 .f32) (x5 x6 : FVec Ideal S1x512 .f32) (x7 : FVec Ideal S1x8x128x128 .f32) (x8 : FVec Ideal S1x8x128 .f32) (x9 : FVec Ideal S1x1024x1024 .f32) (x10 : FVec Ideal S1x1024 .f32) (x11 : FVec Ideal S1024 .f32)
    (h : @fn facts Ideal _ x0 x1 x2 x3 x4 x5 x6 x7 x8 x9 x10 x11 = fun _ => 1#1) :
    (∀ i, IsR (x1 i)) ∧ (∀ i, IsR (x2 i)) ∧ (∀ i, IsR (x3 i)) ∧ ∀ i, IsR (x4 i) := by
  have j : S_.Idx := Shape.Idx.first h_S_
  have h' := congrFun h j
  unfold fn fn_part1 at h'
  dsimp only at h'
  obtain ⟨h1, h4⟩ := IntOp.andi_eq_one.1 h'
  obtain ⟨h2, h3⟩ := IntOp.andi_eq_one.1 h1
  obtain ⟨h1, h2⟩ := IntOp.andi_eq_one.1 h2
  exact ⟨isR_of_all x1 _ _ j h1, isR_of_all x2 _ _ j h2, isR_of_all x3 _ _ j h3, isR_of_all x4 _ _ j h4⟩

end Cert.Pre_finite.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KFrame
public import proofs.«01_k».proof.Proof.IdealFrame
public import proofs.«01_k».proof.Proof.IdealFinal
public import proofs.«01_k».proof.Proof.PreFin
public import proofs.«01_k».proof.Proof.Gen.ReferenceIdeal.Run
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The reference's frame, from its run. -/
theorem reference_frame : Cert.quiescent_ReferenceIdeal (hReferenceIdeal := Cert.ReferenceIdeal.Gen.facts) := fun m g _ =>
  (θ_run Cert.ReferenceIdeal.defs _ _).mono (fun r h => ⟨fun c => (h c).2,
      Idealize.ShloMosaic.sem_eq_zero_of_no_sems (by decide) r.2⟩) (Cert.ReferenceIdeal.Value.run (F := Ideal) m g)

/-- Where the two programs' arguments agree and the precondition holds, a core's arguments are the same and real. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : @Cert.Pre_KernelIdeal_finite Cert.Pre_finite.Hand.facts m) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.KernelIdeal.Val.Same m c (StableHlo.launchContents m' c) := by
  obtain ⟨h0, h1, h2, h3, h4, h5, h6, h7, h8, h9, h10, h11⟩ := h
  obtain ⟨p1, p2, p3, p4⟩ := Cert.Pre_finite.Hand.reals _ _ _ _ _ _ _ _ _ _ _ _ (hpre c)
  exact ⟨h0, h1, h2, h3, h4, h5, h6, h7, h8, h9, h10, h11,
    fun i => (congrArg Cert.Spec.IsR (congrFun h1 i)).mpr (p1 i), fun i => (congrArg Cert.Spec.IsR (congrFun h2 i)).mpr (p2 i),
    fun i => (congrArg Cert.Spec.IsR (congrFun h3 i)).mpr (p3 i), fun i => (congrArg Cert.Spec.IsR (congrFun h4 i)).mpr (p4 i)⟩

/-- The kernel's result is the reference's. -/
theorem value : Cert.algebraic_KernelIdeal_ReferenceIdeal_pre_finite (hKernelIdeal := Cert.KernelIdeal.Gen.facts) (hReferenceIdeal := Cert.ReferenceIdeal.Gen.facts) (hPre_finite := Cert.Pre_finite.Hand.facts) :=
  fun m g m' g' hpre hag => ⟨fun c => Cert.ReferenceIdeal.Hand.outR (StableHlo.launchContents m' c),
    (θ_run Cert.KernelIdeal.defs _ _).mono (fun _ h c => ⟨(h.1 c).trans (Cert.KernelIdeal.Val.arr_eq m c _ (same m m' hpre c (hag c))), h.2 c⟩)
      (θ_run_and (Cert.KernelIdeal.Val.result_run m g) (Cert.KernelIdeal.Hand.unchanged m g)),
    (θ_run Cert.ReferenceIdeal.defs _ _).mono (fun _ h c => ⟨(h c).1, (h c).2⟩) (Cert.ReferenceIdeal.Value.run (F := Ideal) m' g')⟩

theorem claim : Cert.Claim := ⟨Cert.Kernel.Gen.facts, Cert.KernelIdeal.Gen.facts, Cert.ReferenceIdeal.Gen.facts, Cert.Pre_finite.Hand.facts,
  fun m g _ => Cert.Kernel.Hand.frame (F := Bits) m g,
  fun m g _ => Cert.KernelIdeal.Hand.frame (F := Ideal) m g,
  fun m g _ => Cert.KernelIdeal.Hand.frame (F := Ideal) m g,
  reference_frame,
  fun m g _ => reference_frame m g trivial,
  IdealRules.named_const.statement Cert.KernelIdeal.κ "mask" .f32 0xF149F2CA#32 ⊥ rfl,
  value⟩

end Cert.Proof

end
